-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_finite_mix_in [hPre_finite_mix_in : Cert.Pre_finite_mix_in.Facts] (m : (ℓ : Loc Cert.MixInIdeal.nD Cert.MixInIdeal.τ Cert.MixInIdeal.sig) → Buf (Elt Ideal) ℓ) : Prop :=
  ∀ c : Dev Cert.MixInIdeal.nD,
    (Cert.Pre_finite_mix_in.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4))) = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_finite_mix_in [hPre_finite_mix_in : Cert.Pre_finite_mix_in.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_finite_mix_in.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4))) = (fun _ => 1#1)

def Pre_GradW1 (m : (ℓ : Loc Cert.GradW1.nD Cert.GradW1.τ Cert.GradW1.sig) → Buf (Elt Bits) ℓ) : Prop :=
  True

def Pre_GradW1Ideal (m : (ℓ : Loc Cert.GradW1Ideal.nD Cert.GradW1Ideal.τ Cert.GradW1Ideal.sig) → Buf (Elt Ideal) ℓ) : Prop :=
  True

def Pre_GradW1RefIdeal (m : (ℓ : Loc Cert.GradW1RefIdeal.nD Cert.GradW1RefIdeal.τ Cert.GradW1RefIdeal.sig) → Buf (Elt Ideal) ℓ) : Prop :=
  True

def Pre_GradW2 (m : (ℓ : Loc Cert.GradW2.nD Cert.GradW2.τ Cert.GradW2.sig) → Buf (Elt Bits) ℓ) : Prop :=
  True

def Pre_GradW2Ideal (m : (ℓ : Loc Cert.GradW2Ideal.nD Cert.GradW2Ideal.τ Cert.GradW2Ideal.sig) → Buf (Elt Ideal) ℓ) : Prop :=
  True

def Pre_GradW2RefIdeal (m : (ℓ : Loc Cert.GradW2RefIdeal.nD Cert.GradW2RefIdeal.τ Cert.GradW2RefIdeal.sig) → Buf (Elt Ideal) ℓ) : Prop :=
  True

def Pre_GradWIn (m : (ℓ : Loc Cert.GradWIn.nD Cert.GradWIn.τ Cert.GradWIn.sig) → Buf (Elt Bits) ℓ) : Prop :=
  True

def Pre_GradWInIdeal (m : (ℓ : Loc Cert.GradWInIdeal.nD Cert.GradWInIdeal.τ Cert.GradWInIdeal.sig) → Buf (Elt Ideal) ℓ) : Prop :=
  True

def Pre_GradWInRefIdeal (m : (ℓ : Loc Cert.GradWInRefIdeal.nD Cert.GradWInRefIdeal.τ Cert.GradWInRefIdeal.sig) → Buf (Elt Ideal) ℓ) : Prop :=
  True

def Pre_GradSquare (m : (ℓ : Loc Cert.GradSquare.nD Cert.GradSquare.τ Cert.GradSquare.sig) → Buf (Elt Bits) ℓ) : Prop :=
  True

def Pre_GradSquareIdeal (m : (ℓ : Loc Cert.GradSquareIdeal.nD Cert.GradSquareIdeal.τ Cert.GradSquareIdeal.sig) → Buf (Elt Ideal) ℓ) : Prop :=
  True

def Pre_GradSquareRefIdeal (m : (ℓ : Loc Cert.GradSquareRefIdeal.nD Cert.GradSquareRefIdeal.τ Cert.GradSquareRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_finite_ffn_fwd [hPre_finite_ffn_fwd : Cert.Pre_finite_ffn_fwd.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_finite_ffn_fwd.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4))) = (fun _ => 1#1)

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwdRefIdeal_finite_ffn_fwd [hPre_finite_ffn_fwd : Cert.Pre_finite_ffn_fwd.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_finite_ffn_fwd.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4))) = (fun _ => 1#1)

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossIdeal_finite_ffn_loss [hPre_finite_ffn_loss : Cert.Pre_finite_ffn_loss.Facts] (m : (ℓ : Loc Cert.FfnLossIdeal.nD Cert.FfnLossIdeal.τ Cert.FfnLossIdeal.sig) → Buf (Elt Ideal) ℓ) : Prop :=
  ∀ c : Dev Cert.FfnLossIdeal.nD,
    (Cert.Pre_finite_ffn_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5))) = (fun _ => 1#1)

def Pre_FfnLossRefIdeal (m : (ℓ : Loc Cert.FfnLossRefIdeal.nD Cert.FfnLossRefIdeal.τ Cert.FfnLossRefIdeal.sig) → Buf (Elt Ideal) ℓ) : Prop :=
  True

def Pre_FfnLossRefIdeal_finite_ffn_loss [hPre_finite_ffn_loss : Cert.Pre_finite_ffn_loss.Facts] (m : (ℓ : Loc Cert.FfnLossRefIdeal.nD Cert.FfnLossRefIdeal.τ Cert.FfnLossRefIdeal.sig) → Buf (Elt Ideal) ℓ) : Prop :=
  ∀ c : Dev Cert.FfnLossRefIdeal.nD,
    (Cert.Pre_finite_ffn_loss.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4)) (m ((c.tc : Thread Cert.FfnLossRefIdeal.nD Cert.FfnLossRefIdeal.τ).loc Cert.FfnLossRefIdeal.main_arg5))) = (fun _ => 1#1)

def Pre_MixInFwd (m : (ℓ : Loc Cert.MixInFwd.nD Cert.MixInFwd.τ Cert.MixInFwd.sig) → Buf (Elt Bits) ℓ) : Prop :=
  True

def Pre_MixInFwdIdeal (m : (ℓ : Loc Cert.MixInFwdIdeal.nD Cert.MixInFwdIdeal.τ Cert.MixInFwdIdeal.sig) → Buf (Elt Ideal) ℓ) : Prop :=
  True

def Pre_MixInFwdRefIdeal (m : (ℓ : Loc Cert.MixInFwdRefIdeal.nD Cert.MixInFwdRefIdeal.τ Cert.MixInFwdRefIdeal.sig) → Buf (Elt Ideal) ℓ) : Prop :=
  True

def Pre_MixOutFwd (m : (ℓ : Loc Cert.MixOutFwd.nD Cert.MixOutFwd.τ Cert.MixOutFwd.sig) → Buf (Elt Bits) ℓ) : Prop :=
  True

def Pre_MixOutFwdIdeal (m : (ℓ : Loc Cert.MixOutFwdIdeal.nD Cert.MixOutFwdIdeal.τ Cert.MixOutFwdIdeal.sig) → Buf (Elt Ideal) ℓ) : Prop :=
  True

def Pre_MixOutFwdRefIdeal (m : (ℓ : Loc Cert.MixOutFwdRefIdeal.nD Cert.MixOutFwdRefIdeal.τ Cert.MixOutFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInIdeal_pre_finite_mix_in [hMixInIdeal : Cert.MixInIdeal.Facts] [hPre_finite_mix_in : Cert.Pre_finite_mix_in.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_finite_mix_in m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_MixInRefIdeal_pre_finite_mix_in [hMixInRefIdeal : Cert.MixInRefIdeal.Facts] [hPre_finite_mix_in : Cert.Pre_finite_mix_in.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_finite_mix_in m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_GradW1 [hGradW1 : Cert.GradW1.Facts] : Prop :=
  ∀ (m : (ℓ : Loc Cert.GradW1.nD Cert.GradW1.τ Cert.GradW1.sig) → Buf (Elt Bits) ℓ) (g : Dev Cert.GradW1.nD → PrngReg), Pre_GradW1 m →
    θ_run (Cert.GradW1.defs (F := Bits)) (onTc (τ := Cert.GradW1.τ) (Cert.GradW1.main (F := Bits))) ⟨m, fun _ => 0, g⟩ (fun r => (∀ c : Dev Cert.GradW1.nD,
      r.2.mem ((c.tc : Thread Cert.GradW1.nD Cert.GradW1.τ).loc Cert.GradW1.main_arg0) = m ((c.tc : Thread Cert.GradW1.nD Cert.GradW1.τ).loc Cert.GradW1.main_arg0)
      ∧ r.2.mem ((c.tc : Thread Cert.GradW1.nD Cert.GradW1.τ).loc Cert.GradW1.main_arg1) = m ((c.tc : Thread Cert.GradW1.nD Cert.GradW1.τ).loc Cert.GradW1.main_arg1))
      ∧ r.2.sem = fun _ => 0)

def quiescent_GradW1Ideal [hGradW1Ideal : Cert.GradW1Ideal.Facts] : Prop :=
  ∀ (m : (ℓ : Loc Cert.GradW1Ideal.nD Cert.GradW1Ideal.τ Cert.GradW1Ideal.sig) → Buf (Elt Ideal) ℓ) (g : Dev Cert.GradW1Ideal.nD → PrngReg), Pre_GradW1Ideal m →
    θ_run (Cert.GradW1Ideal.defs (F := Ideal)) (onTc (τ := Cert.GradW1Ideal.τ) (Cert.GradW1Ideal.main (F := Ideal))) ⟨m, fun _ => 0, g⟩ (fun r => (∀ c : Dev Cert.GradW1Ideal.nD,
      r.2.mem ((c.tc : Thread Cert.GradW1Ideal.nD Cert.GradW1Ideal.τ).loc Cert.GradW1Ideal.main_arg0) = m ((c.tc : Thread Cert.GradW1Ideal.nD Cert.GradW1Ideal.τ).loc Cert.GradW1Ideal.main_arg0)
      ∧ r.2.mem ((c.tc : Thread Cert.GradW1Ideal.nD Cert.GradW1Ideal.τ).loc Cert.GradW1Ideal.main_arg1) = m ((c.tc : Thread Cert.GradW1Ideal.nD Cert.GradW1Ideal.τ).loc Cert.GradW1Ideal.main_arg1))
      ∧ r.2.sem = fun _ => 0)

def quiescent_GradW1RefIdeal [hGradW1RefIdeal : Cert.GradW1RefIdeal.Facts] : Prop :=
  ∀ (m : (ℓ : Loc Cert.GradW1RefIdeal.nD Cert.GradW1RefIdeal.τ Cert.GradW1RefIdeal.sig) → Buf (Elt Ideal) ℓ) (g : Dev Cert.GradW1RefIdeal.nD → PrngReg), Pre_GradW1RefIdeal m →
    θ_run (Cert.GradW1RefIdeal.defs (F := Ideal)) (onTc (τ := Cert.GradW1RefIdeal.τ) (Cert.GradW1RefIdeal.main (F := Ideal))) ⟨m, fun _ => 0, g⟩ (fun r => (∀ c : Dev Cert.GradW1RefIdeal.nD,
      r.2.mem ((c.tc : Thread Cert.GradW1RefIdeal.nD Cert.GradW1RefIdeal.τ).loc Cert.GradW1RefIdeal.main_arg0) = m ((c.tc : Thread Cert.GradW1RefIdeal.nD Cert.GradW1RefIdeal.τ).loc Cert.GradW1RefIdeal.main_arg0)
      ∧ r.2.mem ((c.tc : Thread Cert.GradW1RefIdeal.nD Cert.GradW1RefIdeal.τ).loc Cert.GradW1RefIdeal.main_arg1) = m ((c.tc : Thread Cert.GradW1RefIdeal.nD Cert.GradW1RefIdeal.τ).loc Cert.GradW1RefIdeal.main_arg1))
      ∧ r.2.sem = fun _ => 0)

def quiescent_GradW2 [hGradW2 : Cert.GradW2.Facts] : Prop :=
  ∀ (m : (ℓ : Loc Cert.GradW2.nD Cert.GradW2.τ Cert.GradW2.sig) → Buf (Elt Bits) ℓ) (g : Dev Cert.GradW2.nD → PrngReg), Pre_GradW2 m →
    θ_run (Cert.GradW2.defs (F := Bits)) (onTc (τ := Cert.GradW2.τ) (Cert.GradW2.main (F := Bits))) ⟨m, fun _ => 0, g⟩ (fun r => (∀ c : Dev Cert.GradW2.nD,
      r.2.mem ((c.tc : Thread Cert.GradW2.nD Cert.GradW2.τ).loc Cert.GradW2.main_arg0) = m ((c.tc : Thread Cert.GradW2.nD Cert.GradW2.τ).loc Cert.GradW2.main_arg0)
      ∧ r.2.mem ((c.tc : Thread Cert.GradW2.nD Cert.GradW2.τ).loc Cert.GradW2.main_arg1) = m ((c.tc : Thread Cert.GradW2.nD Cert.GradW2.τ).loc Cert.GradW2.main_arg1))
      ∧ r.2.sem = fun _ => 0)

def quiescent_GradW2Ideal [hGradW2Ideal : Cert.GradW2Ideal.Facts] : Prop :=
  ∀ (m : (ℓ : Loc Cert.GradW2Ideal.nD Cert.GradW2Ideal.τ Cert.GradW2Ideal.sig) → Buf (Elt Ideal) ℓ) (g : Dev Cert.GradW2Ideal.nD → PrngReg), Pre_GradW2Ideal m →
    θ_run (Cert.GradW2Ideal.defs (F := Ideal)) (onTc (τ := Cert.GradW2Ideal.τ) (Cert.GradW2Ideal.main (F := Ideal))) ⟨m, fun _ => 0, g⟩ (fun r => (∀ c : Dev Cert.GradW2Ideal.nD,
      r.2.mem ((c.tc : Thread Cert.GradW2Ideal.nD Cert.GradW2Ideal.τ).loc Cert.GradW2Ideal.main_arg0) = m ((c.tc : Thread Cert.GradW2Ideal.nD Cert.GradW2Ideal.τ).loc Cert.GradW2Ideal.main_arg0)
      ∧ r.2.mem ((c.tc : Thread Cert.GradW2Ideal.nD Cert.GradW2Ideal.τ).loc Cert.GradW2Ideal.main_arg1) = m ((c.tc : Thread Cert.GradW2Ideal.nD Cert.GradW2Ideal.τ).loc Cert.GradW2Ideal.main_arg1))
      ∧ r.2.sem = fun _ => 0)

def quiescent_GradW2RefIdeal [hGradW2RefIdeal : Cert.GradW2RefIdeal.Facts] : Prop :=
  ∀ (m : (ℓ : Loc Cert.GradW2RefIdeal.nD Cert.GradW2RefIdeal.τ Cert.GradW2RefIdeal.sig) → Buf (Elt Ideal) ℓ) (g : Dev Cert.GradW2RefIdeal.nD → PrngReg), Pre_GradW2RefIdeal m →
    θ_run (Cert.GradW2RefIdeal.defs (F := Ideal)) (onTc (τ := Cert.GradW2RefIdeal.τ) (Cert.GradW2RefIdeal.main (F := Ideal))) ⟨m, fun _ => 0, g⟩ (fun r => (∀ c : Dev Cert.GradW2RefIdeal.nD,
      r.2.mem ((c.tc : Thread Cert.GradW2RefIdeal.nD Cert.GradW2RefIdeal.τ).loc Cert.GradW2RefIdeal.main_arg0) = m ((c.tc : Thread Cert.GradW2RefIdeal.nD Cert.GradW2RefIdeal.τ).loc Cert.GradW2RefIdeal.main_arg0)
      ∧ r.2.mem ((c.tc : Thread Cert.GradW2RefIdeal.nD Cert.GradW2RefIdeal.τ).loc Cert.GradW2RefIdeal.main_arg1) = m ((c.tc : Thread Cert.GradW2RefIdeal.nD Cert.GradW2RefIdeal.τ).loc Cert.GradW2RefIdeal.main_arg1))
      ∧ r.2.sem = fun _ => 0)

def quiescent_GradWIn [hGradWIn : Cert.GradWIn.Facts] : Prop :=
  ∀ (m : (ℓ : Loc Cert.GradWIn.nD Cert.GradWIn.τ Cert.GradWIn.sig) → Buf (Elt Bits) ℓ) (g : Dev Cert.GradWIn.nD → PrngReg), Pre_GradWIn m →
    θ_run (Cert.GradWIn.defs (F := Bits)) (onTc (τ := Cert.GradWIn.τ) (Cert.GradWIn.main (F := Bits))) ⟨m, fun _ => 0, g⟩ (fun r => (∀ c : Dev Cert.GradWIn.nD,
      r.2.mem ((c.tc : Thread Cert.GradWIn.nD Cert.GradWIn.τ).loc Cert.GradWIn.main_arg0) = m ((c.tc : Thread Cert.GradWIn.nD Cert.GradWIn.τ).loc Cert.GradWIn.main_arg0)
      ∧ r.2.mem ((c.tc : Thread Cert.GradWIn.nD Cert.GradWIn.τ).loc Cert.GradWIn.main_arg1) = m ((c.tc : Thread Cert.GradWIn.nD Cert.GradWIn.τ).loc Cert.GradWIn.main_arg1))
      ∧ r.2.sem = fun _ => 0)

def quiescent_GradWInIdeal [hGradWInIdeal : Cert.GradWInIdeal.Facts] : Prop :=
  ∀ (m : (ℓ : Loc Cert.GradWInIdeal.nD Cert.GradWInIdeal.τ Cert.GradWInIdeal.sig) → Buf (Elt Ideal) ℓ) (g : Dev Cert.GradWInIdeal.nD → PrngReg), Pre_GradWInIdeal m →
    θ_run (Cert.GradWInIdeal.defs (F := Ideal)) (onTc (τ := Cert.GradWInIdeal.τ) (Cert.GradWInIdeal.main (F := Ideal))) ⟨m, fun _ => 0, g⟩ (fun r => (∀ c : Dev Cert.GradWInIdeal.nD,
      r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
      ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1))
      ∧ r.2.sem = fun _ => 0)

def quiescent_GradWInRefIdeal [hGradWInRefIdeal : Cert.GradWInRefIdeal.Facts] : Prop :=
  ∀ (m : (ℓ : Loc Cert.GradWInRefIdeal.nD Cert.GradWInRefIdeal.τ Cert.GradWInRefIdeal.sig) → Buf (Elt Ideal) ℓ) (g : Dev Cert.GradWInRefIdeal.nD → PrngReg), Pre_GradWInRefIdeal m →
    θ_run (Cert.GradWInRefIdeal.defs (F := Ideal)) (onTc (τ := Cert.GradWInRefIdeal.τ) (Cert.GradWInRefIdeal.main (F := Ideal))) ⟨m, fun _ => 0, g⟩ (fun r => (∀ c : Dev Cert.GradWInRefIdeal.nD,
      r.2.mem ((c.tc : Thread Cert.GradWInRefIdeal.nD Cert.GradWInRefIdeal.τ).loc Cert.GradWInRefIdeal.main_arg0) = m ((c.tc : Thread Cert.GradWInRefIdeal.nD Cert.GradWInRefIdeal.τ).loc Cert.GradWInRefIdeal.main_arg0)
      ∧ r.2.mem ((c.tc : Thread Cert.GradWInRefIdeal.nD Cert.GradWInRefIdeal.τ).loc Cert.GradWInRefIdeal.main_arg1) = m ((c.tc : Thread Cert.GradWInRefIdeal.nD Cert.GradWInRefIdeal.τ).loc Cert.GradWInRefIdeal.main_arg1))
      ∧ r.2.sem = fun _ => 0)

def quiescent_GradSquare [hGradSquare : Cert.GradSquare.Facts] : Prop :=
  ∀ (m : (ℓ : Loc Cert.GradSquare.nD Cert.GradSquare.τ Cert.GradSquare.sig) → Buf (Elt Bits) ℓ) (g : Dev Cert.GradSquare.nD → PrngReg), Pre_GradSquare m →
    θ_run (Cert.GradSquare.defs (F := Bits)) (onTc (τ := Cert.GradSquare.τ) (Cert.GradSquare.main (F := Bits))) ⟨m, fun _ => 0, g⟩ (fun r => (∀ c : Dev Cert.GradSquare.nD,
      r.2.mem ((c.tc : Thread Cert.GradSquare.nD Cert.GradSquare.τ).loc Cert.GradSquare.main_arg0) = m ((c.tc : Thread Cert.GradSquare.nD Cert.GradSquare.τ).loc Cert.GradSquare.main_arg0)
      ∧ r.2.mem ((c.tc : Thread Cert.GradSquare.nD Cert.GradSquare.τ).loc Cert.GradSquare.main_arg1) = m ((c.tc : Thread Cert.GradSquare.nD Cert.GradSquare.τ).loc Cert.GradSquare.main_arg1))
      ∧ r.2.sem = fun _ => 0)

def quiescent_GradSquareIdeal [hGradSquareIdeal : Cert.GradSquareIdeal.Facts] : Prop :=
  ∀ (m : (ℓ : Loc Cert.GradSquareIdeal.nD Cert.GradSquareIdeal.τ Cert.GradSquareIdeal.sig) → Buf (Elt Ideal) ℓ) (g : Dev Cert.GradSquareIdeal.nD → PrngReg), Pre_GradSquareIdeal m →
    θ_run (Cert.GradSquareIdeal.defs (F := Ideal)) (onTc (τ := Cert.GradSquareIdeal.τ) (Cert.GradSquareIdeal.main (F := Ideal))) ⟨m, fun _ => 0, g⟩ (fun r => (∀ c : Dev Cert.GradSquareIdeal.nD,
      r.2.mem ((c.tc : Thread Cert.GradSquareIdeal.nD Cert.GradSquareIdeal.τ).loc Cert.GradSquareIdeal.main_arg0) = m ((c.tc : Thread Cert.GradSquareIdeal.nD Cert.GradSquareIdeal.τ).loc Cert.GradSquareIdeal.main_arg0)
      ∧ r.2.mem ((c.tc : Thread Cert.GradSquareIdeal.nD Cert.GradSquareIdeal.τ).loc Cert.GradSquareIdeal.main_arg1) = m ((c.tc : Thread Cert.GradSquareIdeal.nD Cert.GradSquareIdeal.τ).loc Cert.GradSquareIdeal.main_arg1))
      ∧ r.2.sem = fun _ => 0)

def quiescent_GradSquareRefIdeal [hGradSquareRefIdeal : Cert.GradSquareRefIdeal.Facts] : Prop :=
  ∀ (m : (ℓ : Loc Cert.GradSquareRefIdeal.nD Cert.GradSquareRefIdeal.τ Cert.GradSquareRefIdeal.sig) → Buf (Elt Ideal) ℓ) (g : Dev Cert.GradSquareRefIdeal.nD → PrngReg), Pre_GradSquareRefIdeal m →
    θ_run (Cert.GradSquareRefIdeal.defs (F := Ideal)) (onTc (τ := Cert.GradSquareRefIdeal.τ) (Cert.GradSquareRefIdeal.main (F := Ideal))) ⟨m, fun _ => 0, g⟩ (fun r => (∀ c : Dev Cert.GradSquareRefIdeal.nD,
      r.2.mem ((c.tc : Thread Cert.GradSquareRefIdeal.nD Cert.GradSquareRefIdeal.τ).loc Cert.GradSquareRefIdeal.main_arg0) = m ((c.tc : Thread Cert.GradSquareRefIdeal.nD Cert.GradSquareRefIdeal.τ).loc Cert.GradSquareRefIdeal.main_arg0)
      ∧ r.2.mem ((c.tc : Thread Cert.GradSquareRefIdeal.nD Cert.GradSquareRefIdeal.τ).loc Cert.GradSquareRefIdeal.main_arg1) = m ((c.tc : Thread Cert.GradSquareRefIdeal.nD Cert.GradSquareRefIdeal.τ).loc Cert.GradSquareRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdIdeal_pre_finite_ffn_fwd [hFfnFwdIdeal : Cert.FfnFwdIdeal.Facts] [hPre_finite_ffn_fwd : Cert.Pre_finite_ffn_fwd.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_finite_ffn_fwd m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_FfnFwdRefIdeal_pre_finite_ffn_fwd [hFfnFwdRefIdeal : Cert.FfnFwdRefIdeal.Facts] [hPre_finite_ffn_fwd : Cert.Pre_finite_ffn_fwd.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal_finite_ffn_fwd m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3)
      ∧ r.2.mem ((c.tc : Thread Cert.FfnLoss.nD Cert.FfnLoss.τ).loc Cert.FfnLoss.main_arg4) = m ((c.tc : Thread Cert.FfnLoss.nD Cert.FfnLoss.τ).loc Cert.FfnLoss.main_arg4)
      ∧ r.2.mem ((c.tc : Thread Cert.FfnLoss.nD Cert.FfnLoss.τ).loc Cert.FfnLoss.main_arg5) = m ((c.tc : Thread Cert.FfnLoss.nD Cert.FfnLoss.τ).loc Cert.FfnLoss.main_arg5))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5))
      ∧ r.2.sem = fun _ => 0)

def quiescent_FfnLossIdeal_pre_finite_ffn_loss [hFfnLossIdeal : Cert.FfnLossIdeal.Facts] [hPre_finite_ffn_loss : Cert.Pre_finite_ffn_loss.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal_finite_ffn_loss m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5))
      ∧ r.2.sem = fun _ => 0)

def quiescent_FfnLossRefIdeal [hFfnLossRefIdeal : Cert.FfnLossRefIdeal.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4)
      ∧ r.2.mem ((c.tc : Thread Cert.FfnLossRefIdeal.nD Cert.FfnLossRefIdeal.τ).loc Cert.FfnLossRefIdeal.main_arg5) = m ((c.tc : Thread Cert.FfnLossRefIdeal.nD Cert.FfnLossRefIdeal.τ).loc Cert.FfnLossRefIdeal.main_arg5))
      ∧ r.2.sem = fun _ => 0)

def quiescent_FfnLossRefIdeal_pre_finite_ffn_loss [hFfnLossRefIdeal : Cert.FfnLossRefIdeal.Facts] [hPre_finite_ffn_loss : Cert.Pre_finite_ffn_loss.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal_finite_ffn_loss m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4)
      ∧ r.2.mem ((c.tc : Thread Cert.FfnLossRefIdeal.nD Cert.FfnLossRefIdeal.τ).loc Cert.FfnLossRefIdeal.main_arg5) = m ((c.tc : Thread Cert.FfnLossRefIdeal.nD Cert.FfnLossRefIdeal.τ).loc Cert.FfnLossRefIdeal.main_arg5))
      ∧ r.2.sem = fun _ => 0)

def quiescent_MixInFwd [hMixInFwd : Cert.MixInFwd.Facts] : Prop :=
  ∀ (m : (ℓ : Loc Cert.MixInFwd.nD Cert.MixInFwd.τ Cert.MixInFwd.sig) → Buf (Elt Bits) ℓ) (g : Dev Cert.MixInFwd.nD → PrngReg), Pre_MixInFwd m →
    θ_run (Cert.MixInFwd.defs (F := Bits)) (onTc (τ := Cert.MixInFwd.τ) (Cert.MixInFwd.main (F := Bits))) ⟨m, fun _ => 0, g⟩ (fun r => (∀ c : Dev Cert.MixInFwd.nD,
      r.2.mem ((c.tc : Thread Cert.MixInFwd.nD Cert.MixInFwd.τ).loc Cert.MixInFwd.main_arg0) = m ((c.tc : Thread Cert.MixInFwd.nD Cert.MixInFwd.τ).loc Cert.MixInFwd.main_arg0)
      ∧ r.2.mem ((c.tc : Thread Cert.MixInFwd.nD Cert.MixInFwd.τ).loc Cert.MixInFwd.main_arg1) = m ((c.tc : Thread Cert.MixInFwd.nD Cert.MixInFwd.τ).loc Cert.MixInFwd.main_arg1)
      ∧ r.2.mem ((c.tc : Thread Cert.MixInFwd.nD Cert.MixInFwd.τ).loc Cert.MixInFwd.main_arg2) = m ((c.tc : Thread Cert.MixInFwd.nD Cert.MixInFwd.τ).loc Cert.MixInFwd.main_arg2))
      ∧ r.2.sem = fun _ => 0)

def quiescent_MixInFwdIdeal [hMixInFwdIdeal : Cert.MixInFwdIdeal.Facts] : Prop :=
  ∀ (m : (ℓ : Loc Cert.MixInFwdIdeal.nD Cert.MixInFwdIdeal.τ Cert.MixInFwdIdeal.sig) → Buf (Elt Ideal) ℓ) (g : Dev Cert.MixInFwdIdeal.nD → PrngReg), Pre_MixInFwdIdeal m →
    θ_run (Cert.MixInFwdIdeal.defs (F := Ideal)) (onTc (τ := Cert.MixInFwdIdeal.τ) (Cert.MixInFwdIdeal.main (F := Ideal))) ⟨m, fun _ => 0, g⟩ (fun r => (∀ c : Dev Cert.MixInFwdIdeal.nD,
      r.2.mem ((c.tc : Thread Cert.MixInFwdIdeal.nD Cert.MixInFwdIdeal.τ).loc Cert.MixInFwdIdeal.main_arg0) = m ((c.tc : Thread Cert.MixInFwdIdeal.nD Cert.MixInFwdIdeal.τ).loc Cert.MixInFwdIdeal.main_arg0)
      ∧ r.2.mem ((c.tc : Thread Cert.MixInFwdIdeal.nD Cert.MixInFwdIdeal.τ).loc Cert.MixInFwdIdeal.main_arg1) = m ((c.tc : Thread Cert.MixInFwdIdeal.nD Cert.MixInFwdIdeal.τ).loc Cert.MixInFwdIdeal.main_arg1)
      ∧ r.2.mem ((c.tc : Thread Cert.MixInFwdIdeal.nD Cert.MixInFwdIdeal.τ).loc Cert.MixInFwdIdeal.main_arg2) = m ((c.tc : Thread Cert.MixInFwdIdeal.nD Cert.MixInFwdIdeal.τ).loc Cert.MixInFwdIdeal.main_arg2))
      ∧ r.2.sem = fun _ => 0)

def quiescent_MixInFwdRefIdeal [hMixInFwdRefIdeal : Cert.MixInFwdRefIdeal.Facts] : Prop :=
  ∀ (m : (ℓ : Loc Cert.MixInFwdRefIdeal.nD Cert.MixInFwdRefIdeal.τ Cert.MixInFwdRefIdeal.sig) → Buf (Elt Ideal) ℓ) (g : Dev Cert.MixInFwdRefIdeal.nD → PrngReg), Pre_MixInFwdRefIdeal m →
    θ_run (Cert.MixInFwdRefIdeal.defs (F := Ideal)) (onTc (τ := Cert.MixInFwdRefIdeal.τ) (Cert.MixInFwdRefIdeal.main (F := Ideal))) ⟨m, fun _ => 0, g⟩ (fun r => (∀ c : Dev Cert.MixInFwdRefIdeal.nD,
      r.2.mem ((c.tc : Thread Cert.MixInFwdRefIdeal.nD Cert.MixInFwdRefIdeal.τ).loc Cert.MixInFwdRefIdeal.main_arg0) = m ((c.tc : Thread Cert.MixInFwdRefIdeal.nD Cert.MixInFwdRefIdeal.τ).loc Cert.MixInFwdRefIdeal.main_arg0)
      ∧ r.2.mem ((c.tc : Thread Cert.MixInFwdRefIdeal.nD Cert.MixInFwdRefIdeal.τ).loc Cert.MixInFwdRefIdeal.main_arg1) = m ((c.tc : Thread Cert.MixInFwdRefIdeal.nD Cert.MixInFwdRefIdeal.τ).loc Cert.MixInFwdRefIdeal.main_arg1)
      ∧ r.2.mem ((c.tc : Thread Cert.MixInFwdRefIdeal.nD Cert.MixInFwdRefIdeal.τ).loc Cert.MixInFwdRefIdeal.main_arg2) = m ((c.tc : Thread Cert.MixInFwdRefIdeal.nD Cert.MixInFwdRefIdeal.τ).loc Cert.MixInFwdRefIdeal.main_arg2))
      ∧ r.2.sem = fun _ => 0)

def quiescent_MixOutFwd [hMixOutFwd : Cert.MixOutFwd.Facts] : Prop :=
  ∀ (m : (ℓ : Loc Cert.MixOutFwd.nD Cert.MixOutFwd.τ Cert.MixOutFwd.sig) → Buf (Elt Bits) ℓ) (g : Dev Cert.MixOutFwd.nD → PrngReg), Pre_MixOutFwd m →
    θ_run (Cert.MixOutFwd.defs (F := Bits)) (onTc (τ := Cert.MixOutFwd.τ) (Cert.MixOutFwd.main (F := Bits))) ⟨m, fun _ => 0, g⟩ (fun r => (∀ c : Dev Cert.MixOutFwd.nD,
      r.2.mem ((c.tc : Thread Cert.MixOutFwd.nD Cert.MixOutFwd.τ).loc Cert.MixOutFwd.main_arg0) = m ((c.tc : Thread Cert.MixOutFwd.nD Cert.MixOutFwd.τ).loc Cert.MixOutFwd.main_arg0)
      ∧ r.2.mem ((c.tc : Thread Cert.MixOutFwd.nD Cert.MixOutFwd.τ).loc Cert.MixOutFwd.main_arg1) = m ((c.tc : Thread Cert.MixOutFwd.nD Cert.MixOutFwd.τ).loc Cert.MixOutFwd.main_arg1)
      ∧ r.2.mem ((c.tc : Thread Cert.MixOutFwd.nD Cert.MixOutFwd.τ).loc Cert.MixOutFwd.main_arg2) = m ((c.tc : Thread Cert.MixOutFwd.nD Cert.MixOutFwd.τ).loc Cert.MixOutFwd.main_arg2)
      ∧ r.2.mem ((c.tc : Thread Cert.MixOutFwd.nD Cert.MixOutFwd.τ).loc Cert.MixOutFwd.main_arg3) = m ((c.tc : Thread Cert.MixOutFwd.nD Cert.MixOutFwd.τ).loc Cert.MixOutFwd.main_arg3)
      ∧ r.2.mem ((c.tc : Thread Cert.MixOutFwd.nD Cert.MixOutFwd.τ).loc Cert.MixOutFwd.main_arg4) = m ((c.tc : Thread Cert.MixOutFwd.nD Cert.MixOutFwd.τ).loc Cert.MixOutFwd.main_arg4)
      ∧ r.2.mem ((c.tc : Thread Cert.MixOutFwd.nD Cert.MixOutFwd.τ).loc Cert.MixOutFwd.main_arg5) = m ((c.tc : Thread Cert.MixOutFwd.nD Cert.MixOutFwd.τ).loc Cert.MixOutFwd.main_arg5)
      ∧ r.2.mem ((c.tc : Thread Cert.MixOutFwd.nD Cert.MixOutFwd.τ).loc Cert.MixOutFwd.main_arg6) = m ((c.tc : Thread Cert.MixOutFwd.nD Cert.MixOutFwd.τ).loc Cert.MixOutFwd.main_arg6)
      ∧ r.2.mem ((c.tc : Thread Cert.MixOutFwd.nD Cert.MixOutFwd.τ).loc Cert.MixOutFwd.main_arg7) = m ((c.tc : Thread Cert.MixOutFwd.nD Cert.MixOutFwd.τ).loc Cert.MixOutFwd.main_arg7)
      ∧ r.2.mem ((c.tc : Thread Cert.MixOutFwd.nD Cert.MixOutFwd.τ).loc Cert.MixOutFwd.main_arg8) = m ((c.tc : Thread Cert.MixOutFwd.nD Cert.MixOutFwd.τ).loc Cert.MixOutFwd.main_arg8)
      ∧ r.2.mem ((c.tc : Thread Cert.MixOutFwd.nD Cert.MixOutFwd.τ).loc Cert.MixOutFwd.main_arg9) = m ((c.tc : Thread Cert.MixOutFwd.nD Cert.MixOutFwd.τ).loc Cert.MixOutFwd.main_arg9)
      ∧ r.2.mem ((c.tc : Thread Cert.MixOutFwd.nD Cert.MixOutFwd.τ).loc Cert.MixOutFwd.main_arg10) = m ((c.tc : Thread Cert.MixOutFwd.nD Cert.MixOutFwd.τ).loc Cert.MixOutFwd.main_arg10))
      ∧ r.2.sem = fun _ => 0)

def quiescent_MixOutFwdIdeal [hMixOutFwdIdeal : Cert.MixOutFwdIdeal.Facts] : Prop :=
  ∀ (m : (ℓ : Loc Cert.MixOutFwdIdeal.nD Cert.MixOutFwdIdeal.τ Cert.MixOutFwdIdeal.sig) → Buf (Elt Ideal) ℓ) (g : Dev Cert.MixOutFwdIdeal.nD → PrngReg), Pre_MixOutFwdIdeal m →
    θ_run (Cert.MixOutFwdIdeal.defs (F := Ideal)) (onTc (τ := Cert.MixOutFwdIdeal.τ) (Cert.MixOutFwdIdeal.main (F := Ideal))) ⟨m, fun _ => 0, g⟩ (fun r => (∀ c : Dev Cert.MixOutFwdIdeal.nD,
      r.2.mem ((c.tc : Thread Cert.MixOutFwdIdeal.nD Cert.MixOutFwdIdeal.τ).loc Cert.MixOutFwdIdeal.main_arg0) = m ((c.tc : Thread Cert.MixOutFwdIdeal.nD Cert.MixOutFwdIdeal.τ).loc Cert.MixOutFwdIdeal.main_arg0)
      ∧ r.2.mem ((c.tc : Thread Cert.MixOutFwdIdeal.nD Cert.MixOutFwdIdeal.τ).loc Cert.MixOutFwdIdeal.main_arg1) = m ((c.tc : Thread Cert.MixOutFwdIdeal.nD Cert.MixOutFwdIdeal.τ).loc Cert.MixOutFwdIdeal.main_arg1)
      ∧ r.2.mem ((c.tc : Thread Cert.MixOutFwdIdeal.nD Cert.MixOutFwdIdeal.τ).loc Cert.MixOutFwdIdeal.main_arg2) = m ((c.tc : Thread Cert.MixOutFwdIdeal.nD Cert.MixOutFwdIdeal.τ).loc Cert.MixOutFwdIdeal.main_arg2)
      ∧ r.2.mem ((c.tc : Thread Cert.MixOutFwdIdeal.nD Cert.MixOutFwdIdeal.τ).loc Cert.MixOutFwdIdeal.main_arg3) = m ((c.tc : Thread Cert.MixOutFwdIdeal.nD Cert.MixOutFwdIdeal.τ).loc Cert.MixOutFwdIdeal.main_arg3)
      ∧ r.2.mem ((c.tc : Thread Cert.MixOutFwdIdeal.nD Cert.MixOutFwdIdeal.τ).loc Cert.MixOutFwdIdeal.main_arg4) = m ((c.tc : Thread Cert.MixOutFwdIdeal.nD Cert.MixOutFwdIdeal.τ).loc Cert.MixOutFwdIdeal.main_arg4)
      ∧ r.2.mem ((c.tc : Thread Cert.MixOutFwdIdeal.nD Cert.MixOutFwdIdeal.τ).loc Cert.MixOutFwdIdeal.main_arg5) = m ((c.tc : Thread Cert.MixOutFwdIdeal.nD Cert.MixOutFwdIdeal.τ).loc Cert.MixOutFwdIdeal.main_arg5)
      ∧ r.2.mem ((c.tc : Thread Cert.MixOutFwdIdeal.nD Cert.MixOutFwdIdeal.τ).loc Cert.MixOutFwdIdeal.main_arg6) = m ((c.tc : Thread Cert.MixOutFwdIdeal.nD Cert.MixOutFwdIdeal.τ).loc Cert.MixOutFwdIdeal.main_arg6)
      ∧ r.2.mem ((c.tc : Thread Cert.MixOutFwdIdeal.nD Cert.MixOutFwdIdeal.τ).loc Cert.MixOutFwdIdeal.main_arg7) = m ((c.tc : Thread Cert.MixOutFwdIdeal.nD Cert.MixOutFwdIdeal.τ).loc Cert.MixOutFwdIdeal.main_arg7)
      ∧ r.2.mem ((c.tc : Thread Cert.MixOutFwdIdeal.nD Cert.MixOutFwdIdeal.τ).loc Cert.MixOutFwdIdeal.main_arg8) = m ((c.tc : Thread Cert.MixOutFwdIdeal.nD Cert.MixOutFwdIdeal.τ).loc Cert.MixOutFwdIdeal.main_arg8)
      ∧ r.2.mem ((c.tc : Thread Cert.MixOutFwdIdeal.nD Cert.MixOutFwdIdeal.τ).loc Cert.MixOutFwdIdeal.main_arg9) = m ((c.tc : Thread Cert.MixOutFwdIdeal.nD Cert.MixOutFwdIdeal.τ).loc Cert.MixOutFwdIdeal.main_arg9)
      ∧ r.2.mem ((c.tc : Thread Cert.MixOutFwdIdeal.nD Cert.MixOutFwdIdeal.τ).loc Cert.MixOutFwdIdeal.main_arg10) = m ((c.tc : Thread Cert.MixOutFwdIdeal.nD Cert.MixOutFwdIdeal.τ).loc Cert.MixOutFwdIdeal.main_arg10))
      ∧ r.2.sem = fun _ => 0)

def quiescent_MixOutFwdRefIdeal [hMixOutFwdRefIdeal : Cert.MixOutFwdRefIdeal.Facts] : Prop :=
  ∀ (m : (ℓ : Loc Cert.MixOutFwdRefIdeal.nD Cert.MixOutFwdRefIdeal.τ Cert.MixOutFwdRefIdeal.sig) → Buf (Elt Ideal) ℓ) (g : Dev Cert.MixOutFwdRefIdeal.nD → PrngReg), Pre_MixOutFwdRefIdeal m →
    θ_run (Cert.MixOutFwdRefIdeal.defs (F := Ideal)) (onTc (τ := Cert.MixOutFwdRefIdeal.τ) (Cert.MixOutFwdRefIdeal.main (F := Ideal))) ⟨m, fun _ => 0, g⟩ (fun r => (∀ c : Dev Cert.MixOutFwdRefIdeal.nD,
      r.2.mem ((c.tc : Thread Cert.MixOutFwdRefIdeal.nD Cert.MixOutFwdRefIdeal.τ).loc Cert.MixOutFwdRefIdeal.main_arg0) = m ((c.tc : Thread Cert.MixOutFwdRefIdeal.nD Cert.MixOutFwdRefIdeal.τ).loc Cert.MixOutFwdRefIdeal.main_arg0)
      ∧ r.2.mem ((c.tc : Thread Cert.MixOutFwdRefIdeal.nD Cert.MixOutFwdRefIdeal.τ).loc Cert.MixOutFwdRefIdeal.main_arg1) = m ((c.tc : Thread Cert.MixOutFwdRefIdeal.nD Cert.MixOutFwdRefIdeal.τ).loc Cert.MixOutFwdRefIdeal.main_arg1)
      ∧ r.2.mem ((c.tc : Thread Cert.MixOutFwdRefIdeal.nD Cert.MixOutFwdRefIdeal.τ).loc Cert.MixOutFwdRefIdeal.main_arg2) = m ((c.tc : Thread Cert.MixOutFwdRefIdeal.nD Cert.MixOutFwdRefIdeal.τ).loc Cert.MixOutFwdRefIdeal.main_arg2)
      ∧ r.2.mem ((c.tc : Thread Cert.MixOutFwdRefIdeal.nD Cert.MixOutFwdRefIdeal.τ).loc Cert.MixOutFwdRefIdeal.main_arg3) = m ((c.tc : Thread Cert.MixOutFwdRefIdeal.nD Cert.MixOutFwdRefIdeal.τ).loc Cert.MixOutFwdRefIdeal.main_arg3)
      ∧ r.2.mem ((c.tc : Thread Cert.MixOutFwdRefIdeal.nD Cert.MixOutFwdRefIdeal.τ).loc Cert.MixOutFwdRefIdeal.main_arg4) = m ((c.tc : Thread Cert.MixOutFwdRefIdeal.nD Cert.MixOutFwdRefIdeal.τ).loc Cert.MixOutFwdRefIdeal.main_arg4)
      ∧ r.2.mem ((c.tc : Thread Cert.MixOutFwdRefIdeal.nD Cert.MixOutFwdRefIdeal.τ).loc Cert.MixOutFwdRefIdeal.main_arg5) = m ((c.tc : Thread Cert.MixOutFwdRefIdeal.nD Cert.MixOutFwdRefIdeal.τ).loc Cert.MixOutFwdRefIdeal.main_arg5)
      ∧ r.2.mem ((c.tc : Thread Cert.MixOutFwdRefIdeal.nD Cert.MixOutFwdRefIdeal.τ).loc Cert.MixOutFwdRefIdeal.main_arg6) = m ((c.tc : Thread Cert.MixOutFwdRefIdeal.nD Cert.MixOutFwdRefIdeal.τ).loc Cert.MixOutFwdRefIdeal.main_arg6)
      ∧ r.2.mem ((c.tc : Thread Cert.MixOutFwdRefIdeal.nD Cert.MixOutFwdRefIdeal.τ).loc Cert.MixOutFwdRefIdeal.main_arg7) = m ((c.tc : Thread Cert.MixOutFwdRefIdeal.nD Cert.MixOutFwdRefIdeal.τ).loc Cert.MixOutFwdRefIdeal.main_arg7)
      ∧ r.2.mem ((c.tc : Thread Cert.MixOutFwdRefIdeal.nD Cert.MixOutFwdRefIdeal.τ).loc Cert.MixOutFwdRefIdeal.main_arg8) = m ((c.tc : Thread Cert.MixOutFwdRefIdeal.nD Cert.MixOutFwdRefIdeal.τ).loc Cert.MixOutFwdRefIdeal.main_arg8)
      ∧ r.2.mem ((c.tc : Thread Cert.MixOutFwdRefIdeal.nD Cert.MixOutFwdRefIdeal.τ).loc Cert.MixOutFwdRefIdeal.main_arg9) = m ((c.tc : Thread Cert.MixOutFwdRefIdeal.nD Cert.MixOutFwdRefIdeal.τ).loc Cert.MixOutFwdRefIdeal.main_arg9)
      ∧ r.2.mem ((c.tc : Thread Cert.MixOutFwdRefIdeal.nD Cert.MixOutFwdRefIdeal.τ).loc Cert.MixOutFwdRefIdeal.main_arg10) = m ((c.tc : Thread Cert.MixOutFwdRefIdeal.nD Cert.MixOutFwdRefIdeal.τ).loc Cert.MixOutFwdRefIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v35_3)) (v4 : (c : Dev Cert.KernelIdeal.nD) → Buf (Elt Ideal) ((c.tc : Thread Cert.KernelIdeal.nD Cert.KernelIdeal.τ).loc Cert.KernelIdeal.main_v35_4)) (v5 : (c : Dev Cert.KernelIdeal.nD) → Buf (Elt Ideal) ((c.tc : Thread Cert.KernelIdeal.nD Cert.KernelIdeal.τ).loc Cert.KernelIdeal.main_v35_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_v35_3) = v3 c
          ∧ r.2.mem ((c.tc : Thread Cert.KernelIdeal.nD Cert.KernelIdeal.τ).loc Cert.KernelIdeal.main_v35_4) = v4 c
          ∧ r.2.mem ((c.tc : Thread Cert.KernelIdeal.nD Cert.KernelIdeal.τ).loc Cert.KernelIdeal.main_v35_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v110) = v3 c
          ∧ r.2.mem ((c.tc : Thread Cert.ReferenceIdeal.nD Cert.ReferenceIdeal.τ).loc Cert.ReferenceIdeal.main_v111) = v4 c
          ∧ r.2.mem ((c.tc : Thread Cert.ReferenceIdeal.nD Cert.ReferenceIdeal.τ).loc Cert.ReferenceIdeal.main_v112) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_MixIn_MixInIdeal : Prop :=
  True

def algebraic_MixInIdeal_MixInRefIdeal_pre_finite_mix_in [hMixInIdeal : Cert.MixInIdeal.Facts] [hMixInRefIdeal : Cert.MixInRefIdeal.Facts] [hPre_finite_mix_in : Cert.Pre_finite_mix_in.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal_finite_mix_in m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)) →
    ∃ (v0 : (c : Dev Cert.MixInIdeal.nD) → Buf (Elt Ideal) ((c.tc : Thread Cert.MixInIdeal.nD Cert.MixInIdeal.τ).loc Cert.MixInIdeal.main_v3_0)) (v1 : (c : Dev Cert.MixInIdeal.nD) → Buf (Elt Ideal) ((c.tc : Thread Cert.MixInIdeal.nD Cert.MixInIdeal.τ).loc Cert.MixInIdeal.main_v3_1)) (v2 : (c : Dev Cert.MixInIdeal.nD) → Buf (Elt Ideal) ((c.tc : Thread Cert.MixInIdeal.nD Cert.MixInIdeal.τ).loc Cert.MixInIdeal.main_v3_2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v3_0) = v0 c
          ∧ r.2.mem ((c.tc : Thread Cert.MixInIdeal.nD Cert.MixInIdeal.τ).loc Cert.MixInIdeal.main_v3_1) = v1 c
          ∧ r.2.mem ((c.tc : Thread Cert.MixInIdeal.nD Cert.MixInIdeal.τ).loc Cert.MixInIdeal.main_v3_2) = v2 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v39) = v0 c
          ∧ r.2.mem ((c.tc : Thread Cert.MixInRefIdeal.nD Cert.MixInRefIdeal.τ).loc Cert.MixInRefIdeal.main_v53) = v1 c
          ∧ r.2.mem ((c.tc : Thread Cert.MixInRefIdeal.nD Cert.MixInRefIdeal.τ).loc Cert.MixInRefIdeal.main_v54) = v2 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4))

def preserves_GradW1_GradW1Ideal : Prop :=
  True

def algebraic_GradW1Ideal_GradW1RefIdeal [hGradW1Ideal : Cert.GradW1Ideal.Facts] [hGradW1RefIdeal : Cert.GradW1RefIdeal.Facts] : Prop :=
  ∀ (m : (ℓ : Loc Cert.GradW1Ideal.nD Cert.GradW1Ideal.τ Cert.GradW1Ideal.sig) → Buf (Elt Ideal) ℓ) (g : Dev Cert.GradW1Ideal.nD → PrngReg)
    (m' : (ℓ : Loc Cert.GradW1RefIdeal.nD Cert.GradW1RefIdeal.τ Cert.GradW1RefIdeal.sig) → Buf (Elt Ideal) ℓ) (g' : Dev Cert.GradW1RefIdeal.nD → PrngReg), Pre_GradW1Ideal m →
    (∀ c : Dev Cert.GradW1Ideal.nD,
      m' ((c.tc : Thread Cert.GradW1RefIdeal.nD Cert.GradW1RefIdeal.τ).loc Cert.GradW1RefIdeal.main_arg0) = m ((c.tc : Thread Cert.GradW1Ideal.nD Cert.GradW1Ideal.τ).loc Cert.GradW1Ideal.main_arg0)
      ∧ m' ((c.tc : Thread Cert.GradW1RefIdeal.nD Cert.GradW1RefIdeal.τ).loc Cert.GradW1RefIdeal.main_arg1) = m ((c.tc : Thread Cert.GradW1Ideal.nD Cert.GradW1Ideal.τ).loc Cert.GradW1Ideal.main_arg1)) →
    ∃ (v0 : (c : Dev Cert.GradW1Ideal.nD) → Buf (Elt Ideal) ((c.tc : Thread Cert.GradW1Ideal.nD Cert.GradW1Ideal.τ).loc Cert.GradW1Ideal.main_v0)),
      θ_run (Cert.GradW1Ideal.defs (F := Ideal)) (onTc (τ := Cert.GradW1Ideal.τ) (Cert.GradW1Ideal.main (F := Ideal))) ⟨m, fun _ => 0, g⟩ (fun r => ∀ c : Dev Cert.GradW1Ideal.nD,
          r.2.mem ((c.tc : Thread Cert.GradW1Ideal.nD Cert.GradW1Ideal.τ).loc Cert.GradW1Ideal.main_v0) = v0 c
          ∧ r.2.mem ((c.tc : Thread Cert.GradW1Ideal.nD Cert.GradW1Ideal.τ).loc Cert.GradW1Ideal.main_arg0) = m ((c.tc : Thread Cert.GradW1Ideal.nD Cert.GradW1Ideal.τ).loc Cert.GradW1Ideal.main_arg0)
          ∧ r.2.mem ((c.tc : Thread Cert.GradW1Ideal.nD Cert.GradW1Ideal.τ).loc Cert.GradW1Ideal.main_arg1) = m ((c.tc : Thread Cert.GradW1Ideal.nD Cert.GradW1Ideal.τ).loc Cert.GradW1Ideal.main_arg1))
      ∧ θ_run (Cert.GradW1RefIdeal.defs (F := Ideal)) (onTc (τ := Cert.GradW1RefIdeal.τ) (Cert.GradW1RefIdeal.main (F := Ideal))) ⟨m', fun _ => 0, g'⟩ (fun r => ∀ c : Dev Cert.GradW1RefIdeal.nD,
          r.2.mem ((c.tc : Thread Cert.GradW1RefIdeal.nD Cert.GradW1RefIdeal.τ).loc Cert.GradW1RefIdeal.main_v7) = v0 c
          ∧ r.2.mem ((c.tc : Thread Cert.GradW1RefIdeal.nD Cert.GradW1RefIdeal.τ).loc Cert.GradW1RefIdeal.main_arg0) = m' ((c.tc : Thread Cert.GradW1RefIdeal.nD Cert.GradW1RefIdeal.τ).loc Cert.GradW1RefIdeal.main_arg0)
          ∧ r.2.mem ((c.tc : Thread Cert.GradW1RefIdeal.nD Cert.GradW1RefIdeal.τ).loc Cert.GradW1RefIdeal.main_arg1) = m' ((c.tc : Thread Cert.GradW1RefIdeal.nD Cert.GradW1RefIdeal.τ).loc Cert.GradW1RefIdeal.main_arg1))

def preserves_GradW2_GradW2Ideal : Prop :=
  True

def algebraic_GradW2Ideal_GradW2RefIdeal [hGradW2Ideal : Cert.GradW2Ideal.Facts] [hGradW2RefIdeal : Cert.GradW2RefIdeal.Facts] : Prop :=
  ∀ (m : (ℓ : Loc Cert.GradW2Ideal.nD Cert.GradW2Ideal.τ Cert.GradW2Ideal.sig) → Buf (Elt Ideal) ℓ) (g : Dev Cert.GradW2Ideal.nD → PrngReg)
    (m' : (ℓ : Loc Cert.GradW2RefIdeal.nD Cert.GradW2RefIdeal.τ Cert.GradW2RefIdeal.sig) → Buf (Elt Ideal) ℓ) (g' : Dev Cert.GradW2RefIdeal.nD → PrngReg), Pre_GradW2Ideal m →
    (∀ c : Dev Cert.GradW2Ideal.nD,
      m' ((c.tc : Thread Cert.GradW2RefIdeal.nD Cert.GradW2RefIdeal.τ).loc Cert.GradW2RefIdeal.main_arg0) = m ((c.tc : Thread Cert.GradW2Ideal.nD Cert.GradW2Ideal.τ).loc Cert.GradW2Ideal.main_arg0)
      ∧ m' ((c.tc : Thread Cert.GradW2RefIdeal.nD Cert.GradW2RefIdeal.τ).loc Cert.GradW2RefIdeal.main_arg1) = m ((c.tc : Thread Cert.GradW2Ideal.nD Cert.GradW2Ideal.τ).loc Cert.GradW2Ideal.main_arg1)) →
    ∃ (v0 : (c : Dev Cert.GradW2Ideal.nD) → Buf (Elt Ideal) ((c.tc : Thread Cert.GradW2Ideal.nD Cert.GradW2Ideal.τ).loc Cert.GradW2Ideal.main_v0)),
      θ_run (Cert.GradW2Ideal.defs (F := Ideal)) (onTc (τ := Cert.GradW2Ideal.τ) (Cert.GradW2Ideal.main (F := Ideal))) ⟨m, fun _ => 0, g⟩ (fun r => ∀ c : Dev Cert.GradW2Ideal.nD,
          r.2.mem ((c.tc : Thread Cert.GradW2Ideal.nD Cert.GradW2Ideal.τ).loc Cert.GradW2Ideal.main_v0) = v0 c
          ∧ r.2.mem ((c.tc : Thread Cert.GradW2Ideal.nD Cert.GradW2Ideal.τ).loc Cert.GradW2Ideal.main_arg0) = m ((c.tc : Thread Cert.GradW2Ideal.nD Cert.GradW2Ideal.τ).loc Cert.GradW2Ideal.main_arg0)
          ∧ r.2.mem ((c.tc : Thread Cert.GradW2Ideal.nD Cert.GradW2Ideal.τ).loc Cert.GradW2Ideal.main_arg1) = m ((c.tc : Thread Cert.GradW2Ideal.nD Cert.GradW2Ideal.τ).loc Cert.GradW2Ideal.main_arg1))
      ∧ θ_run (Cert.GradW2RefIdeal.defs (F := Ideal)) (onTc (τ := Cert.GradW2RefIdeal.τ) (Cert.GradW2RefIdeal.main (F := Ideal))) ⟨m', fun _ => 0, g'⟩ (fun r => ∀ c : Dev Cert.GradW2RefIdeal.nD,
          r.2.mem ((c.tc : Thread Cert.GradW2RefIdeal.nD Cert.GradW2RefIdeal.τ).loc Cert.GradW2RefIdeal.main_v6) = v0 c
          ∧ r.2.mem ((c.tc : Thread Cert.GradW2RefIdeal.nD Cert.GradW2RefIdeal.τ).loc Cert.GradW2RefIdeal.main_arg0) = m' ((c.tc : Thread Cert.GradW2RefIdeal.nD Cert.GradW2RefIdeal.τ).loc Cert.GradW2RefIdeal.main_arg0)
          ∧ r.2.mem ((c.tc : Thread Cert.GradW2RefIdeal.nD Cert.GradW2RefIdeal.τ).loc Cert.GradW2RefIdeal.main_arg1) = m' ((c.tc : Thread Cert.GradW2RefIdeal.nD Cert.GradW2RefIdeal.τ).loc Cert.GradW2RefIdeal.main_arg1))

def preserves_GradWIn_GradWInIdeal : Prop :=
  True

def algebraic_GradWInIdeal_GradWInRefIdeal [hGradWInIdeal : Cert.GradWInIdeal.Facts] [hGradWInRefIdeal : Cert.GradWInRefIdeal.Facts] : Prop :=
  ∀ (m : (ℓ : Loc Cert.GradWInIdeal.nD Cert.GradWInIdeal.τ Cert.GradWInIdeal.sig) → Buf (Elt Ideal) ℓ) (g : Dev Cert.GradWInIdeal.nD → PrngReg)
    (m' : (ℓ : Loc Cert.GradWInRefIdeal.nD Cert.GradWInRefIdeal.τ Cert.GradWInRefIdeal.sig) → Buf (Elt Ideal) ℓ) (g' : Dev Cert.GradWInRefIdeal.nD → PrngReg), Pre_GradWInIdeal m →
    (∀ c : Dev Cert.GradWInIdeal.nD,
      m' ((c.tc : Thread Cert.GradWInRefIdeal.nD Cert.GradWInRefIdeal.τ).loc Cert.GradWInRefIdeal.main_arg0) = m ((c.tc : Thread Cert.GradWInIdeal.nD Cert.GradWInIdeal.τ).loc Cert.GradWInIdeal.main_arg0)
      ∧ m' ((c.tc : Thread Cert.GradWInRefIdeal.nD Cert.GradWInRefIdeal.τ).loc Cert.GradWInRefIdeal.main_arg1) = m ((c.tc : Thread Cert.GradWInIdeal.nD Cert.GradWInIdeal.τ).loc Cert.GradWInIdeal.main_arg1)) →
    ∃ (v0 : (c : Dev Cert.GradWInIdeal.nD) → Buf (Elt Ideal) ((c.tc : Thread Cert.GradWInIdeal.nD Cert.GradWInIdeal.τ).loc Cert.GradWInIdeal.main_v0)),
      θ_run (Cert.GradWInIdeal.defs (F := Ideal)) (onTc (τ := Cert.GradWInIdeal.τ) (Cert.GradWInIdeal.main (F := Ideal))) ⟨m, fun _ => 0, g⟩ (fun r => ∀ c : Dev Cert.GradWInIdeal.nD,
          r.2.mem ((c.tc : Thread Cert.GradWInIdeal.nD Cert.GradWInIdeal.τ).loc Cert.GradWInIdeal.main_v0) = v0 c
          ∧ r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
          ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1))
      ∧ θ_run (Cert.GradWInRefIdeal.defs (F := Ideal)) (onTc (τ := Cert.GradWInRefIdeal.τ) (Cert.GradWInRefIdeal.main (F := Ideal))) ⟨m', fun _ => 0, g'⟩ (fun r => ∀ c : Dev Cert.GradWInRefIdeal.nD,
          r.2.mem ((c.tc : Thread Cert.GradWInRefIdeal.nD Cert.GradWInRefIdeal.τ).loc Cert.GradWInRefIdeal.main_v7) = v0 c
          ∧ r.2.mem ((c.tc : Thread Cert.GradWInRefIdeal.nD Cert.GradWInRefIdeal.τ).loc Cert.GradWInRefIdeal.main_arg0) = m' ((c.tc : Thread Cert.GradWInRefIdeal.nD Cert.GradWInRefIdeal.τ).loc Cert.GradWInRefIdeal.main_arg0)
          ∧ r.2.mem ((c.tc : Thread Cert.GradWInRefIdeal.nD Cert.GradWInRefIdeal.τ).loc Cert.GradWInRefIdeal.main_arg1) = m' ((c.tc : Thread Cert.GradWInRefIdeal.nD Cert.GradWInRefIdeal.τ).loc Cert.GradWInRefIdeal.main_arg1))

def preserves_GradSquare_GradSquareIdeal : Prop :=
  True

def algebraic_GradSquareIdeal_GradSquareRefIdeal [hGradSquareIdeal : Cert.GradSquareIdeal.Facts] [hGradSquareRefIdeal : Cert.GradSquareRefIdeal.Facts] : Prop :=
  ∀ (m : (ℓ : Loc Cert.GradSquareIdeal.nD Cert.GradSquareIdeal.τ Cert.GradSquareIdeal.sig) → Buf (Elt Ideal) ℓ) (g : Dev Cert.GradSquareIdeal.nD → PrngReg)
    (m' : (ℓ : Loc Cert.GradSquareRefIdeal.nD Cert.GradSquareRefIdeal.τ Cert.GradSquareRefIdeal.sig) → Buf (Elt Ideal) ℓ) (g' : Dev Cert.GradSquareRefIdeal.nD → PrngReg), Pre_GradSquareIdeal m →
    (∀ c : Dev Cert.GradSquareIdeal.nD,
      m' ((c.tc : Thread Cert.GradSquareRefIdeal.nD Cert.GradSquareRefIdeal.τ).loc Cert.GradSquareRefIdeal.main_arg0) = m ((c.tc : Thread Cert.GradSquareIdeal.nD Cert.GradSquareIdeal.τ).loc Cert.GradSquareIdeal.main_arg0)
      ∧ m' ((c.tc : Thread Cert.GradSquareRefIdeal.nD Cert.GradSquareRefIdeal.τ).loc Cert.GradSquareRefIdeal.main_arg1) = m ((c.tc : Thread Cert.GradSquareIdeal.nD Cert.GradSquareIdeal.τ).loc Cert.GradSquareIdeal.main_arg1)) →
    ∃ (v0 : (c : Dev Cert.GradSquareIdeal.nD) → Buf (Elt Ideal) ((c.tc : Thread Cert.GradSquareIdeal.nD Cert.GradSquareIdeal.τ).loc Cert.GradSquareIdeal.main_v0)),
      θ_run (Cert.GradSquareIdeal.defs (F := Ideal)) (onTc (τ := Cert.GradSquareIdeal.τ) (Cert.GradSquareIdeal.main (F := Ideal))) ⟨m, fun _ => 0, g⟩ (fun r => ∀ c : Dev Cert.GradSquareIdeal.nD,
          r.2.mem ((c.tc : Thread Cert.GradSquareIdeal.nD Cert.GradSquareIdeal.τ).loc Cert.GradSquareIdeal.main_v0) = v0 c
          ∧ r.2.mem ((c.tc : Thread Cert.GradSquareIdeal.nD Cert.GradSquareIdeal.τ).loc Cert.GradSquareIdeal.main_arg0) = m ((c.tc : Thread Cert.GradSquareIdeal.nD Cert.GradSquareIdeal.τ).loc Cert.GradSquareIdeal.main_arg0)
          ∧ r.2.mem ((c.tc : Thread Cert.GradSquareIdeal.nD Cert.GradSquareIdeal.τ).loc Cert.GradSquareIdeal.main_arg1) = m ((c.tc : Thread Cert.GradSquareIdeal.nD Cert.GradSquareIdeal.τ).loc Cert.GradSquareIdeal.main_arg1))
      ∧ θ_run (Cert.GradSquareRefIdeal.defs (F := Ideal)) (onTc (τ := Cert.GradSquareRefIdeal.τ) (Cert.GradSquareRefIdeal.main (F := Ideal))) ⟨m', fun _ => 0, g'⟩ (fun r => ∀ c : Dev Cert.GradSquareRefIdeal.nD,
          r.2.mem ((c.tc : Thread Cert.GradSquareRefIdeal.nD Cert.GradSquareRefIdeal.τ).loc Cert.GradSquareRefIdeal.main_v6) = v0 c
          ∧ r.2.mem ((c.tc : Thread Cert.GradSquareRefIdeal.nD Cert.GradSquareRefIdeal.τ).loc Cert.GradSquareRefIdeal.main_arg0) = m' ((c.tc : Thread Cert.GradSquareRefIdeal.nD Cert.GradSquareRefIdeal.τ).loc Cert.GradSquareRefIdeal.main_arg0)
          ∧ r.2.mem ((c.tc : Thread Cert.GradSquareRefIdeal.nD Cert.GradSquareRefIdeal.τ).loc Cert.GradSquareRefIdeal.main_arg1) = m' ((c.tc : Thread Cert.GradSquareRefIdeal.nD Cert.GradSquareRefIdeal.τ).loc Cert.GradSquareRefIdeal.main_arg1))

def preserves_FfnFwd_FfnFwdIdeal : Prop :=
  True

def algebraic_FfnFwdIdeal_FfnFwdRefIdeal_pre_finite_ffn_fwd [hFfnFwdIdeal : Cert.FfnFwdIdeal.Facts] [hFfnFwdRefIdeal : Cert.FfnFwdRefIdeal.Facts] [hPre_finite_ffn_fwd : Cert.Pre_finite_ffn_fwd.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal_finite_ffn_fwd m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v5_0)) (v1 : (c : Dev Cert.FfnFwdIdeal.nD) → Buf (Elt Ideal) ((c.tc : Thread Cert.FfnFwdIdeal.nD Cert.FfnFwdIdeal.τ).loc Cert.FfnFwdIdeal.main_v5_1)) (v2 : (c : Dev Cert.FfnFwdIdeal.nD) → Buf (Elt Ideal) ((c.tc : Thread Cert.FfnFwdIdeal.nD Cert.FfnFwdIdeal.τ).loc Cert.FfnFwdIdeal.main_v5_2)) (v3 : (c : Dev Cert.FfnFwdIdeal.nD) → Buf (Elt Ideal) ((c.tc : Thread Cert.FfnFwdIdeal.nD Cert.FfnFwdIdeal.τ).loc Cert.FfnFwdIdeal.main_v5_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v5_0) = v0 c
          ∧ r.2.mem ((c.tc : Thread Cert.FfnFwdIdeal.nD Cert.FfnFwdIdeal.τ).loc Cert.FfnFwdIdeal.main_v5_1) = v1 c
          ∧ r.2.mem ((c.tc : Thread Cert.FfnFwdIdeal.nD Cert.FfnFwdIdeal.τ).loc Cert.FfnFwdIdeal.main_v5_2) = v2 c
          ∧ r.2.mem ((c.tc : Thread Cert.FfnFwdIdeal.nD Cert.FfnFwdIdeal.τ).loc Cert.FfnFwdIdeal.main_v5_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v34) = v0 c
          ∧ r.2.mem ((c.tc : Thread Cert.FfnFwdRefIdeal.nD Cert.FfnFwdRefIdeal.τ).loc Cert.FfnFwdRefIdeal.main_v58) = v1 c
          ∧ r.2.mem ((c.tc : Thread Cert.FfnFwdRefIdeal.nD Cert.FfnFwdRefIdeal.τ).loc Cert.FfnFwdRefIdeal.main_v59) = v2 c
          ∧ r.2.mem ((c.tc : Thread Cert.FfnFwdRefIdeal.nD Cert.FfnFwdRefIdeal.τ).loc Cert.FfnFwdRefIdeal.main_v61) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_FfnLoss_FfnLossIdeal : Prop :=
  True

def algebraic_FfnLossIdeal_FfnLossRefIdeal_pre_finite_ffn_loss [hFfnLossIdeal : Cert.FfnLossIdeal.Facts] [hFfnLossRefIdeal : Cert.FfnLossRefIdeal.Facts] [hPre_finite_ffn_loss : Cert.Pre_finite_ffn_loss.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossRefIdeal.nD Cert.FfnLossRefIdeal.τ Cert.FfnLossRefIdeal.sig) → Buf (Elt Ideal) ℓ) (g' : Dev Cert.FfnLossRefIdeal.nD → PrngReg), Pre_FfnLossIdeal_finite_ffn_loss m →
    (∀ c : Dev Cert.FfnLossIdeal.nD,
      m' ((c.tc : Thread Cert.FfnLossRefIdeal.nD Cert.FfnLossRefIdeal.τ).loc Cert.FfnLossRefIdeal.main_arg0) = m ((c.tc : Thread Cert.FfnLossIdeal.nD Cert.FfnLossIdeal.τ).loc Cert.FfnLossIdeal.main_arg0)
      ∧ m' ((c.tc : Thread Cert.FfnLossRefIdeal.nD Cert.FfnLossRefIdeal.τ).loc Cert.FfnLossRefIdeal.main_arg1) = m ((c.tc : Thread Cert.FfnLossIdeal.nD Cert.FfnLossIdeal.τ).loc Cert.FfnLossIdeal.main_arg1)
      ∧ m' ((c.tc : Thread Cert.FfnLossRefIdeal.nD Cert.FfnLossRefIdeal.τ).loc Cert.FfnLossRefIdeal.main_arg2) = m ((c.tc : Thread Cert.FfnLossIdeal.nD Cert.FfnLossIdeal.τ).loc Cert.FfnLossIdeal.main_arg2)
      ∧ m' ((c.tc : Thread Cert.FfnLossRefIdeal.nD Cert.FfnLossRefIdeal.τ).loc Cert.FfnLossRefIdeal.main_arg3) = m ((c.tc : Thread Cert.FfnLossIdeal.nD Cert.FfnLossIdeal.τ).loc Cert.FfnLossIdeal.main_arg3)
      ∧ m' ((c.tc : Thread Cert.FfnLossRefIdeal.nD Cert.FfnLossRefIdeal.τ).loc Cert.FfnLossRefIdeal.main_arg4) = m ((c.tc : Thread Cert.FfnLossIdeal.nD Cert.FfnLossIdeal.τ).loc Cert.FfnLossIdeal.main_arg4)
      ∧ m' ((c.tc : Thread Cert.FfnLossRefIdeal.nD Cert.FfnLossRefIdeal.τ).loc Cert.FfnLossRefIdeal.main_arg5) = m ((c.tc : Thread Cert.FfnLossIdeal.nD Cert.FfnLossIdeal.τ).loc Cert.FfnLossIdeal.main_arg5)) →
    ∃ (v0 : (c : Dev Cert.FfnLossIdeal.nD) → Buf (Elt Ideal) ((c.tc : Thread Cert.FfnLossIdeal.nD Cert.FfnLossIdeal.τ).loc Cert.FfnLossIdeal.main_v5_0)) (v1 : (c : Dev Cert.FfnLossIdeal.nD) → Buf (Elt Ideal) ((c.tc : Thread Cert.FfnLossIdeal.nD Cert.FfnLossIdeal.τ).loc Cert.FfnLossIdeal.main_v5_1)) (v2 : (c : Dev Cert.FfnLossIdeal.nD) → Buf (Elt Ideal) ((c.tc : Thread Cert.FfnLossIdeal.nD Cert.FfnLossIdeal.τ).loc Cert.FfnLossIdeal.main_v5_2)) (v3 : (c : Dev Cert.FfnLossIdeal.nD) → Buf (Elt Ideal) ((c.tc : Thread Cert.FfnLossIdeal.nD Cert.FfnLossIdeal.τ).loc Cert.FfnLossIdeal.main_v5_3)) (v4 : (c : Dev Cert.FfnLossIdeal.nD) → Buf (Elt Ideal) ((c.tc : Thread Cert.FfnLossIdeal.nD Cert.FfnLossIdeal.τ).loc Cert.FfnLossIdeal.main_v5_4)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v5_0) = v0 c
          ∧ r.2.mem ((c.tc : Thread Cert.FfnLossIdeal.nD Cert.FfnLossIdeal.τ).loc Cert.FfnLossIdeal.main_v5_1) = v1 c
          ∧ r.2.mem ((c.tc : Thread Cert.FfnLossIdeal.nD Cert.FfnLossIdeal.τ).loc Cert.FfnLossIdeal.main_v5_2) = v2 c
          ∧ r.2.mem ((c.tc : Thread Cert.FfnLossIdeal.nD Cert.FfnLossIdeal.τ).loc Cert.FfnLossIdeal.main_v5_3) = v3 c
          ∧ r.2.mem ((c.tc : Thread Cert.FfnLossIdeal.nD Cert.FfnLossIdeal.τ).loc Cert.FfnLossIdeal.main_v5_4) = v4 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
          ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
          ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5))
      ∧ θ_run (Cert.FfnLossRefIdeal.defs (F := Ideal)) (onTc (τ := Cert.FfnLossRefIdeal.τ) (Cert.FfnLossRefIdeal.main (F := Ideal))) ⟨m', fun _ => 0, g'⟩ (fun r => ∀ c : Dev Cert.FfnLossRefIdeal.nD,
          r.2.mem ((c.tc : Thread Cert.FfnLossRefIdeal.nD Cert.FfnLossRefIdeal.τ).loc Cert.FfnLossRefIdeal.main_v58) = v0 c
          ∧ r.2.mem ((c.tc : Thread Cert.FfnLossRefIdeal.nD Cert.FfnLossRefIdeal.τ).loc Cert.FfnLossRefIdeal.main_v59) = v1 c
          ∧ r.2.mem ((c.tc : Thread Cert.FfnLossRefIdeal.nD Cert.FfnLossRefIdeal.τ).loc Cert.FfnLossRefIdeal.main_v61) = v2 c
          ∧ r.2.mem ((c.tc : Thread Cert.FfnLossRefIdeal.nD Cert.FfnLossRefIdeal.τ).loc Cert.FfnLossRefIdeal.main_v65) = v3 c
          ∧ r.2.mem ((c.tc : Thread Cert.FfnLossRefIdeal.nD Cert.FfnLossRefIdeal.τ).loc Cert.FfnLossRefIdeal.main_v80) = v4 c
          ∧ r.2.mem ((c.tc : Thread Cert.FfnLossRefIdeal.nD Cert.FfnLossRefIdeal.τ).loc Cert.FfnLossRefIdeal.main_arg0) = m' ((c.tc : Thread Cert.FfnLossRefIdeal.nD Cert.FfnLossRefIdeal.τ).loc Cert.FfnLossRefIdeal.main_arg0)
          ∧ r.2.mem ((c.tc : Thread Cert.FfnLossRefIdeal.nD Cert.FfnLossRefIdeal.τ).loc Cert.FfnLossRefIdeal.main_arg1) = m' ((c.tc : Thread Cert.FfnLossRefIdeal.nD Cert.FfnLossRefIdeal.τ).loc Cert.FfnLossRefIdeal.main_arg1)
          ∧ r.2.mem ((c.tc : Thread Cert.FfnLossRefIdeal.nD Cert.FfnLossRefIdeal.τ).loc Cert.FfnLossRefIdeal.main_arg2) = m' ((c.tc : Thread Cert.FfnLossRefIdeal.nD Cert.FfnLossRefIdeal.τ).loc Cert.FfnLossRefIdeal.main_arg2)
          ∧ r.2.mem ((c.tc : Thread Cert.FfnLossRefIdeal.nD Cert.FfnLossRefIdeal.τ).loc Cert.FfnLossRefIdeal.main_arg3) = m' ((c.tc : Thread Cert.FfnLossRefIdeal.nD Cert.FfnLossRefIdeal.τ).loc Cert.FfnLossRefIdeal.main_arg3)
          ∧ r.2.mem ((c.tc : Thread Cert.FfnLossRefIdeal.nD Cert.FfnLossRefIdeal.τ).loc Cert.FfnLossRefIdeal.main_arg4) = m' ((c.tc : Thread Cert.FfnLossRefIdeal.nD Cert.FfnLossRefIdeal.τ).loc Cert.FfnLossRefIdeal.main_arg4)
          ∧ r.2.mem ((c.tc : Thread Cert.FfnLossRefIdeal.nD Cert.FfnLossRefIdeal.τ).loc Cert.FfnLossRefIdeal.main_arg5) = m' ((c.tc : Thread Cert.FfnLossRefIdeal.nD Cert.FfnLossRefIdeal.τ).loc Cert.FfnLossRefIdeal.main_arg5))

def preserves_MixInFwd_MixInFwdIdeal : Prop :=
  True

def algebraic_MixInFwdIdeal_MixInFwdRefIdeal [hMixInFwdIdeal : Cert.MixInFwdIdeal.Facts] [hMixInFwdRefIdeal : Cert.MixInFwdRefIdeal.Facts] : Prop :=
  ∀ (m : (ℓ : Loc Cert.MixInFwdIdeal.nD Cert.MixInFwdIdeal.τ Cert.MixInFwdIdeal.sig) → Buf (Elt Ideal) ℓ) (g : Dev Cert.MixInFwdIdeal.nD → PrngReg)
    (m' : (ℓ : Loc Cert.MixInFwdRefIdeal.nD Cert.MixInFwdRefIdeal.τ Cert.MixInFwdRefIdeal.sig) → Buf (Elt Ideal) ℓ) (g' : Dev Cert.MixInFwdRefIdeal.nD → PrngReg), Pre_MixInFwdIdeal m →
    (∀ c : Dev Cert.MixInFwdIdeal.nD,
      m' ((c.tc : Thread Cert.MixInFwdRefIdeal.nD Cert.MixInFwdRefIdeal.τ).loc Cert.MixInFwdRefIdeal.main_arg0) = m ((c.tc : Thread Cert.MixInFwdIdeal.nD Cert.MixInFwdIdeal.τ).loc Cert.MixInFwdIdeal.main_arg0)
      ∧ m' ((c.tc : Thread Cert.MixInFwdRefIdeal.nD Cert.MixInFwdRefIdeal.τ).loc Cert.MixInFwdRefIdeal.main_arg1) = m ((c.tc : Thread Cert.MixInFwdIdeal.nD Cert.MixInFwdIdeal.τ).loc Cert.MixInFwdIdeal.main_arg1)
      ∧ m' ((c.tc : Thread Cert.MixInFwdRefIdeal.nD Cert.MixInFwdRefIdeal.τ).loc Cert.MixInFwdRefIdeal.main_arg2) = m ((c.tc : Thread Cert.MixInFwdIdeal.nD Cert.MixInFwdIdeal.τ).loc Cert.MixInFwdIdeal.main_arg2)) →
    ∃ (v0 : (c : Dev Cert.MixInFwdIdeal.nD) → Buf (Elt Ideal) ((c.tc : Thread Cert.MixInFwdIdeal.nD Cert.MixInFwdIdeal.τ).loc Cert.MixInFwdIdeal.main_v3)),
      θ_run (Cert.MixInFwdIdeal.defs (F := Ideal)) (onTc (τ := Cert.MixInFwdIdeal.τ) (Cert.MixInFwdIdeal.main (F := Ideal))) ⟨m, fun _ => 0, g⟩ (fun r => ∀ c : Dev Cert.MixInFwdIdeal.nD,
          r.2.mem ((c.tc : Thread Cert.MixInFwdIdeal.nD Cert.MixInFwdIdeal.τ).loc Cert.MixInFwdIdeal.main_v3) = v0 c
          ∧ r.2.mem ((c.tc : Thread Cert.MixInFwdIdeal.nD Cert.MixInFwdIdeal.τ).loc Cert.MixInFwdIdeal.main_arg0) = m ((c.tc : Thread Cert.MixInFwdIdeal.nD Cert.MixInFwdIdeal.τ).loc Cert.MixInFwdIdeal.main_arg0)
          ∧ r.2.mem ((c.tc : Thread Cert.MixInFwdIdeal.nD Cert.MixInFwdIdeal.τ).loc Cert.MixInFwdIdeal.main_arg1) = m ((c.tc : Thread Cert.MixInFwdIdeal.nD Cert.MixInFwdIdeal.τ).loc Cert.MixInFwdIdeal.main_arg1)
          ∧ r.2.mem ((c.tc : Thread Cert.MixInFwdIdeal.nD Cert.MixInFwdIdeal.τ).loc Cert.MixInFwdIdeal.main_arg2) = m ((c.tc : Thread Cert.MixInFwdIdeal.nD Cert.MixInFwdIdeal.τ).loc Cert.MixInFwdIdeal.main_arg2))
      ∧ θ_run (Cert.MixInFwdRefIdeal.defs (F := Ideal)) (onTc (τ := Cert.MixInFwdRefIdeal.τ) (Cert.MixInFwdRefIdeal.main (F := Ideal))) ⟨m', fun _ => 0, g'⟩ (fun r => ∀ c : Dev Cert.MixInFwdRefIdeal.nD,
          r.2.mem ((c.tc : Thread Cert.MixInFwdRefIdeal.nD Cert.MixInFwdRefIdeal.τ).loc Cert.MixInFwdRefIdeal.main_v18) = v0 c
          ∧ r.2.mem ((c.tc : Thread Cert.MixInFwdRefIdeal.nD Cert.MixInFwdRefIdeal.τ).loc Cert.MixInFwdRefIdeal.main_arg0) = m' ((c.tc : Thread Cert.MixInFwdRefIdeal.nD Cert.MixInFwdRefIdeal.τ).loc Cert.MixInFwdRefIdeal.main_arg0)
          ∧ r.2.mem ((c.tc : Thread Cert.MixInFwdRefIdeal.nD Cert.MixInFwdRefIdeal.τ).loc Cert.MixInFwdRefIdeal.main_arg1) = m' ((c.tc : Thread Cert.MixInFwdRefIdeal.nD Cert.MixInFwdRefIdeal.τ).loc Cert.MixInFwdRefIdeal.main_arg1)
          ∧ r.2.mem ((c.tc : Thread Cert.MixInFwdRefIdeal.nD Cert.MixInFwdRefIdeal.τ).loc Cert.MixInFwdRefIdeal.main_arg2) = m' ((c.tc : Thread Cert.MixInFwdRefIdeal.nD Cert.MixInFwdRefIdeal.τ).loc Cert.MixInFwdRefIdeal.main_arg2))

def preserves_MixOutFwd_MixOutFwdIdeal : Prop :=
  True

def algebraic_MixOutFwdIdeal_MixOutFwdRefIdeal [hMixOutFwdIdeal : Cert.MixOutFwdIdeal.Facts] [hMixOutFwdRefIdeal : Cert.MixOutFwdRefIdeal.Facts] : Prop :=
  ∀ (m : (ℓ : Loc Cert.MixOutFwdIdeal.nD Cert.MixOutFwdIdeal.τ Cert.MixOutFwdIdeal.sig) → Buf (Elt Ideal) ℓ) (g : Dev Cert.MixOutFwdIdeal.nD → PrngReg)
    (m' : (ℓ : Loc Cert.MixOutFwdRefIdeal.nD Cert.MixOutFwdRefIdeal.τ Cert.MixOutFwdRefIdeal.sig) → Buf (Elt Ideal) ℓ) (g' : Dev Cert.MixOutFwdRefIdeal.nD → PrngReg), Pre_MixOutFwdIdeal m →
    (∀ c : Dev Cert.MixOutFwdIdeal.nD,
      m' ((c.tc : Thread Cert.MixOutFwdRefIdeal.nD Cert.MixOutFwdRefIdeal.τ).loc Cert.MixOutFwdRefIdeal.main_arg0) = m ((c.tc : Thread Cert.MixOutFwdIdeal.nD Cert.MixOutFwdIdeal.τ).loc Cert.MixOutFwdIdeal.main_arg0)
      ∧ m' ((c.tc : Thread Cert.MixOutFwdRefIdeal.nD Cert.MixOutFwdRefIdeal.τ).loc Cert.MixOutFwdRefIdeal.main_arg1) = m ((c.tc : Thread Cert.MixOutFwdIdeal.nD Cert.MixOutFwdIdeal.τ).loc Cert.MixOutFwdIdeal.main_arg1)
      ∧ m' ((c.tc : Thread Cert.MixOutFwdRefIdeal.nD Cert.MixOutFwdRefIdeal.τ).loc Cert.MixOutFwdRefIdeal.main_arg2) = m ((c.tc : Thread Cert.MixOutFwdIdeal.nD Cert.MixOutFwdIdeal.τ).loc Cert.MixOutFwdIdeal.main_arg2)
      ∧ m' ((c.tc : Thread Cert.MixOutFwdRefIdeal.nD Cert.MixOutFwdRefIdeal.τ).loc Cert.MixOutFwdRefIdeal.main_arg3) = m ((c.tc : Thread Cert.MixOutFwdIdeal.nD Cert.MixOutFwdIdeal.τ).loc Cert.MixOutFwdIdeal.main_arg3)
      ∧ m' ((c.tc : Thread Cert.MixOutFwdRefIdeal.nD Cert.MixOutFwdRefIdeal.τ).loc Cert.MixOutFwdRefIdeal.main_arg4) = m ((c.tc : Thread Cert.MixOutFwdIdeal.nD Cert.MixOutFwdIdeal.τ).loc Cert.MixOutFwdIdeal.main_arg4)
      ∧ m' ((c.tc : Thread Cert.MixOutFwdRefIdeal.nD Cert.MixOutFwdRefIdeal.τ).loc Cert.MixOutFwdRefIdeal.main_arg5) = m ((c.tc : Thread Cert.MixOutFwdIdeal.nD Cert.MixOutFwdIdeal.τ).loc Cert.MixOutFwdIdeal.main_arg5)
      ∧ m' ((c.tc : Thread Cert.MixOutFwdRefIdeal.nD Cert.MixOutFwdRefIdeal.τ).loc Cert.MixOutFwdRefIdeal.main_arg6) = m ((c.tc : Thread Cert.MixOutFwdIdeal.nD Cert.MixOutFwdIdeal.τ).loc Cert.MixOutFwdIdeal.main_arg6)
      ∧ m' ((c.tc : Thread Cert.MixOutFwdRefIdeal.nD Cert.MixOutFwdRefIdeal.τ).loc Cert.MixOutFwdRefIdeal.main_arg7) = m ((c.tc : Thread Cert.MixOutFwdIdeal.nD Cert.MixOutFwdIdeal.τ).loc Cert.MixOutFwdIdeal.main_arg7)
      ∧ m' ((c.tc : Thread Cert.MixOutFwdRefIdeal.nD Cert.MixOutFwdRefIdeal.τ).loc Cert.MixOutFwdRefIdeal.main_arg8) = m ((c.tc : Thread Cert.MixOutFwdIdeal.nD Cert.MixOutFwdIdeal.τ).loc Cert.MixOutFwdIdeal.main_arg8)
      ∧ m' ((c.tc : Thread Cert.MixOutFwdRefIdeal.nD Cert.MixOutFwdRefIdeal.τ).loc Cert.MixOutFwdRefIdeal.main_arg9) = m ((c.tc : Thread Cert.MixOutFwdIdeal.nD Cert.MixOutFwdIdeal.τ).loc Cert.MixOutFwdIdeal.main_arg9)
      ∧ m' ((c.tc : Thread Cert.MixOutFwdRefIdeal.nD Cert.MixOutFwdRefIdeal.τ).loc Cert.MixOutFwdRefIdeal.main_arg10) = m ((c.tc : Thread Cert.MixOutFwdIdeal.nD Cert.MixOutFwdIdeal.τ).loc Cert.MixOutFwdIdeal.main_arg10)) →
    ∃ (v0 : (c : Dev Cert.MixOutFwdIdeal.nD) → Buf (Elt Ideal) ((c.tc : Thread Cert.MixOutFwdIdeal.nD Cert.MixOutFwdIdeal.τ).loc Cert.MixOutFwdIdeal.main_v8_0)) (v1 : (c : Dev Cert.MixOutFwdIdeal.nD) → Buf (Elt Ideal) ((c.tc : Thread Cert.MixOutFwdIdeal.nD Cert.MixOutFwdIdeal.τ).loc Cert.MixOutFwdIdeal.main_v8_1)) (v2 : (c : Dev Cert.MixOutFwdIdeal.nD) → Buf (Elt Ideal) ((c.tc : Thread Cert.MixOutFwdIdeal.nD Cert.MixOutFwdIdeal.τ).loc Cert.MixOutFwdIdeal.main_v8_2)) (v3 : (c : Dev Cert.MixOutFwdIdeal.nD) → Buf (Elt Ideal) ((c.tc : Thread Cert.MixOutFwdIdeal.nD Cert.MixOutFwdIdeal.τ).loc Cert.MixOutFwdIdeal.main_v8_3)) (v4 : (c : Dev Cert.MixOutFwdIdeal.nD) → Buf (Elt Ideal) ((c.tc : Thread Cert.MixOutFwdIdeal.nD Cert.MixOutFwdIdeal.τ).loc Cert.MixOutFwdIdeal.main_v8_4)),
      θ_run (Cert.MixOutFwdIdeal.defs (F := Ideal)) (onTc (τ := Cert.MixOutFwdIdeal.τ) (Cert.MixOutFwdIdeal.main (F := Ideal))) ⟨m, fun _ => 0, g⟩ (fun r => ∀ c : Dev Cert.MixOutFwdIdeal.nD,
          r.2.mem ((c.tc : Thread Cert.MixOutFwdIdeal.nD Cert.MixOutFwdIdeal.τ).loc Cert.MixOutFwdIdeal.main_v8_0) = v0 c
          ∧ r.2.mem ((c.tc : Thread Cert.MixOutFwdIdeal.nD Cert.MixOutFwdIdeal.τ).loc Cert.MixOutFwdIdeal.main_v8_1) = v1 c
          ∧ r.2.mem ((c.tc : Thread Cert.MixOutFwdIdeal.nD Cert.MixOutFwdIdeal.τ).loc Cert.MixOutFwdIdeal.main_v8_2) = v2 c
          ∧ r.2.mem ((c.tc : Thread Cert.MixOutFwdIdeal.nD Cert.MixOutFwdIdeal.τ).loc Cert.MixOutFwdIdeal.main_v8_3) = v3 c
          ∧ r.2.mem ((c.tc : Thread Cert.MixOutFwdIdeal.nD Cert.MixOutFwdIdeal.τ).loc Cert.MixOutFwdIdeal.main_v8_4) = v4 c
          ∧ r.2.mem ((c.tc : Thread Cert.MixOutFwdIdeal.nD Cert.MixOutFwdIdeal.τ).loc Cert.MixOutFwdIdeal.main_arg0) = m ((c.tc : Thread Cert.MixOutFwdIdeal.nD Cert.MixOutFwdIdeal.τ).loc Cert.MixOutFwdIdeal.main_arg0)
          ∧ r.2.mem ((c.tc : Thread Cert.MixOutFwdIdeal.nD Cert.MixOutFwdIdeal.τ).loc Cert.MixOutFwdIdeal.main_arg1) = m ((c.tc : Thread Cert.MixOutFwdIdeal.nD Cert.MixOutFwdIdeal.τ).loc Cert.MixOutFwdIdeal.main_arg1)
          ∧ r.2.mem ((c.tc : Thread Cert.MixOutFwdIdeal.nD Cert.MixOutFwdIdeal.τ).loc Cert.MixOutFwdIdeal.main_arg2) = m ((c.tc : Thread Cert.MixOutFwdIdeal.nD Cert.MixOutFwdIdeal.τ).loc Cert.MixOutFwdIdeal.main_arg2)
          ∧ r.2.mem ((c.tc : Thread Cert.MixOutFwdIdeal.nD Cert.MixOutFwdIdeal.τ).loc Cert.MixOutFwdIdeal.main_arg3) = m ((c.tc : Thread Cert.MixOutFwdIdeal.nD Cert.MixOutFwdIdeal.τ).loc Cert.MixOutFwdIdeal.main_arg3)
          ∧ r.2.mem ((c.tc : Thread Cert.MixOutFwdIdeal.nD Cert.MixOutFwdIdeal.τ).loc Cert.MixOutFwdIdeal.main_arg4) = m ((c.tc : Thread Cert.MixOutFwdIdeal.nD Cert.MixOutFwdIdeal.τ).loc Cert.MixOutFwdIdeal.main_arg4)
          ∧ r.2.mem ((c.tc : Thread Cert.MixOutFwdIdeal.nD Cert.MixOutFwdIdeal.τ).loc Cert.MixOutFwdIdeal.main_arg5) = m ((c.tc : Thread Cert.MixOutFwdIdeal.nD Cert.MixOutFwdIdeal.τ).loc Cert.MixOutFwdIdeal.main_arg5)
          ∧ r.2.mem ((c.tc : Thread Cert.MixOutFwdIdeal.nD Cert.MixOutFwdIdeal.τ).loc Cert.MixOutFwdIdeal.main_arg6) = m ((c.tc : Thread Cert.MixOutFwdIdeal.nD Cert.MixOutFwdIdeal.τ).loc Cert.MixOutFwdIdeal.main_arg6)
          ∧ r.2.mem ((c.tc : Thread Cert.MixOutFwdIdeal.nD Cert.MixOutFwdIdeal.τ).loc Cert.MixOutFwdIdeal.main_arg7) = m ((c.tc : Thread Cert.MixOutFwdIdeal.nD Cert.MixOutFwdIdeal.τ).loc Cert.MixOutFwdIdeal.main_arg7)
          ∧ r.2.mem ((c.tc : Thread Cert.MixOutFwdIdeal.nD Cert.MixOutFwdIdeal.τ).loc Cert.MixOutFwdIdeal.main_arg8) = m ((c.tc : Thread Cert.MixOutFwdIdeal.nD Cert.MixOutFwdIdeal.τ).loc Cert.MixOutFwdIdeal.main_arg8)
          ∧ r.2.mem ((c.tc : Thread Cert.MixOutFwdIdeal.nD Cert.MixOutFwdIdeal.τ).loc Cert.MixOutFwdIdeal.main_arg9) = m ((c.tc : Thread Cert.MixOutFwdIdeal.nD Cert.MixOutFwdIdeal.τ).loc Cert.MixOutFwdIdeal.main_arg9)
          ∧ r.2.mem ((c.tc : Thread Cert.MixOutFwdIdeal.nD Cert.MixOutFwdIdeal.τ).loc Cert.MixOutFwdIdeal.main_arg10) = m ((c.tc : Thread Cert.MixOutFwdIdeal.nD Cert.MixOutFwdIdeal.τ).loc Cert.MixOutFwdIdeal.main_arg10))
      ∧ θ_run (Cert.MixOutFwdRefIdeal.defs (F := Ideal)) (onTc (τ := Cert.MixOutFwdRefIdeal.τ) (Cert.MixOutFwdRefIdeal.main (F := Ideal))) ⟨m', fun _ => 0, g'⟩ (fun r => ∀ c : Dev Cert.MixOutFwdRefIdeal.nD,
          r.2.mem ((c.tc : Thread Cert.MixOutFwdRefIdeal.nD Cert.MixOutFwdRefIdeal.τ).loc Cert.MixOutFwdRefIdeal.main_v87) = v0 c
          ∧ r.2.mem ((c.tc : Thread Cert.MixOutFwdRefIdeal.nD Cert.MixOutFwdRefIdeal.τ).loc Cert.MixOutFwdRefIdeal.main_v88) = v1 c
          ∧ r.2.mem ((c.tc : Thread Cert.MixOutFwdRefIdeal.nD Cert.MixOutFwdRefIdeal.τ).loc Cert.MixOutFwdRefIdeal.main_v89) = v2 c
          ∧ r.2.mem ((c.tc : Thread Cert.MixOutFwdRefIdeal.nD Cert.MixOutFwdRefIdeal.τ).loc Cert.MixOutFwdRefIdeal.main_v90) = v3 c
          ∧ r.2.mem ((c.tc : Thread Cert.MixOutFwdRefIdeal.nD Cert.MixOutFwdRefIdeal.τ).loc Cert.MixOutFwdRefIdeal.main_v91) = v4 c
          ∧ r.2.mem ((c.tc : Thread Cert.MixOutFwdRefIdeal.nD Cert.MixOutFwdRefIdeal.τ).loc Cert.MixOutFwdRefIdeal.main_arg0) = m' ((c.tc : Thread Cert.MixOutFwdRefIdeal.nD Cert.MixOutFwdRefIdeal.τ).loc Cert.MixOutFwdRefIdeal.main_arg0)
          ∧ r.2.mem ((c.tc : Thread Cert.MixOutFwdRefIdeal.nD Cert.MixOutFwdRefIdeal.τ).loc Cert.MixOutFwdRefIdeal.main_arg1) = m' ((c.tc : Thread Cert.MixOutFwdRefIdeal.nD Cert.MixOutFwdRefIdeal.τ).loc Cert.MixOutFwdRefIdeal.main_arg1)
          ∧ r.2.mem ((c.tc : Thread Cert.MixOutFwdRefIdeal.nD Cert.MixOutFwdRefIdeal.τ).loc Cert.MixOutFwdRefIdeal.main_arg2) = m' ((c.tc : Thread Cert.MixOutFwdRefIdeal.nD Cert.MixOutFwdRefIdeal.τ).loc Cert.MixOutFwdRefIdeal.main_arg2)
          ∧ r.2.mem ((c.tc : Thread Cert.MixOutFwdRefIdeal.nD Cert.MixOutFwdRefIdeal.τ).loc Cert.MixOutFwdRefIdeal.main_arg3) = m' ((c.tc : Thread Cert.MixOutFwdRefIdeal.nD Cert.MixOutFwdRefIdeal.τ).loc Cert.MixOutFwdRefIdeal.main_arg3)
          ∧ r.2.mem ((c.tc : Thread Cert.MixOutFwdRefIdeal.nD Cert.MixOutFwdRefIdeal.τ).loc Cert.MixOutFwdRefIdeal.main_arg4) = m' ((c.tc : Thread Cert.MixOutFwdRefIdeal.nD Cert.MixOutFwdRefIdeal.τ).loc Cert.MixOutFwdRefIdeal.main_arg4)
          ∧ r.2.mem ((c.tc : Thread Cert.MixOutFwdRefIdeal.nD Cert.MixOutFwdRefIdeal.τ).loc Cert.MixOutFwdRefIdeal.main_arg5) = m' ((c.tc : Thread Cert.MixOutFwdRefIdeal.nD Cert.MixOutFwdRefIdeal.τ).loc Cert.MixOutFwdRefIdeal.main_arg5)
          ∧ r.2.mem ((c.tc : Thread Cert.MixOutFwdRefIdeal.nD Cert.MixOutFwdRefIdeal.τ).loc Cert.MixOutFwdRefIdeal.main_arg6) = m' ((c.tc : Thread Cert.MixOutFwdRefIdeal.nD Cert.MixOutFwdRefIdeal.τ).loc Cert.MixOutFwdRefIdeal.main_arg6)
          ∧ r.2.mem ((c.tc : Thread Cert.MixOutFwdRefIdeal.nD Cert.MixOutFwdRefIdeal.τ).loc Cert.MixOutFwdRefIdeal.main_arg7) = m' ((c.tc : Thread Cert.MixOutFwdRefIdeal.nD Cert.MixOutFwdRefIdeal.τ).loc Cert.MixOutFwdRefIdeal.main_arg7)
          ∧ r.2.mem ((c.tc : Thread Cert.MixOutFwdRefIdeal.nD Cert.MixOutFwdRefIdeal.τ).loc Cert.MixOutFwdRefIdeal.main_arg8) = m' ((c.tc : Thread Cert.MixOutFwdRefIdeal.nD Cert.MixOutFwdRefIdeal.τ).loc Cert.MixOutFwdRefIdeal.main_arg8)
          ∧ r.2.mem ((c.tc : Thread Cert.MixOutFwdRefIdeal.nD Cert.MixOutFwdRefIdeal.τ).loc Cert.MixOutFwdRefIdeal.main_arg9) = m' ((c.tc : Thread Cert.MixOutFwdRefIdeal.nD Cert.MixOutFwdRefIdeal.τ).loc Cert.MixOutFwdRefIdeal.main_arg9)
          ∧ r.2.mem ((c.tc : Thread Cert.MixOutFwdRefIdeal.nD Cert.MixOutFwdRefIdeal.τ).loc Cert.MixOutFwdRefIdeal.main_arg10) = m' ((c.tc : Thread Cert.MixOutFwdRefIdeal.nD Cert.MixOutFwdRefIdeal.τ).loc Cert.MixOutFwdRefIdeal.main_arg10))

def Claim : Prop :=
  ∃ (hKernel : Cert.Kernel.Facts) (hKernelIdeal : Cert.KernelIdeal.Facts) (hReferenceIdeal : Cert.ReferenceIdeal.Facts) (hMixIn : Cert.MixIn.Facts) (hMixInIdeal : Cert.MixInIdeal.Facts) (hMixInRefIdeal : Cert.MixInRefIdeal.Facts) (hGradW1 : Cert.GradW1.Facts) (hGradW1Ideal : Cert.GradW1Ideal.Facts) (hGradW1RefIdeal : Cert.GradW1RefIdeal.Facts) (hGradW2 : Cert.GradW2.Facts) (hGradW2Ideal : Cert.GradW2Ideal.Facts) (hGradW2RefIdeal : Cert.GradW2RefIdeal.Facts) (hGradWIn : Cert.GradWIn.Facts) (hGradWInIdeal : Cert.GradWInIdeal.Facts) (hGradWInRefIdeal : Cert.GradWInRefIdeal.Facts) (hGradSquare : Cert.GradSquare.Facts) (hGradSquareIdeal : Cert.GradSquareIdeal.Facts) (hGradSquareRefIdeal : Cert.GradSquareRefIdeal.Facts) (hFfnFwd : Cert.FfnFwd.Facts) (hFfnFwdIdeal : Cert.FfnFwdIdeal.Facts) (hFfnFwdRefIdeal : Cert.FfnFwdRefIdeal.Facts) (hFfnLoss : Cert.FfnLoss.Facts) (hFfnLossIdeal : Cert.FfnLossIdeal.Facts) (hFfnLossRefIdeal : Cert.FfnLossRefIdeal.Facts) (hMixInFwd : Cert.MixInFwd.Facts) (hMixInFwdIdeal : Cert.MixInFwdIdeal.Facts) (hMixInFwdRefIdeal : Cert.MixInFwdRefIdeal.Facts) (hMixOutFwd : Cert.MixOutFwd.Facts) (hMixOutFwdIdeal : Cert.MixOutFwdIdeal.Facts) (hMixOutFwdRefIdeal : Cert.MixOutFwdRefIdeal.Facts) (hPre_finite : Cert.Pre_finite.Facts) (hPre_finite_mix_in : Cert.Pre_finite_mix_in.Facts) (hPre_finite_ffn_fwd : Cert.Pre_finite_ffn_fwd.Facts) (hPre_finite_ffn_loss : Cert.Pre_finite_ffn_loss.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MixIn (hMixIn := hMixIn)
    ∧ quiescent_MixInIdeal (hMixInIdeal := hMixInIdeal)
    ∧ quiescent_MixInIdeal_pre_finite_mix_in (hMixInIdeal := hMixInIdeal) (hPre_finite_mix_in := hPre_finite_mix_in)
    ∧ quiescent_MixInRefIdeal (hMixInRefIdeal := hMixInRefIdeal)
    ∧ quiescent_MixInRefIdeal_pre_finite_mix_in (hMixInRefIdeal := hMixInRefIdeal) (hPre_finite_mix_in := hPre_finite_mix_in)
    ∧ quiescent_GradW1 (hGradW1 := hGradW1)
    ∧ quiescent_GradW1Ideal (hGradW1Ideal := hGradW1Ideal)
    ∧ quiescent_GradW1RefIdeal (hGradW1RefIdeal := hGradW1RefIdeal)
    ∧ quiescent_GradW2 (hGradW2 := hGradW2)
    ∧ quiescent_GradW2Ideal (hGradW2Ideal := hGradW2Ideal)
    ∧ quiescent_GradW2RefIdeal (hGradW2RefIdeal := hGradW2RefIdeal)
    ∧ quiescent_GradWIn (hGradWIn := hGradWIn)
    ∧ quiescent_GradWInIdeal (hGradWInIdeal := hGradWInIdeal)
    ∧ quiescent_GradWInRefIdeal (hGradWInRefIdeal := hGradWInRefIdeal)
    ∧ quiescent_GradSquare (hGradSquare := hGradSquare)
    ∧ quiescent_GradSquareIdeal (hGradSquareIdeal := hGradSquareIdeal)
    ∧ quiescent_GradSquareRefIdeal (hGradSquareRefIdeal := hGradSquareRefIdeal)
    ∧ quiescent_FfnFwd (hFfnFwd := hFfnFwd)
    ∧ quiescent_FfnFwdIdeal (hFfnFwdIdeal := hFfnFwdIdeal)
    ∧ quiescent_FfnFwdIdeal_pre_finite_ffn_fwd (hFfnFwdIdeal := hFfnFwdIdeal) (hPre_finite_ffn_fwd := hPre_finite_ffn_fwd)
    ∧ quiescent_FfnFwdRefIdeal (hFfnFwdRefIdeal := hFfnFwdRefIdeal)
    ∧ quiescent_FfnFwdRefIdeal_pre_finite_ffn_fwd (hFfnFwdRefIdeal := hFfnFwdRefIdeal) (hPre_finite_ffn_fwd := hPre_finite_ffn_fwd)
    ∧ quiescent_FfnLoss (hFfnLoss := hFfnLoss)
    ∧ quiescent_FfnLossIdeal (hFfnLossIdeal := hFfnLossIdeal)
    ∧ quiescent_FfnLossIdeal_pre_finite_ffn_loss (hFfnLossIdeal := hFfnLossIdeal) (hPre_finite_ffn_loss := hPre_finite_ffn_loss)
    ∧ quiescent_FfnLossRefIdeal (hFfnLossRefIdeal := hFfnLossRefIdeal)
    ∧ quiescent_FfnLossRefIdeal_pre_finite_ffn_loss (hFfnLossRefIdeal := hFfnLossRefIdeal) (hPre_finite_ffn_loss := hPre_finite_ffn_loss)
    ∧ quiescent_MixInFwd (hMixInFwd := hMixInFwd)
    ∧ quiescent_MixInFwdIdeal (hMixInFwdIdeal := hMixInFwdIdeal)
    ∧ quiescent_MixInFwdRefIdeal (hMixInFwdRefIdeal := hMixInFwdRefIdeal)
    ∧ quiescent_MixOutFwd (hMixOutFwd := hMixOutFwd)
    ∧ quiescent_MixOutFwdIdeal (hMixOutFwdIdeal := hMixOutFwdIdeal)
    ∧ quiescent_MixOutFwdRefIdeal (hMixOutFwdRefIdeal := hMixOutFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MixIn_MixInIdeal
    ∧ algebraic_MixInIdeal_MixInRefIdeal_pre_finite_mix_in (hMixInIdeal := hMixInIdeal) (hMixInRefIdeal := hMixInRefIdeal) (hPre_finite_mix_in := hPre_finite_mix_in)
    ∧ preserves_GradW1_GradW1Ideal
    ∧ algebraic_GradW1Ideal_GradW1RefIdeal (hGradW1Ideal := hGradW1Ideal) (hGradW1RefIdeal := hGradW1RefIdeal)
    ∧ preserves_GradW2_GradW2Ideal
    ∧ algebraic_GradW2Ideal_GradW2RefIdeal (hGradW2Ideal := hGradW2Ideal) (hGradW2RefIdeal := hGradW2RefIdeal)
    ∧ preserves_GradWIn_GradWInIdeal
    ∧ algebraic_GradWInIdeal_GradWInRefIdeal (hGradWInIdeal := hGradWInIdeal) (hGradWInRefIdeal := hGradWInRefIdeal)
    ∧ preserves_GradSquare_GradSquareIdeal
    ∧ algebraic_GradSquareIdeal_GradSquareRefIdeal (hGradSquareIdeal := hGradSquareIdeal) (hGradSquareRefIdeal := hGradSquareRefIdeal)
    ∧ preserves_FfnFwd_FfnFwdIdeal
    ∧ algebraic_FfnFwdIdeal_FfnFwdRefIdeal_pre_finite_ffn_fwd (hFfnFwdIdeal := hFfnFwdIdeal) (hFfnFwdRefIdeal := hFfnFwdRefIdeal) (hPre_finite_ffn_fwd := hPre_finite_ffn_fwd)
    ∧ preserves_FfnLoss_FfnLossIdeal
    ∧ algebraic_FfnLossIdeal_FfnLossRefIdeal_pre_finite_ffn_loss (hFfnLossIdeal := hFfnLossIdeal) (hFfnLossRefIdeal := hFfnLossRefIdeal) (hPre_finite_ffn_loss := hPre_finite_ffn_loss)
    ∧ preserves_MixInFwd_MixInFwdIdeal
    ∧ algebraic_MixInFwdIdeal_MixInFwdRefIdeal (hMixInFwdIdeal := hMixInFwdIdeal) (hMixInFwdRefIdeal := hMixInFwdRefIdeal)
    ∧ preserves_MixOutFwd_MixOutFwdIdeal
    ∧ algebraic_MixOutFwdIdeal_MixOutFwdRefIdeal (hMixOutFwdIdeal := hMixOutFwdIdeal) (hMixOutFwdRefIdeal := hMixOutFwdRefIdeal)
-- ==== Pre_finite.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x5632 .f32) (main_arg5 : FVec F S2816x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x5632 .f32 := Host.absf main_arg4
  let main_cst_6 : FVec F S_ .f32 := constant S_ .f32 0x7F800000#32
  let main_v20 : FVec F S1024x5632 .f32 := broadcastInDim S1024x5632 ![] bcast_S_S1024x5632 main_cst_6
  let main_v21 : IVec S1024x5632 1 := cmpf .olt main_v19 main_v20
  let main_c_7 : IVec S_ 1 := constantI S_ 1 1#1
  let main_v22 : IVec S_ 1 := (fun x v => Host.reduce IntOp.andi x v reducesTo_S1024x5632_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S16384x1024 .f32) (main_arg1 : FVec F S16384x1024 .f32) (main_arg2 : FVec F S1024 .f32) (main_arg3 : FVec F S1024 .f32) (main_arg4 : FVec F S1024x5632 .f32) (main_arg5 : FVec F S2816x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Pre_finite_ffn_fwd.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  main_v23

def fn {F : FTy → Type} [FloatOps F] (main_arg0 : FVec F S16384x1024 .f32) (main_arg1 : FVec F S1024 .f32) (main_arg2 : FVec F S1024 .f32) (main_arg3 : FVec F S1024x5632 .f32) (main_arg4 : FVec F S2816x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x5632 .f32 := Host.absf main_arg3
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg4 main_v13 main_v16
-- ==== Pre_finite_ffn_loss.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x5632 .f32) (main_arg5 : FVec F S2816x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x5632 .f32 := Host.absf main_arg4
  let main_cst_6 : FVec F S_ .f32 := constant S_ .f32 0x7F800000#32
  let main_v20 : FVec F S1024x5632 .f32 := broadcastInDim S1024x5632 ![] bcast_S_S1024x5632 main_cst_6
  let main_v21 : IVec S1024x5632 1 := cmpf .olt main_v19 main_v20
  let main_c_7 : IVec S_ 1 := constantI S_ 1 1#1
  let main_v22 : IVec S_ 1 := (fun x v => Host.reduce IntOp.andi x v reducesTo_S1024x5632_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S16384x1024 .f32) (main_arg1 : FVec F S16384x1024 .f32) (main_arg2 : FVec F S1024 .f32) (main_arg3 : FVec F S1024 .f32) (main_arg4 : FVec F S1024x5632 .f32) (main_arg5 : FVec F S2816x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Pre_finite_mix_in.lean ====
abbrev S16384x1024 : Shape := ⟨2, ![16384, 1024]⟩
abbrev S16384x5376 : Shape := ⟨2, ![16384, 5376]⟩
abbrev S1024 : Shape := ⟨1, ![1024]⟩
abbrev S1024x5376 : Shape := ⟨2, ![1024, 5376]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S16384x5376 : S_.BroadcastsInDim S16384x5376 (![] : Fin 0 → Fin S16384x5376.rank)
  reducesTo_S16384x5376_S_d0_1 : S16384x5376.ReducesTo [0, 1] S_
  bcast_S_S1024 : S_.BroadcastsInDim S1024 (![] : Fin 0 → Fin S1024.rank)
  reducesTo_S1024_S_d0 : S1024.ReducesTo [0] S_
  bcast_S_S1024x5376 : S_.BroadcastsInDim S1024x5376 (![] : Fin 0 → Fin S1024x5376.rank)
  reducesTo_S1024x5376_S_d0_1 : S1024x5376.ReducesTo [0, 1] S_

variable [Facts]

def fn_part1 {F : FTy → Type} [FloatOps F] (main_arg4 : FVec F S1024x5376 .f32) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S1024x5376 .f32 := Host.absf main_arg4
  let main_cst_6 : FVec F S_ .f32 := constant S_ .f32 0x7F800000#32
  let main_v21 : FVec F S1024x5376 .f32 := broadcastInDim S1024x5376 ![] bcast_S_S1024x5376 main_cst_6
  let main_v22 : IVec S1024x5376 1 := cmpf .olt main_v20 main_v21
  let main_c_7 : IVec S_ 1 := constantI S_ 1 1#1
  let main_v23 : IVec S_ 1 := (fun x v => Host.reduce IntOp.andi x v reducesTo_S1024x5376_S_d0_1 h_S_) main_v22 main_c_7
  let main_v24 : IVec S_ 1 := andi main_v19 main_v23
  main_v24

def fn {F : FTy → Type} [FloatOps F] (main_arg0 : FVec F S16384x1024 .f32) (main_arg1 : FVec F S16384x1024 .f32) (main_arg2 : FVec F S16384x5376 .bf16) (main_arg3 : FVec F S1024 .f32) (main_arg4 : FVec F S1024x5376 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x5376 .f32 := (extf .f32 · bitsLt_bf16_f32) main_arg2
  let main_v10 : FVec F S16384x5376 .f32 := Host.absf main_v9
  let main_cst_2 : FVec F S_ .f32 := constant S_ .f32 0x7F800000#32
  let main_v11 : FVec F S16384x5376 .f32 := broadcastInDim S16384x5376 ![] bcast_S_S16384x5376 main_cst_2
  let main_v12 : IVec S16384x5376 1 := cmpf .olt main_v10 main_v11
  let main_c_3 : IVec S_ 1 := constantI S_ 1 1#1
  let main_v13 : IVec S_ 1 := (fun x v => Host.reduce IntOp.andi x v reducesTo_S16384x5376_S_d0_1 h_S_) main_v12 main_c_3
  let main_v14 : IVec S_ 1 := andi main_v8 main_v13
  let main_v15 : FVec F S1024 .f32 := Host.absf main_arg3
  let main_cst_4 : FVec F S_ .f32 := constant S_ .f32 0x7F800000#32
  let main_v16 : FVec F S1024 .f32 := broadcastInDim S1024 ![] bcast_S_S1024 main_cst_4
  fn_part1 (F := F) main_arg4 main_v14 main_v15 main_v16
-- ==== Kernel.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩
abbrev S5632x1024 : Shape := ⟨2, ![5632, 1024]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S1024x1024 : Shape := ⟨2, ![1024, 1024]⟩
abbrev S768x1024 : Shape := ⟨2, ![768, 1024]⟩
abbrev S256x768 : Shape := ⟨2, ![256, 768]⟩

abbrev nBuf : Space → Nat
  | .hbm => 74
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x5632, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x1024, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S_, .f32⟩
  | .hbm, ⟨44, _⟩ => ⟨S16384x2816, .f32⟩
  | .hbm, ⟨45, _⟩ => ⟨S16384x2816, .f32⟩
  | .hbm, ⟨46, _⟩ => ⟨S_, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S_, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S16384x5632, .f32⟩
  | .hbm, ⟨61, _⟩ => ⟨S16384x5632, .bf16⟩
  | .hbm, ⟨62, _⟩ => ⟨S16384x1024, .bf16⟩
  | .hbm, ⟨63, _⟩ => ⟨S1x1024, .f32⟩
  | .hbm, ⟨64, _⟩ => ⟨S1x1024, .f32⟩
  | .hbm, ⟨65, _⟩ => ⟨S5632x1024, .f32⟩
  | .hbm, ⟨66, _⟩ => ⟨S5632x1024, .bf16⟩
  | .hbm, ⟨67, _⟩ => ⟨S2816x1024, .bf16⟩
  | .hbm, ⟨68, _⟩ => ⟨S16384x1024, .f32⟩
  | .hbm, ⟨69, _⟩ => ⟨S16384x5632, .bf16⟩
  | .hbm, ⟨70, _⟩ => ⟨S16384x1024, .bf16⟩
  | .hbm, ⟨71, _⟩ => ⟨S16384x1024, .bf16⟩
  | .hbm, ⟨72, _⟩ => ⟨S1x1024, .f32⟩
  | .hbm, ⟨73, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x5632, .bf16⟩
  | .local _ .vmem, ⟨7, _⟩ => ⟨S256x5632, .bf16⟩
  | .local _ .vmem, ⟨8, _⟩ => ⟨S1x1024, .f32⟩
  | .local _ .vmem, ⟨9, _⟩ => ⟨S1x1024, .f32⟩
  | .local _ .vmem, ⟨10, _⟩ => ⟨S5632x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x5632, .bf16⟩
  | .local _ .vmem, ⟨15, _⟩ => ⟨S256x5632, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | .local _ .vmem, ⟨21, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_v21_2 : Ref sig .tc := ⟨.hbm, 45, rfl⟩
abbrev main_call1_cst_1 : Ref sig .tc := ⟨.hbm, 46, rfl⟩
abbrev main_call1_v6 : Ref sig .tc := ⟨.hbm, 47, rfl⟩
abbrev main_call1_v7 : Ref sig .tc := ⟨.hbm, 48, rfl⟩
abbrev main_v21_1 : Ref sig .tc := ⟨.hbm, 49, rfl⟩
abbrev main_v21_0 : Ref sig .tc := ⟨.hbm, 50, rfl⟩
abbrev main_v22 : Ref sig .tc := ⟨.hbm, 51, rfl⟩
abbrev main_cst_2 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35_0 : Ref sig .tc := ⟨.hbm, 68, rfl⟩
abbrev main_v35_1 : Ref sig .tc := ⟨.hbm, 69, rfl⟩
abbrev main_v35_2 : Ref sig .tc := ⟨.hbm, 70, rfl⟩
abbrev main_v35_3 : Ref sig .tc := ⟨.hbm, 71, rfl⟩
abbrev main_v35_4 : Ref sig .tc := ⟨.hbm, 72, rfl⟩
abbrev main_v35_5 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5632x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384x5632 : Shape := ⟨2, ![16384, 5632]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 159
  | .vmem => 0
  | .smem => 0
  | _ => 0

abbrev hbmTy0_0 (i : Nat) : BufTy := match i % 128 with
  | 0 => ⟨S16384x1024, .f32⟩
  | 1 => ⟨S16384x1024, .f32⟩
  | 2 => ⟨S1024, .f32⟩
  | 3 => ⟨S1024, .f32⟩
  | 4 => ⟨S1024x5632, .f32⟩
  | 5 => ⟨S2816x1024, .f32⟩
  | 6 => ⟨S_, .f32⟩
  | 7 => ⟨S16384x5632, .f32⟩
  | 8 => ⟨S_, .f32⟩
  | 9 => ⟨S16384x1024, .f32⟩
  | 10 => ⟨S16384x1024, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S16384x1, .f32⟩
  | 21 => ⟨S16384x1, .f32⟩
  | 22 => ⟨S_, .f32⟩
  | 23 => ⟨S16384x1, .f32⟩
  | 24 => ⟨S16384x1, .f32⟩
  | 25 => ⟨S16384x1024, .f32⟩
  | 26 => ⟨S16384x1024, .f32⟩
  | 27 => ⟨S1x1024, .f32⟩
  | 28 => ⟨S16384x1024, .f32⟩
  | 29 => ⟨S16384x1024, .f32⟩
  | 30 => ⟨S16384x5632, .f32⟩
  | 31 => ⟨S16384x5632, .f32⟩
  | 32 => ⟨S16384x2816, .f32⟩
  | 33 => ⟨S16384x2816, .f32⟩
  | 34 => ⟨S16384x2816, .f32⟩
  | 35 => ⟨S16384x2816, .f32⟩
  | 36 => ⟨S_, .f32⟩
  | 37 => ⟨S16384x2816, .f32⟩
  | 38 => ⟨S16384x2816, .f32⟩
  | 39 => ⟨S_, .f32⟩
  | 40 => ⟨S16384x2816, .f32⟩
  | 41 => ⟨S16384x2816, .f32⟩
  | 42 => ⟨S_, .f32⟩
  | 43 => ⟨S16384x2816, .f32⟩
  | 44 => ⟨S16384x2816, .f32⟩
  | 45 => ⟨S16384x2816, .f32⟩
  | 46 => ⟨S16384x2816, .f32⟩
  | 47 => ⟨S16384x2816, .f32⟩
  | 48 => ⟨S16384x1024, .f32⟩
  | 49 => ⟨S16384x1024, .f32⟩
  | 50 => ⟨S16384x1024, .f32⟩
  | 51 => ⟨S_, .f32⟩
  | 52 => ⟨S16384, .f32⟩
  | 53 => ⟨S16384x1, .f32⟩
  | 54 => ⟨S_, .f32⟩
  | 55 => ⟨S16384x1, .f32⟩
  | 56 => ⟨S16384x1, .f32⟩
  | 57 => ⟨S_, .f32⟩
  | 58 => ⟨S16384x1, .f32⟩
  | 59 => ⟨S16384x1, .f32⟩
  | 60 => ⟨S16384x1, .f32⟩
  | 61 => ⟨S16384x1, .f32⟩
  | 62 => ⟨S_, .f32⟩
  | 63 => ⟨S16384x1, .f32⟩
  | 64 => ⟨S16384x1, .f32⟩
  | 65 => ⟨S16384x1024, .f32⟩
  | 66 => ⟨S16384x1024, .f32⟩
  | 67 => ⟨S1x1024, .f32⟩
  | 68 => ⟨S16384x1024, .f32⟩
  | 69 => ⟨S16384x1024, .f32⟩
  | 70 => ⟨S_, .f32⟩
  | 71 => ⟨S16384x1024, .f32⟩
  | 72 => ⟨S16384x1024, .f32⟩
  | 73 => ⟨S16384x1024, .f32⟩
  | 74 => ⟨S16384x1024, .f32⟩
  | 75 => ⟨S_, .f32⟩
  | 76 => ⟨S16384x1024, .f32⟩
  | 77 => ⟨S16384x1024, .f32⟩
  | 78 => ⟨S16384x1024, .f32⟩
  | 79 => ⟨S_, .f32⟩
  | 80 => ⟨S1024, .f32⟩
  | 81 => ⟨S1x1024, .f32⟩
  | 82 => ⟨S16384x1024, .f32⟩
  | 83 => ⟨S16384x1024, .f32⟩
  | 84 => ⟨S_, .f32⟩
  | 85 => ⟨S1024, .f32⟩
  | 86 => ⟨S16384x1024, .f32⟩
  | 87 => ⟨S_, .f32⟩
  | 88 => ⟨S16384, .f32⟩
  | 89 => ⟨S16384x1, .f32⟩
  | 90 => ⟨S16384x1024, .f32⟩
  | 91 => ⟨S16384x1024, .f32⟩
  | 92 => ⟨S16384x1, .f32⟩
  | 93 => ⟨S_, .f32⟩
  | 94 => ⟨S16384x1, .f32⟩
  | 95 => ⟨S16384x1, .f32⟩
  | 96 => ⟨S_, .f32⟩
  | 97 => ⟨S16384, .f32⟩
  | 98 => ⟨S16384x1024, .f32⟩
  | 99 => ⟨S16384x1024, .f32⟩
  | 100 => ⟨S16384x1024, .f32⟩
  | 101 => ⟨S16384x1024, .f32⟩
  | 102 => ⟨S16384x1024, .f32⟩
  | 103 => ⟨S16384x2816, .f32⟩
  | 104 => ⟨S16384x2816, .f32⟩
  | 105 => ⟨S16384x2816, .f32⟩
  | 106 => ⟨S16384x2816, .f32⟩
  | 107 => ⟨S16384x2816, .f32⟩
  | 108 => ⟨S16384x2816, .f32⟩
  | 109 => ⟨S16384x2816, .f32⟩
  | 110 => ⟨S16384x5632, .f32⟩
  | 111 => ⟨S16384x1024, .f32⟩
  | 112 => ⟨S16384x1024, .f32⟩
  | 113 => ⟨S_, .f32⟩
  | 114 => ⟨S1024, .f32⟩
  | 115 => ⟨S1x1024, .f32⟩
  | 116 => ⟨S16384x1024, .f32⟩
  | 117 => ⟨S16384x1024, .f32⟩
  | 118 => ⟨S_, .f32⟩
  | 119 => ⟨S1024, .f32⟩
  | 120 => ⟨S16384x1024, .f32⟩
  | 121 => ⟨S_, .f32⟩
  | 122 => ⟨S16384, .f32⟩
  | 123 => ⟨S16384x1, .f32⟩
  | 124 => ⟨S16384x1024, .f32⟩
  | 125 => ⟨S16384x1024, .f32⟩
  | 126 => ⟨S16384x1024, .f32⟩
  | 127 => ⟨S16384x1, .f32⟩
  | _ => ⟨S16384x1024, .f32⟩

abbrev hbmTy0_1 (i : Nat) : BufTy := match i % 128 with
  | 0 => ⟨S_, .f32⟩
  | 1 => ⟨S16384x1, .f32⟩
  | 2 => ⟨S16384x1, .f32⟩
  | 3 => ⟨S_, .f32⟩
  | 4 => ⟨S16384, .f32⟩
  | 5 => ⟨S16384x1024, .f32⟩
  | 6 => ⟨S16384x1024, .f32⟩
  | 7 => ⟨S16384x1024, .f32⟩
  | 8 => ⟨S16384x1024, .f32⟩
  | 9 => ⟨S16384x1024, .f32⟩
  | 10 => ⟨S16384x5632, .bf16⟩
  | 11 => ⟨S16384x1024, .bf16⟩
  | 12 => ⟨S16384x1024, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1, .f32⟩
  | 23 => ⟨S16384x1024, .f32⟩
  | 24 => ⟨S16384x1024, .f32⟩
  | 25 => ⟨S1x1024, .f32⟩
  | 26 => ⟨S16384x1024, .f32⟩
  | 27 => ⟨S16384x1024, .f32⟩
  | 28 => ⟨S16384x1024, .bf16⟩
  | 29 => ⟨S1x1024, .f32⟩
  | 30 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v22_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v22_1 : Ref sig .tc := ⟨.hbm, 45, rfl⟩
abbrev main_v22_0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_cst_6 : Ref sig .tc := ⟨.hbm, 54, rfl⟩
abbrev main_v29 : Ref sig .tc := ⟨.hbm, 55, rfl⟩
abbrev main_v30 : Ref sig .tc := ⟨.hbm, 56, rfl⟩
abbrev main_cst_7 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_12 : Ref sig .tc := ⟨.hbm, 84, rfl⟩
abbrev main_v53 : Ref sig .tc := ⟨.hbm, 85, rfl⟩
abbrev main_v54 : Ref sig .tc := ⟨.hbm, 86, rfl⟩
abbrev main_cst_13 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_14 : Ref sig .tc := ⟨.hbm, 93, rfl⟩
abbrev main_v60 : Ref sig .tc := ⟨.hbm, 94, rfl⟩
abbrev main_v61 : Ref sig .tc := ⟨.hbm, 95, rfl⟩
abbrev main_cst_15 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_17 : Ref sig .tc := ⟨.hbm, 118, rfl⟩
abbrev main_v79 : Ref sig .tc := ⟨.hbm, 119, rfl⟩
abbrev main_v80 : Ref sig .tc := ⟨.hbm, 120, rfl⟩
abbrev main_cst_18 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_19 : Ref sig .tc := ⟨.hbm, 128, rfl⟩
abbrev main_v87 : Ref sig .tc := ⟨.hbm, 129, rfl⟩
abbrev main_v88 : Ref sig .tc := ⟨.hbm, 130, rfl⟩
abbrev main_cst_20 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_21 : Ref sig .tc := ⟨.hbm, 141, rfl⟩
abbrev main_v98 : Ref sig .tc := ⟨.hbm, 142, rfl⟩
abbrev main_v99 : Ref sig .tc := ⟨.hbm, 143, rfl⟩
abbrev main_cst_22 : Ref sig .tc := ⟨.hbm, 144, rfl⟩
abbrev main_v100 : Ref sig .tc := ⟨.hbm, 145, rfl⟩
abbrev main_v101 : Ref sig .tc := ⟨.hbm, 146, rfl⟩
abbrev main_cst_23 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩

abbrev nD : Nat := 1
abbrev τ : Topo := Topo.v7x

variable {F : FTy → Type} [FloatOps F]
-- ==== MixIn.lean ====
abbrev S16384x1024 : Shape := ⟨2, ![16384, 1024]⟩
abbrev S16384x5376 : Shape := ⟨2, ![16384, 5376]⟩
abbrev S1024 : Shape := ⟨1, ![1024]⟩
abbrev S1024x5376 : Shape := ⟨2, ![1024, 5376]⟩
abbrev S1x1024 : Shape := ⟨2, ![1, 1024]⟩
abbrev S5376x1024 : Shape := ⟨2, ![5376, 1024]⟩
abbrev S512x1024 : Shape := ⟨2, ![512, 1024]⟩
abbrev S512x5376 : Shape := ⟨2, ![512, 5376]⟩
abbrev S512 : Shape := ⟨1, ![512]⟩
abbrev S512x1 : Shape := ⟨2, ![512, 1]⟩
abbrev S512x1792 : Shape := ⟨2, ![512, 1792]⟩
abbrev S1792x1024 : Shape := ⟨2, ![1792, 1024]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x5376, .bf16⟩
  | .hbm, ⟨3, _⟩ => ⟨S1024, .f32⟩
  | .hbm, ⟨4, _⟩ => ⟨S1024x5376, .f32⟩
  | .hbm, ⟨5, _⟩ => ⟨S1x1024, .f32⟩
  | .hbm, ⟨6, _⟩ => ⟨S5376x1024, .f32⟩
  | .hbm, ⟨7, _⟩ => ⟨S5376x1024, .bf16⟩
  | .hbm, ⟨8, _⟩ => ⟨S16384x1024, .f32⟩
  | .hbm, ⟨9, _⟩ => ⟨S16384x1024, .bf16⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x5376, .bf16⟩
  | .local _ .vmem, ⟨5, _⟩ => ⟨S512x5376, .bf16⟩
  | .local _ .vmem, ⟨6, _⟩ => ⟨S1x1024, .f32⟩
  | .local _ .vmem, ⟨7, _⟩ => ⟨S5376x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x5376 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5376x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixInRefIdeal.lean ====
abbrev S16384x1024 : Shape := ⟨2, ![16384, 1024]⟩
abbrev S16384x5376 : Shape := ⟨2, ![16384, 5376]⟩
abbrev S1024 : Shape := ⟨1, ![1024]⟩
abbrev S1024x5376 : Shape := ⟨2, ![1024, 5376]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x5376, .bf16⟩
  | .hbm, ⟨3, _⟩ => ⟨S1024, .f32⟩
  | .hbm, ⟨4, _⟩ => ⟨S1024x5376, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x5376, .f32⟩
  | .hbm, ⟨26, _⟩ => ⟨S16384x5376, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S16384x1024, .bf16⟩
  | .hbm, ⟨71, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== GradW1.lean ====
abbrev S16384x1024 : Shape := ⟨2, ![16384, 1024]⟩
abbrev S16384x5632 : Shape := ⟨2, ![16384, 5632]⟩
abbrev S5632x1024 : Shape := ⟨2, ![5632, 1024]⟩
abbrev S1024x512 : Shape := ⟨2, ![1024, 512]⟩
abbrev S1024x5632 : Shape := ⟨2, ![1024, 5632]⟩
abbrev S5632x512 : Shape := ⟨2, ![5632, 512]⟩
abbrev S512x5632 : Shape := ⟨2, ![512, 5632]⟩
abbrev S512x1408 : Shape := ⟨2, ![512, 1408]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S5632x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x5632, .bf16⟩
  | .local _ .vmem, ⟨3, _⟩ => ⟨S1024x5632, .bf16⟩
  | .local _ .vmem, ⟨4, _⟩ => ⟨S5632x512, .bf16⟩
  | .local _ .vmem, ⟨5, _⟩ => ⟨S5632x512, .bf16⟩
  | .local _ .vmem, ⟨6, _⟩ => ⟨S512x5632, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S5632x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradW1RefIdeal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S_, .f32⟩
  | .hbm, ⟨3, _⟩ => ⟨S1024x5632, .f32⟩
  | .hbm, ⟨4, _⟩ => ⟨S16384x1024, .f32⟩
  | .hbm, ⟨5, _⟩ => ⟨S16384x5632, .f32⟩
  | .hbm, ⟨6, _⟩ => ⟨S16384x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradW2.lean ====
abbrev S16384x2816 : Shape := ⟨2, ![16384, 2816]⟩
abbrev S16384x1024 : Shape := ⟨2, ![16384, 1024]⟩
abbrev S2816x1024 : Shape := ⟨2, ![2816, 1024]⟩
abbrev S1024x1024 : Shape := ⟨2, ![1024, 1024]⟩
abbrev S1024x2816 : Shape := ⟨2, ![1024, 2816]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1024x2816, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradW2RefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradWIn.lean ====
abbrev S16384x1024 : Shape := ⟨2, ![16384, 1024]⟩
abbrev S16384x5376 : Shape := ⟨2, ![16384, 5376]⟩
abbrev S5376x1024 : Shape := ⟨2, ![5376, 1024]⟩
abbrev S1024x512 : Shape := ⟨2, ![1024, 512]⟩
abbrev S1024x5376 : Shape := ⟨2, ![1024, 5376]⟩
abbrev S5376x512 : Shape := ⟨2, ![5376, 512]⟩
abbrev S512x5376 : Shape := ⟨2, ![512, 5376]⟩
abbrev S512x1792 : Shape := ⟨2, ![512, 1792]⟩
abbrev S1792x512 : Shape := ⟨2, ![1792, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5376, .bf16⟩
  | .hbm, ⟨2, _⟩ => ⟨S5376x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x5376, .bf16⟩
  | .local _ .vmem, ⟨3, _⟩ => ⟨S1024x5376, .bf16⟩
  | .local _ .vmem, ⟨4, _⟩ => ⟨S5376x512, .bf16⟩
  | .local _ .vmem, ⟨5, _⟩ => ⟨S5376x512, .bf16⟩
  | .local _ .vmem, ⟨6, _⟩ => ⟨S512x5376, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x5376 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S5376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradWInRefIdeal.lean ====
abbrev S16384x1024 : Shape := ⟨2, ![16384, 1024]⟩
abbrev S16384x5376 : Shape := ⟨2, ![16384, 5376]⟩
abbrev S_ : Shape := ⟨0, ![]⟩
abbrev S1024x5376 : Shape := ⟨2, ![1024, 5376]⟩
abbrev S5376x1024 : Shape := ⟨2, ![5376, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5376, .bf16⟩
  | .hbm, ⟨2, _⟩ => ⟨S_, .f32⟩
  | .hbm, ⟨3, _⟩ => ⟨S1024x5376, .f32⟩
  | .hbm, ⟨4, _⟩ => ⟨S16384x1024, .f32⟩
  | .hbm, ⟨5, _⟩ => ⟨S16384x5376, .f32⟩
  | .hbm, ⟨6, _⟩ => ⟨S16384x5376, .f32⟩
  | .hbm, ⟨7, _⟩ => ⟨S5376x1024, .f32⟩
  | .hbm, ⟨8, _⟩ => ⟨S1024x5376, .f32⟩
  | .hbm, ⟨9, _⟩ => ⟨S5376x1024, .f32⟩
  | .hbm, ⟨10, _⟩ => ⟨S5376x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradSquare.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradSquareRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnFwd.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S5632x1024 : Shape := ⟨2, ![5632, 1024]⟩
abbrev S16384x5632 : Shape := ⟨2, ![16384, 5632]⟩
abbrev S16384x2816 : Shape := ⟨2, ![16384, 2816]⟩
abbrev S512x1024 : Shape := ⟨2, ![512, 1024]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S1024x1024 : Shape := ⟨2, ![1024, 1024]⟩
abbrev S768x1024 : Shape := ⟨2, ![768, 1024]⟩
abbrev S512x768 : Shape := ⟨2, ![512, 768]⟩

abbrev nBuf : Space → Nat
  | .hbm => 14
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S5632x1024, .f32⟩
  | .hbm, ⟨8, _⟩ => ⟨S5632x1024, .bf16⟩
  | .hbm, ⟨9, _⟩ => ⟨S2816x1024, .bf16⟩
  | .hbm, ⟨10, _⟩ => ⟨S16384x1024, .f32⟩
  | .hbm, ⟨11, _⟩ => ⟨S16384x5632, .bf16⟩
  | .hbm, ⟨12, _⟩ => ⟨S16384x2816, .bf16⟩
  | .hbm, ⟨13, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S5632x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x5632, .bf16⟩
  | .local _ .vmem, ⟨9, _⟩ => ⟨S512x5632, .bf16⟩
  | .local _ .vmem, ⟨10, _⟩ => ⟨S512x2816, .bf16⟩
  | .local _ .vmem, ⟨11, _⟩ => ⟨S512x2816, .bf16⟩
  | .local _ .vmem, ⟨12, _⟩ => ⟨S512x1024, .bf16⟩
  | .local _ .vmem, ⟨13, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5632x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnFwdRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S16384x1024, .f32⟩
  | .hbm, ⟨67, _⟩ => ⟨S16384x1024, .f32⟩
  | .hbm, ⟨68, _⟩ => ⟨S1x1024, .f32⟩
  | .hbm, ⟨69, _⟩ => ⟨S16384x1024, .f32⟩
  | .hbm, ⟨70, _⟩ => ⟨S16384x1024, .f32⟩
  | .hbm, ⟨71, _⟩ => ⟨S16384x5632, .f32⟩
  | .hbm, ⟨72, _⟩ => ⟨S16384x2816, .f32⟩
  | .hbm, ⟨73, _⟩ => ⟨S16384x2816, .f32⟩
  | .hbm, ⟨74, _⟩ => ⟨S16384x2816, .f32⟩
  | .hbm, ⟨75, _⟩ => ⟨S16384x2816, .f32⟩
  | .hbm, ⟨76, _⟩ => ⟨S_, .f32⟩
  | .hbm, ⟨77, _⟩ => ⟨S16384x2816, .f32⟩
  | .hbm, ⟨78, _⟩ => ⟨S16384x2816, .f32⟩
  | .hbm, ⟨79, _⟩ => ⟨S_, .f32⟩
  | .hbm, ⟨80, _⟩ => ⟨S16384x2816, .f32⟩
  | .hbm, ⟨81, _⟩ => ⟨S16384x2816, .f32⟩
  | .hbm, ⟨82, _⟩ => ⟨S_, .f32⟩
  | .hbm, ⟨83, _⟩ => ⟨S16384x2816, .f32⟩
  | .hbm, ⟨84, _⟩ => ⟨S16384x2816, .f32⟩
  | .hbm, ⟨85, _⟩ => ⟨S16384x2816, .f32⟩
  | .hbm, ⟨86, _⟩ => ⟨S16384x2816, .f32⟩
  | .hbm, ⟨87, _⟩ => ⟨S16384x2816, .f32⟩
  | .hbm, ⟨88, _⟩ => ⟨S_, .f32⟩
  | .hbm, ⟨89, _⟩ => ⟨S16384x2816, .f32⟩
  | .hbm, ⟨90, _⟩ => ⟨S16384x2816, .f32⟩
  | .hbm, ⟨91, _⟩ => ⟨S16384x2816, .f32⟩
  | .hbm, ⟨92, _⟩ => ⟨S16384x2816, .f32⟩
  | .hbm, ⟨93, _⟩ => ⟨S16384x2816, .f32⟩
  | .hbm, ⟨94, _⟩ => ⟨S16384x2816, .f32⟩
  | .hbm, ⟨95, _⟩ => ⟨S16384x2816, .f32⟩
  | .hbm, ⟨96, _⟩ => ⟨S16384x5632, .f32⟩
  | .hbm, ⟨97, _⟩ => ⟨S16384x5632, .bf16⟩
  | .hbm, ⟨98, _⟩ => ⟨S16384x2816, .bf16⟩
  | .hbm, ⟨99, _⟩ => ⟨S16384x1024, .f32⟩
  | .hbm, ⟨100, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_v51_2 : Ref sig .tc := ⟨.hbm, 81, rfl⟩
abbrev main_call1_cst_1 : Ref sig .tc := ⟨.hbm, 82, rfl⟩
abbrev main_call1_v6 : Ref sig .tc := ⟨.hbm, 83, rfl⟩
abbrev main_call1_v7 : Ref sig .tc := ⟨.hbm, 84, rfl⟩
abbrev main_v51_1 : Ref sig .tc := ⟨.hbm, 85, rfl⟩
abbrev main_v51_0 : Ref sig .tc := ⟨.hbm, 86, rfl⟩
abbrev main_v52 : Ref sig .tc := ⟨.hbm, 87, rfl⟩
abbrev main_cst_9 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩

abbrev nD : Nat := 1
abbrev τ : Topo := Topo.v7x

variable {F : FTy → Type} [FloatOps F]
-- ==== FfnLoss.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S5632x1024 : Shape := ⟨2, ![5632, 1024]⟩
abbrev S16384x5632 : Shape := ⟨2, ![16384, 5632]⟩
abbrev S16384x2816 : Shape := ⟨2, ![16384, 2816]⟩
abbrev S512x1024 : Shape := ⟨2, ![512, 1024]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S1024x1024 : Shape := ⟨2, ![1024, 1024]⟩
abbrev S768x1024 : Shape := ⟨2, ![768, 1024]⟩
abbrev S512x768 : Shape := ⟨2, ![512, 768]⟩

abbrev nBuf : Space → Nat
  | .hbm => 16
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S5632x1024, .f32⟩
  | .hbm, ⟨9, _⟩ => ⟨S5632x1024, .bf16⟩
  | .hbm, ⟨10, _⟩ => ⟨S2816x1024, .bf16⟩
  | .hbm, ⟨11, _⟩ => ⟨S16384x5632, .bf16⟩
  | .hbm, ⟨12, _⟩ => ⟨S16384x2816, .bf16⟩
  | .hbm, ⟨13, _⟩ => ⟨S16384x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S5632x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x5632, .bf16⟩
  | .local _ .vmem, ⟨9, _⟩ => ⟨S512x5632, .bf16⟩
  | .local _ .vmem, ⟨10, _⟩ => ⟨S512x2816, .bf16⟩
  | .local _ .vmem, ⟨11, _⟩ => ⟨S512x2816, .bf16⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5632x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnLossRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 130
  | .vmem => 0
  | .smem => 0
  | _ => 0

abbrev hbmTy0_0 (i : Nat) : BufTy := match i % 128 with
  | 0 => ⟨S16384x1024, .f32⟩
  | 1 => ⟨S16384x1024, .f32⟩
  | 2 => ⟨S1024, .f32⟩
  | 3 => ⟨S1024, .f32⟩
  | 4 => ⟨S1024x5632, .f32⟩
  | 5 => ⟨S2816x1024, .f32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S16384x5632, .f32⟩
  | 23 => ⟨S16384x2816, .f32⟩
  | 24 => ⟨S16384x2816, .f32⟩
  | 25 => ⟨S16384x2816, .f32⟩
  | 26 => ⟨S16384x2816, .f32⟩
  | 27 => ⟨S_, .f32⟩
  | 28 => ⟨S16384x2816, .f32⟩
  | 29 => ⟨S16384x2816, .f32⟩
  | 30 => ⟨S_, .f32⟩
  | 31 => ⟨S16384x2816, .f32⟩
  | 32 => ⟨S16384x2816, .f32⟩
  | 33 => ⟨S16384x2816, .f32⟩
  | 34 => ⟨S16384x2816, .f32⟩
  | 35 => ⟨S16384x1024, .f32⟩
  | 36 => ⟨S16384x1024, .f32⟩
  | 37 => ⟨S_, .f32⟩
  | 38 => ⟨S16384, .f32⟩
  | 39 => ⟨S16384x1, .f32⟩
  | 40 => ⟨S_, .f32⟩
  | 41 => ⟨S16384x1, .f32⟩
  | 42 => ⟨S16384x1, .f32⟩
  | 43 => ⟨S_, .f32⟩
  | 44 => ⟨S16384x1, .f32⟩
  | 45 => ⟨S16384x1, .f32⟩
  | 46 => ⟨S16384x1, .f32⟩
  | 47 => ⟨S16384x1024, .f32⟩
  | 48 => ⟨S16384x1024, .f32⟩
  | 49 => ⟨S1x1024, .f32⟩
  | 50 => ⟨S16384x1024, .f32⟩
  | 51 => ⟨S16384x1024, .f32⟩
  | 52 => ⟨S_, .f32⟩
  | 53 => ⟨S16384x1024, .f32⟩
  | 54 => ⟨S16384x1024, .f32⟩
  | 55 => ⟨S16384x1024, .f32⟩
  | 56 => ⟨S16384x1024, .f32⟩
  | 57 => ⟨S_, .f32⟩
  | 58 => ⟨S16384, .f32⟩
  | 59 => ⟨S16384x1, .f32⟩
  | 60 => ⟨S_, .f32⟩
  | 61 => ⟨S16384x1, .f32⟩
  | 62 => ⟨S16384x1, .f32⟩
  | 63 => ⟨S_, .f32⟩
  | 64 => ⟨S16384x1, .f32⟩
  | 65 => ⟨S16384x1, .f32⟩
  | 66 => ⟨S16384x1, .f32⟩
  | 67 => ⟨S16384x1024, .f32⟩
  | 68 => ⟨S16384x1024, .f32⟩
  | 69 => ⟨S1x1024, .f32⟩
  | 70 => ⟨S16384x1024, .f32⟩
  | 71 => ⟨S16384x1024, .f32⟩
  | 72 => ⟨S16384x5632, .f32⟩
  | 73 => ⟨S16384x2816, .f32⟩
  | 74 => ⟨S16384x2816, .f32⟩
  | 75 => ⟨S16384x2816, .f32⟩
  | 76 => ⟨S16384x2816, .f32⟩
  | 77 => ⟨S_, .f32⟩
  | 78 => ⟨S16384x2816, .f32⟩
  | 79 => ⟨S16384x2816, .f32⟩
  | 80 => ⟨S_, .f32⟩
  | 81 => ⟨S16384x2816, .f32⟩
  | 82 => ⟨S16384x2816, .f32⟩
  | 83 => ⟨S_, .f32⟩
  | 84 => ⟨S16384x2816, .f32⟩
  | 85 => ⟨S16384x2816, .f32⟩
  | 86 => ⟨S16384x2816, .f32⟩
  | 87 => ⟨S16384x2816, .f32⟩
  | 88 => ⟨S16384x2816, .f32⟩
  | 89 => ⟨S_, .f32⟩
  | 90 => ⟨S16384x2816, .f32⟩
  | 91 => ⟨S16384x2816, .f32⟩
  | 92 => ⟨S16384x2816, .f32⟩
  | 93 => ⟨S16384x2816, .f32⟩
  | 94 => ⟨S16384x2816, .f32⟩
  | 95 => ⟨S16384x2816, .f32⟩
  | 96 => ⟨S16384x2816, .f32⟩
  | 97 => ⟨S16384x5632, .f32⟩
  | 98 => ⟨S16384x5632, .bf16⟩
  | 99 => ⟨S16384x2816, .bf16⟩
  | 100 => ⟨S16384x1024, .f32⟩
  | 101 => ⟨S16384x1024, .bf16⟩
  | 102 => ⟨S16384x1024, .f32⟩
  | 103 => ⟨S16384x1024, .f32⟩
  | 104 => ⟨S_, .f32⟩
  | 105 => ⟨S1024, .f32⟩
  | 106 => ⟨S1x1024, .f32⟩
  | 107 => ⟨S16384x1024, .f32⟩
  | 108 => ⟨S16384x1024, .f32⟩
  | 109 => ⟨S_, .f32⟩
  | 110 => ⟨S16384x1024, .f32⟩
  | 111 => ⟨S16384x1024, .f32⟩
  | 112 => ⟨S_, .f32⟩
  | 113 => ⟨S16384, .f32⟩
  | 114 => ⟨S_, .f32⟩
  | 115 => ⟨S16384, .f32⟩
  | 116 => ⟨S16384, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S16384, .f32⟩
  | 125 => ⟨S_, .f32⟩
  | 126 => ⟨S16384, .f32⟩
  | 127 => ⟨S16384, .f32⟩
  | _ => ⟨S16384x1024, .f32⟩

abbrev hbmTy0_1 (i : Nat) : BufTy := match i % 128 with
  | 0 => ⟨S16384x1024, .f32⟩
  | 1 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_v51_2 : Ref sig .tc := ⟨.hbm, 82, rfl⟩
abbrev main_call1_cst_1 : Ref sig .tc := ⟨.hbm, 83, rfl⟩
abbrev main_call1_v6 : Ref sig .tc := ⟨.hbm, 84, rfl⟩
abbrev main_call1_v7 : Ref sig .tc := ⟨.hbm, 85, rfl⟩
abbrev main_v51_1 : Ref sig .tc := ⟨.hbm, 86, rfl⟩
abbrev main_v51_0 : Ref sig .tc := ⟨.hbm, 87, rfl⟩
abbrev main_v52 : Ref sig .tc := ⟨.hbm, 88, rfl⟩
abbrev main_cst_9 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_10 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_11 : Ref sig .tc := ⟨.hbm, 109, rfl⟩
abbrev main_v68 : Ref sig .tc := ⟨.hbm, 110, rfl⟩
abbrev main_v69 : Ref sig .tc := ⟨.hbm, 111, rfl⟩
abbrev main_cst_12 : Ref sig .tc := ⟨.hbm, 112, rfl⟩
abbrev main_v70 : Ref sig .tc := ⟨.hbm, 113, rfl⟩
abbrev main_cst_13 : Ref sig .tc := ⟨.hbm, 114, rfl⟩
abbrev main_v71 : Ref sig .tc := ⟨.hbm, 115, rfl⟩
abbrev main_v72 : Ref sig .tc := ⟨.hbm, 116, rfl⟩
abbrev main_cst_14 : Ref sig .tc := ⟨.hbm, 117, rfl⟩
abbrev main_v73 : Ref sig .tc := ⟨.hbm, 118, rfl⟩
abbrev main_cst_15 : Ref sig .tc := ⟨.hbm, 119, rfl⟩
abbrev main_v74 : Ref sig .tc := ⟨.hbm, 120, rfl⟩
abbrev main_cst_16 : Ref sig .tc := ⟨.hbm, 121, rfl⟩
abbrev main_cst_17 : Ref sig .tc := ⟨.hbm, 122, rfl⟩
abbrev main_v75 : Ref sig .tc := ⟨.hbm, 123, rfl⟩
abbrev main_v76 : Ref sig .tc := ⟨.hbm, 124, rfl⟩
abbrev main_cst_18 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩

abbrev nD : Nat := 1
abbrev τ : Topo := Topo.v7x

variable {F : FTy → Type} [FloatOps F]
-- ==== MixInFwd.lean ====
abbrev S16384x1024 : Shape := ⟨2, ![16384, 1024]⟩
abbrev S1024 : Shape := ⟨1, ![1024]⟩
abbrev S1024x5376 : Shape := ⟨2, ![1024, 5376]⟩
abbrev S1x1024 : Shape := ⟨2, ![1, 1024]⟩
abbrev S5376x1024 : Shape := ⟨2, ![5376, 1024]⟩
abbrev S16384x5376 : Shape := ⟨2, ![16384, 5376]⟩
abbrev S1024x1024 : Shape := ⟨2, ![1024, 1024]⟩
abbrev S1024x1 : Shape := ⟨2, ![1024, 1]⟩
abbrev S256x1024 : Shape := ⟨2, ![256, 1024]⟩
abbrev S1024x256 : Shape := ⟨2, ![1024, 256]⟩

abbrev nBuf : Space → Nat
  | .hbm => 7
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5376, .f32⟩
  | .hbm, ⟨3, _⟩ => ⟨S1x1024, .f32⟩
  | .hbm, ⟨4, _⟩ => ⟨S5376x1024, .f32⟩
  | .hbm, ⟨5, _⟩ => ⟨S5376x1024, .bf16⟩
  | .hbm, ⟨6, _⟩ => ⟨S16384x5376, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S5376x1024, .bf16⟩
  | .local _ .vmem, ⟨4, _⟩ => ⟨S1024x5376, .bf16⟩
  | .local _ .vmem, ⟨5, _⟩ => ⟨S1024x5376, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5376x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x5376 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixInFwdRefIdeal.lean ====
abbrev S16384x1024 : Shape := ⟨2, ![16384, 1024]⟩
abbrev S1024 : Shape := ⟨1, ![1024]⟩
abbrev S1024x5376 : Shape := ⟨2, ![1024, 5376]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5376 : Shape := ⟨2, ![16384, 5376]⟩
abbrev S16384x256 : Shape := ⟨2, ![16384, 256]⟩
abbrev S16384x4096 : Shape := ⟨2, ![16384, 4096]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5376, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x5376, .f32⟩
  | .hbm, ⟨20, _⟩ => ⟨S16384x1024, .f32⟩
  | .hbm, ⟨21, _⟩ => ⟨S16384x256, .f32⟩
  | .hbm, ⟨22, _⟩ => ⟨S16384x4096, .f32⟩
  | .hbm, ⟨23, _⟩ => ⟨S16384x5376, .f32⟩
  | .hbm, ⟨24, _⟩ => ⟨S16384x5376, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== MixOutFwd.lean ====
abbrev S16384x1024 : Shape := ⟨2, ![16384, 1024]⟩
abbrev S16384x5376 : Shape := ⟨2, ![16384, 5376]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S1x1024 : Shape := ⟨2, ![1, 1024]⟩
abbrev S8x128x1 : Shape := ⟨3, ![8, 128, 1]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x512 : Shape := ⟨2, ![128, 512]⟩
abbrev S128x1024 : Shape := ⟨2, ![128, 1024]⟩

abbrev nBuf : Space → Nat
  | .hbm => 24
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S16384x5376, .bf16⟩
  | .hbm, ⟨2, _⟩ => ⟨S16384x1024, .bf16⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8x128x1, .f32⟩
  | .hbm, ⟨15, _⟩ => ⟨S8x128x128, .f32⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S16384x1024, .f32⟩
  | .hbm, ⟨20, _⟩ => ⟨S16384x1024, .bf16⟩
  | .hbm, ⟨21, _⟩ => ⟨S16384x1024, .bf16⟩
  | .hbm, ⟨22, _⟩ => ⟨S16384x1024, .bf16⟩
  | .hbm, ⟨23, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S8x128x128, .f32⟩
  | .local _ .vmem, ⟨16, _⟩ => ⟨S8x128x128, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixOutFwdRefIdeal.lean ====
abbrev S16384x1024 : Shape := ⟨2, ![16384, 1024]⟩
abbrev S16384x5376 : Shape := ⟨2, ![16384, 5376]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S128x128x8x128 : Shape := ⟨4, ![128, 128, 8, 128]⟩
abbrev S128x128 : Shape := ⟨2, ![128, 128]⟩
abbrev S1x128x128 : Shape := ⟨3, ![1, 128, 128]⟩
abbrev S8x128x128x128 : Shape := ⟨4, ![8, 128, 128, 128]⟩
abbrev S128x8 : Shape := ⟨2, ![128, 8]⟩
abbrev S1x128x8x1 : Shape := ⟨4, ![1, 128, 8, 1]⟩

abbrev nBuf : Space → Nat
  | .hbm => 130
  | .vmem => 0
  | .smem => 0
  | _ => 0

abbrev hbmTy0_0 (i : Nat) : BufTy := match i % 128 with
  | 0 => ⟨S16384x1024, .f32⟩
  | 1 => ⟨S16384x5376, .bf16⟩
  | 2 => ⟨S16384x1024, .bf16⟩
  | 3 => ⟨S1024, .f32⟩
  | 4 => ⟨S1024, .f32⟩
  | 5 => ⟨S1024, .f32⟩
  | 6 => ⟨S8x128x128, .f32⟩
  | 7 => ⟨S8x128, .f32⟩
  | 8 => ⟨S1024x1024, .f32⟩
  | 9 => ⟨S1024x1024, .f32⟩
  | 10 => ⟨S1024x1024, .f32⟩
  | 11 => ⟨S16384x5376, .f32⟩
  | 12 => ⟨S16384x1024, .f32⟩
  | 13 => ⟨S16384x1024, .f32⟩
  | 14 => ⟨S16384x1024, .f32⟩
  | 15 => ⟨S16384x1024, .f32⟩
  | 16 => ⟨S_, .f32⟩
  | 17 => ⟨S16384x1024, .f32⟩
  | 18 => ⟨S16384x1024, .f32⟩
  | 19 => ⟨S16384x1024, .f32⟩
  | 20 => ⟨S_, .f32⟩
  | 21 => ⟨S16384x1024, .f32⟩
  | 22 => ⟨S16384x1024, .f32⟩
  | 23 => ⟨S16384x1024, .f32⟩
  | 24 => ⟨S16384x1024, .f32⟩
  | 25 => ⟨S_, .f32⟩
  | 26 => ⟨S16384x1024, .f32⟩
  | 27 => ⟨S16384x1024, .f32⟩
  | 28 => ⟨S16384x1024, .f32⟩
  | 29 => ⟨S_, .f32⟩
  | 30 => ⟨S16384x1024, .f32⟩
  | 31 => ⟨S16384x1024, .f32⟩
  | 32 => ⟨S16384x1024, .f32⟩
  | 33 => ⟨S16384x1024, .f32⟩
  | 34 => ⟨S_, .f32⟩
  | 35 => ⟨S16384, .f32⟩
  | 36 => ⟨S16384x1, .f32⟩
  | 37 => ⟨S_, .f32⟩
  | 38 => ⟨S16384x1, .f32⟩
  | 39 => ⟨S16384x1, .f32⟩
  | 40 => ⟨S16384x1024, .f32⟩
  | 41 => ⟨S16384x1024, .f32⟩
  | 42 => ⟨S16384x1024, .f32⟩
  | 43 => ⟨S_, .f32⟩
  | 44 => ⟨S16384, .f32⟩
  | 45 => ⟨S16384x1, .f32⟩
  | 46 => ⟨S_, .f32⟩
  | 47 => ⟨S16384x1, .f32⟩
  | 48 => ⟨S16384x1, .f32⟩
  | 49 => ⟨S_, .f32⟩
  | 50 => ⟨S16384x1, .f32⟩
  | 51 => ⟨S16384x1, .f32⟩
  | 52 => ⟨S16384x1, .f32⟩
  | 53 => ⟨S16384x1024, .f32⟩
  | 54 => ⟨S16384x1024, .f32⟩
  | 55 => ⟨S1x1024, .f32⟩
  | 56 => ⟨S16384x1024, .f32⟩
  | 57 => ⟨S16384x1024, .f32⟩
  | 58 => ⟨S1x1024, .f32⟩
  | 59 => ⟨S16384x1024, .f32⟩
  | 60 => ⟨S16384x1024, .f32⟩
  | 61 => ⟨S128x128x8x128, .f32⟩
  | 62 => ⟨S_, .i1⟩
  | 63 => ⟨S128x128, .i1⟩
  | 64 => ⟨S128x128, .i32⟩
  | 65 => ⟨S_, .i32⟩
  | 66 => ⟨S128x128, .i32⟩
  | 67 => ⟨S128x128, .i32⟩
  | 68 => ⟨S128x128, .i32⟩
  | 69 => ⟨S128x128, .i1⟩
  | 70 => ⟨S_, .i1⟩
  | 71 => ⟨S128x128, .i1⟩
  | 72 => ⟨S128x128, .i1⟩
  | 73 => ⟨S1x128x128, .i1⟩
  | 74 => ⟨S_, .f32⟩
  | 75 => ⟨S8x128x128, .f32⟩
  | 76 => ⟨S8x128x128, .i1⟩
  | 77 => ⟨S8x128x128, .f32⟩
  | 78 => ⟨S8x128x128x128, .f32⟩
  | 79 => ⟨S128x128x8x128, .f32⟩
  | 80 => ⟨S128x8, .f32⟩
  | 81 => ⟨S1x128x8x1, .f32⟩
  | 82 => ⟨S128x128x8x128, .f32⟩
  | 83 => ⟨S128x128x8x128, .f32⟩
  | 84 => ⟨S16384x1024, .f32⟩
  | 85 => ⟨S16384x1024, .f32⟩
  | 86 => ⟨S16384x1024, .f32⟩
  | 87 => ⟨S16384x1024, .f32⟩
  | 88 => ⟨S16384x1024, .f32⟩
  | 89 => ⟨S16384x1024, .f32⟩
  | 90 => ⟨S16384x1024, .f32⟩
  | 91 => ⟨S_, .f32⟩
  | 92 => ⟨S16384x1024, .f32⟩
  | 93 => ⟨S16384x1024, .f32⟩
  | 94 => ⟨S_, .f32⟩
  | 95 => ⟨S16384x1024, .f32⟩
  | 96 => ⟨S16384x1024, .f32⟩
  | 97 => ⟨S16384x1024, .f32⟩
  | 98 => ⟨S16384x1024, .f32⟩
  | 99 => ⟨S16384x1024, .f32⟩
  | 100 => ⟨S_, .f32⟩
  | 101 => ⟨S16384x1024, .f32⟩
  | 102 => ⟨S16384x1024, .f32⟩
  | 103 => ⟨S_, .f32⟩
  | 104 => ⟨S16384x1024, .f32⟩
  | 105 => ⟨S16384x1024, .f32⟩
  | 106 => ⟨S16384x1024, .f32⟩
  | 107 => ⟨S16384x1024, .f32⟩
  | 108 => ⟨S16384x1024, .f32⟩
  | 109 => ⟨S16384x1024, .f32⟩
  | 110 => ⟨S_, .f32⟩
  | 111 => ⟨S16384, .f32⟩
  | 112 => ⟨S16384x1, .f32⟩
  | 113 => ⟨S_, .f32⟩
  | 114 => ⟨S16384x1, .f32⟩
  | 115 => ⟨S16384x1, .f32⟩
  | 116 => ⟨S_, .f32⟩
  | 117 => ⟨S16384x1, .f32⟩
  | 118 => ⟨S16384x1, .f32⟩
  | 119 => ⟨S16384x1, .f32⟩
  | 120 => ⟨S16384x1024, .f32⟩
  | 121 => ⟨S16384x1024, .f32⟩
  | 122 => ⟨S1x1024, .f32⟩
  | 123 => ⟨S16384x1024, .f32⟩
  | 124 => ⟨S16384x1024, .f32⟩
  | 125 => ⟨S16384x1024, .f32⟩
  | 126 => ⟨S16384x1024, .bf16⟩
  | 127 => ⟨S16384x1024, .bf16⟩
  | _ => ⟨S16384x1024, .f32⟩

abbrev hbmTy0_1 (i : Nat) : BufTy := match i % 128 with
  | 0 => ⟨S16384x1024, .bf16⟩
  | 1 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c : Ref sig .tc := ⟨.hbm, 62, rfl⟩
abbrev main_v42 : Ref sig .tc := ⟨.hbm, 63, rfl⟩
abbrev main_call0_v0 : Ref sig .tc := ⟨.hbm, 64, rfl⟩
abbrev main_call0_c : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_c_0 : Ref sig .tc := ⟨.hbm, 70, rfl⟩
abbrev main_call0_v5 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_call1_v0 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_11 : Ref sig .tc := ⟨.hbm, 100, rfl⟩
abbrev main_v67 : Ref sig .tc := ⟨.hbm, 101, rfl⟩
abbrev main_v68 : Ref sig .tc := ⟨.hbm, 102, rfl⟩
abbrev main_cst_12 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_13 : Ref sig .tc := ⟨.hbm, 110, rfl⟩
abbrev main_v75 : Ref sig .tc := ⟨.hbm, 111, rfl⟩
abbrev main_v76 : Ref sig .tc := ⟨.hbm, 112, rfl⟩
abbrev main_cst_14 : Ref sig .tc := ⟨.hbm, 113, rfl⟩
abbrev main_v77 : Ref sig .tc := ⟨.hbm, 114, rfl⟩
abbrev main_v78 : Ref sig .tc := ⟨.hbm, 115, rfl⟩
abbrev main_cst_15 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩

abbrev nD : Nat := 1
abbrev τ : Topo := Topo.v7x

variable {F : FTy → Type} [FloatOps F]
-- ==== Proof.RealMath.lean ====
/- The real numbers behind the half-step: RMS normalisation and its gradient on one row, the gated hidden row and its
   gradient, and how sums, quotients and roots of reals stand in the extended reals. -/
module

public import Idealize.ShloMosaic.Lib.Pointwise
public import Idealize.ShloMosaic.PureOps.Ideal.Laws

@[expose] public section

set_option maxRecDepth 16384

noncomputable section

open Idealize.ShloMosaic

namespace Cert.Half

/-! ## Reals inside the extended reals -/

/-- A finite sum of reals, each read as an extended real, is the sum of the reals. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero. -/
theorem div_coe {b : ℝ} (hb : b ≠ 0) (a : ℝ) : Ideal.div (a : EReal) (b : EReal) = ((a / b : ℝ) : EReal) := by
  rw [Ideal.div_coe hb, ← EReal.coe_mul]; congr 1; ring

/-- The reciprocal root of a positive real. -/
theorem rsqrt_coe {b : ℝ} (hb : 0 < b) : Ideal.rsqrt (b : EReal) = (((Real.sqrt b)⁻¹ : ℝ) : EReal) := by
  rw [Ideal.rsqrt_coe, if_neg (not_lt.mpr hb.le), if_neg hb.ne']

/-- One less a real. -/
theorem one_sub_coe (a : ℝ) : (1 : EReal) - ((a : ℝ) : EReal) = ((1 - a : ℝ) : EReal) := by rw [EReal.coe_sub, EReal.coe_one]

/-- The word of 1024. -/
theorem word_1024 : Ideal.ofBits .f32 0x44800000#32 = ((1024 : ℝ) : EReal) := by
  simp [Ideal.ofBits, Ideal.ieee, ← EReal.coe_mul]; norm_num
/-- The word of one half. -/
theorem word_half : Ideal.ofBits .f32 0x3F000000#32 = ((1 / 2 : ℝ) : EReal) := by
  simp [Ideal.ofBits, Ideal.ieee, ← EReal.coe_mul]; norm_num
/-- The word of minus one half. -/
theorem word_neg_half : Ideal.ofBits .f32 0xBF000000#32 = ((-(1 / 2) : ℝ) : EReal) := by
  simp [Ideal.ofBits, Ideal.ieee, ← EReal.coe_mul]; norm_num
/-- The word of one. -/
theorem word_one : Ideal.ofBits .f32 0x3F800000#32 = ((1 : ℝ) : EReal) := by
  simp [Ideal.ofBits, Ideal.ieee, ← EReal.coe_mul]; norm_num
/-- The word of zero, as a real. -/
theorem word_zero : Ideal.ofBits .f32 0x00000000#32 = ((0 : ℝ) : EReal) := by
  rw [Ideal.ofBits_zero_f32]; rfl

/-- The normalisation's small constant: the f32 nearest one millionth. -/
def eps : ℝ := 8796093 / 8796093022208
theorem eps_pos : 0 < eps := by unfold eps; norm_num
/-- The word of the small constant. -/
theorem word_eps : Ideal.ofBits .f32 0x358637BD#32 = ((eps : ℝ) : EReal) := by
  unfold eps; simp [Ideal.ofBits, Ideal.ieee, ← EReal.coe_mul]; norm_num

/-! ## Matrices of reals -/

/-- The matrix `v` holds the reals `f`. -/
def Holds {a b : ℕ} (v : Shape.Idx ⟨2, ![a, b]⟩ → EReal) (f : Fin a → Fin b → ℝ) : Prop := ∀ p k, v (ix2 p k) = ((f p k : ℝ) : EReal)
/-- The array holding a matrix of reals. -/
abbrev arrOf {a b : ℕ} (f : Fin a → Fin b → ℝ) : Shape.Idx ⟨2, ![a, b]⟩ → EReal := fun i => ((f (i 0) (i 1) : ℝ) : EReal)
/-- A matrix of reals at any index. -/
theorem holds_at {a b : ℕ} {v : Shape.Idx ⟨2, ![a, b]⟩ → EReal} {f : Fin a → Fin b → ℝ} (h : Holds v f) (x : Shape.Idx ⟨2, ![a, b]⟩) :
    v x = ((f (x 0) (x 1) : ℝ) : EReal) := by
  have e : x = ix2 (x 0) (x 1) := by funext d; fin_cases d <;> rfl
  conv_lhs => rw [e]
  exact h _ _
/-- A matrix of reals, as an array. -/
theorem Holds.eq_arrOf {a b : ℕ} {v : Shape.Idx ⟨2, ![a, b]⟩ → EReal} {f : Fin a → Fin b → ℝ} (h : Holds v f) : v = arrOf f :=
  funext fun x => holds_at h x

/-! ## One row's RMS normalisation -/

/-- A row's mean square plus the small constant. -/
def ms (v : Fin 1024 → ℝ) : ℝ := (∑ k, v k * v k) / 1024 + eps
theorem ms_pos (v : Fin 1024 → ℝ) : 0 < ms v := by
  have h : 0 ≤ ∑ k, v k * v k := Finset.sum_nonneg fun k _ => mul_self_nonneg _
  have := eps_pos
  unfold ms; positivity
/-- The reciprocal root of the mean square. -/
def rinv (v : Fin 1024 → ℝ) : ℝ := (Real.sqrt (ms v))⁻¹
theorem rinv_sq (v : Fin 1024 → ℝ) : rinv v * rinv v = (ms v)⁻¹ := by
  unfold rinv; rw [← mul_inv, Real.mul_self_sqrt (ms_pos v).le]
/-- The reciprocal root of a row's mean square, in the extended reals. -/
theorem rsqrt_ms (v : Fin 1024 → ℝ) : Ideal.rsqrt (((∑ k, v k * v k) / 1024 + eps : ℝ) : EReal) = ((rinv v : ℝ) : EReal) :=
  rsqrt_coe (ms_pos v)
/-- The normalised row. -/
def nrm (v : Fin 1024 → ℝ) (k : Fin 1024) : ℝ := v k * rinv v
/-- The gradient of the normalised row's input: `c` is the gradient of the normalised row itself. -/
def rmsGrad (v c : Fin 1024 → ℝ) (k : Fin 1024) : ℝ := rinv v * (c k - nrm v k * ((∑ j, c j * nrm v j) / 1024))
/-- The transposed derivative spells the same gradient through the derivative of the reciprocal root. -/
theorem rmsGrad_eq (v c : Fin 1024 → ℝ) (k : Fin 1024) :
    c k * rinv v + v k * ((∑ j, v j * c j) * (-(1 / 2) * (rinv v / ms v)) / 1024)
      + ((∑ j, v j * c j) * (-(1 / 2) * (rinv v / ms v)) / 1024) * v k = rmsGrad v c k := by
  have h : rinv v / ms v = rinv v * (rinv v * rinv v) := by rw [rinv_sq, div_eq_mul_inv]
  have e : ∑ j, c j * nrm v j = (∑ j, v j * c j) * rinv v := by
    rw [Finset.sum_mul]; exact Finset.sum_congr rfl fun j _ => by unfold nrm; ring
  unfold rmsGrad
  rw [h, e]; unfold nrm; ring

/-! ## The gate -/

/-- The logistic function. -/
def sig (z : ℝ) : ℝ := 1 / (1 + Real.exp (-z))
theorem one_add_exp_ne (z : ℝ) : (1 + Real.exp (-z)) ≠ 0 := (by positivity : (0 : ℝ) < 1 + Real.exp (-z)).ne'
/-- The logistic function as the programs compute it: one over one plus the exponential of the negative. -/
theorem sig_coe (z : ℝ) : Ideal.div 1 (1 + Ideal.exp (-((z : ℝ) : EReal))) = ((sig z : ℝ) : EReal) := by
  rw [← EReal.coe_neg, Ideal.exp_coe, ← EReal.coe_one, ← EReal.coe_add, div_coe (one_add_exp_ne z)]; rfl

/-- The first half of a hidden row. -/
def lo (j : Fin 2816) : Fin 5632 := ⟨j.val, by omega⟩
/-- The second half of a hidden row. -/
def hi (j : Fin 2816) : Fin 5632 := ⟨2816 + j.val, by omega⟩

/-- The gated row: silu of the first half times the second. -/
def gate (a : Fin 5632 → ℝ) (j : Fin 2816) : ℝ := a (lo j) * sig (a (lo j)) * a (hi j)
/-- The gate's derivative in the first half, -/
def gateLo (a : Fin 5632 → ℝ) (j : Fin 2816) : ℝ :=
  a (hi j) * sig (a (lo j)) + a (lo j) * a (hi j) * (sig (a (lo j)) * (1 - sig (a (lo j))))
/-- and in the second. -/
def gateHi (a : Fin 5632 → ℝ) (j : Fin 2816) : ℝ := a (lo j) * sig (a (lo j))
/-- Both, laid end to end. -/
def gateD (a : Fin 5632 → ℝ) (j : Fin 5632) : ℝ :=
  if h : j.val < 2816 then gateLo a ⟨j.val, h⟩ else gateHi a ⟨j.val - 2816, by omega⟩
theorem gateD_lo (a : Fin 5632 → ℝ) (j : Fin 2816) : gateD a (lo j) = gateLo a j := by
  unfold gateD; rw [dif_pos (show (lo j).val < 2816 from j.isLt)]; rfl
theorem gateD_hi (a : Fin 5632 → ℝ) (j : Fin 2816) : gateD a (hi j) = gateHi a j := by
  have h : ¬(hi j).val < 2816 := by show ¬2816 + j.val < 2816; omega
  unfold gateD; rw [dif_neg h]; congr 1; exact Fin.ext (by show 2816 + j.val - 2816 = j.val; omega)
/-- The column of the second half's partner in the first: the gated column a hidden column belongs to. -/
def col (j : Fin 5632) : Fin 2816 := if h : j.val < 2816 then ⟨j.val, h⟩ else ⟨j.val - 2816, by omega⟩
theorem col_lo (j : Fin 2816) : col (lo j) = j := by
  unfold col; rw [dif_pos (show (lo j).val < 2816 from j.isLt)]; rfl
theorem col_hi (j : Fin 2816) : col (hi j) = j := by
  have h : ¬(hi j).val < 2816 := by show ¬2816 + j.val < 2816; omega
  unfold col; rw [dif_neg h]; exact Fin.ext (by show 2816 + j.val - 2816 = j.val; omega)
/-- Every hidden column is in one of the halves. -/
theorem lo_or_hi (j : Fin 5632) : (∃ i, j = lo i) ∨ ∃ i, j = hi i := by
  by_cases h : j.val < 2816
  · exact .inl ⟨⟨j.val, h⟩, rfl⟩
  · exact .inr ⟨⟨j.val - 2816, by omega⟩, Fin.ext (by show j.val = 2816 + (j.val - 2816); omega)⟩

/-! ## The half-step and its gradient, for one token -/

section Row
variable (x pg : Fin 1024 → ℝ) (w1 : Fin 1024 → Fin 5632 → ℝ) (w2 : Fin 2816 → Fin 1024 → ℝ)

/-- The normalised, weighted input. -/
def hRow (k : Fin 1024) : ℝ := nrm x k * pg k
/-- The hidden row. -/
def aRow (j : Fin 5632) : ℝ := ∑ k, hRow x pg k * w1 k j
/-- The second product. -/
def yRow (d : Fin 1024) : ℝ := ∑ j, gate (aRow x pg w1) j * w2 j d

variable (dxo y qg : Fin 1024 → ℝ) (gd : Fin 5632 → ℝ)

/-- The gradient of the second product `y`. -/
def dyRow : Fin 1024 → ℝ := rmsGrad y fun d => 1 / 2 * dxo d * qg d
/-- The gradient of the gated row. -/
def dsRow (j : Fin 2816) : ℝ := ∑ d, dyRow dxo y qg d * w2 j d
/-- The gradient of the hidden row, `gd` the gate's derivatives. -/
def daRow (j : Fin 5632) : ℝ := dsRow w2 dxo y qg (col j) * gd j
/-- The gradient of the normalised, weighted input. -/
def dhRow (d : Fin 1024) : ℝ := ∑ j, daRow w2 dxo y qg gd j * w1 d j
/-- The gradient of the input. -/
def dxRow (d : Fin 1024) : ℝ := dxo d + rmsGrad x (fun k => dhRow w1 w2 dxo y qg gd k * pg k) d
/-- This token's part of the first weight's gradient, -/
def dpgRow (d : Fin 1024) : ℝ := dhRow w1 w2 dxo y qg gd d * nrm x d
/-- and of the second's. -/
def dqgRow (d : Fin 1024) : ℝ := 1 / 2 * dxo d * nrm y d
end Row

/-! ## The hidden columns in six runs -/

/-- A hidden row's sum, in the order in which the kernel takes its columns. -/
theorem sum_chunks (f : Fin 5632 → ℝ) :
    ∑ j, f j = ((((∑ k : Fin 1024, f ⟨k, by omega⟩ + ∑ k : Fin 1024, f ⟨2816 + k, by omega⟩)
      + ∑ k : Fin 1024, f ⟨1024 + k, by omega⟩) + ∑ k : Fin 1024, f ⟨3840 + k, by omega⟩)
      + ∑ k : Fin 768, f ⟨2048 + k, by omega⟩) + ∑ k : Fin 768, f ⟨4864 + k, by omega⟩ := by
  have e : ∑ j, f j = ∑ j : Fin (1024 + (1024 + (768 + (1024 + (1024 + 768))))), f ⟨j, j.isLt⟩ := rfl
  rw [e, Fin.sum_univ_add, Fin.sum_univ_add, Fin.sum_univ_add, Fin.sum_univ_add, Fin.sum_univ_add]
  have r : ∀ {n : ℕ} (o o' : ℕ) (h : ∀ k : Fin n, o + k.val < 5632) (h' : ∀ k : Fin n, o' + k.val < 5632), o = o' →
      ∑ k : Fin n, f ⟨o + k, h k⟩ = ∑ k : Fin n, f ⟨o' + k, h' k⟩ := by rintro n o o' h h' rfl; rfl
  simp only [Fin.val_castAdd, Fin.val_natAdd, ← Nat.add_assoc, Nat.reduceAdd]
  ring

/-! ## The arguments -/

/-- The real numbers the six arguments hold: the output's gradient, the input, the two weights of the normalisations and the
    two matrices. -/
structure Reals where
  dxo : Fin 16384 → Fin 1024 → ℝ
  x : Fin 16384 → Fin 1024 → ℝ
  pg : Fin 1024 → ℝ
  qg : Fin 1024 → ℝ
  w1 : Fin 1024 → Fin 5632 → ℝ
  w2 : Fin 2816 → Fin 1024 → ℝ

/-- The six arrays hold these numbers. -/
structure ArgsHold (a0 a1 : Shape.Idx ⟨2, ![16384, 1024]⟩ → EReal) (a2 a3 : Shape.Idx ⟨1, ![1024]⟩ → EReal)
    (a4 : Shape.Idx ⟨2, ![1024, 5632]⟩ → EReal) (a5 : Shape.Idx ⟨2, ![2816, 1024]⟩ → EReal) (R : Reals) : Prop where
  dxo : ∀ r k, a0 (ix2 r k) = ((R.dxo r k : ℝ) : EReal)
  x : ∀ r k, a1 (ix2 r k) = ((R.x r k : ℝ) : EReal)
  pg : ∀ k, a2 (ix1 k) = ((R.pg k : ℝ) : EReal)
  qg : ∀ k, a3 (ix1 k) = ((R.qg k : ℝ) : EReal)
  w1 : ∀ k j, a4 (ix2 k j) = ((R.w1 k j : ℝ) : EReal)
  w2 : ∀ j k, a5 (ix2 j k) = ((R.w2 j k : ℝ) : EReal)

namespace Reals
variable (R : Reals)
/-- The hidden row of token `r`, -/
def a (r : Fin 16384) : Fin 5632 → ℝ := aRow (R.x r) R.pg R.w1
/-- its second product, -/
def y (r : Fin 16384) : Fin 1024 → ℝ := yRow (R.x r) R.pg R.w1 R.w2
/-- its gate's derivatives, -/
def gd (r : Fin 16384) : Fin 5632 → ℝ := gateD (R.a r)
/-- and the six results: the input's gradient, -/
def dx (r : Fin 16384) : Fin 1024 → ℝ := dxRow (R.x r) R.pg R.w1 R.w2 (R.dxo r) (R.y r) R.qg (R.gd r)
/-- the hidden row's gradient, -/
def da (r : Fin 16384) : Fin 5632 → ℝ := daRow R.w2 (R.dxo r) (R.y r) R.qg (R.gd r)
/-- the second product's gradient, -/
def dy (r : Fin 16384) : Fin 1024 → ℝ := dyRow (R.dxo r) (R.y r) R.qg
/-- the normalised input, -/
def h (r : Fin 16384) : Fin 1024 → ℝ := hRow (R.x r) R.pg
/-- the gradients of the two weights, summed over the tokens. -/
def dpg (k : Fin 1024) : ℝ := ∑ r, dpgRow (R.x r) R.w1 R.w2 (R.dxo r) (R.y r) R.qg (R.gd r) k
def dqg (k : Fin 1024) : ℝ := ∑ r, dqgRow (R.dxo r) (R.y r) k
end Reals

end Cert.Half

end
-- ==== Proof.KernelPay.lean ====
/- What the body computes at one grid point, over the reals: each stored value of `ffn_bwd` at a row and a column, given
   that the point's input blocks hold reals. -/
module

public import proofs.«01_k».proof.Proof.RealMath
public import proofs.«01_k».proof.Proof.Gen.KernelIdeal.Skeleton
public import Idealize.ShloMosaic.Lib.Pointwise

@[expose] public section

set_option maxRecDepth 16384

noncomputable section

open Idealize.ShloMosaic Cert.Half
open Cert.KernelIdeal Cert.KernelIdeal.Gen

namespace Cert.KernelIdeal.Pay

section Rms
variable {x : FVec Ideal S256x1024 .f32} {y : FVec Ideal S256x1024 .bf16} {X Y : Fin 256 → Fin 1024 → ℝ}

theorem pay5 (hy : Holds y Y) : Holds (k0_pay5 (F := Ideal) y) fun p _ => rinv (Y p) := by
  intro p k
  obtain rfl : k = 0 := Subsingleton.elim _ _
  pointwise [k0_pay5, k0_pay4]
  simp only [hy _ _, ← EReal.coe_mul, sum_coe, word_1024, word_eps, div_coe (show (1024 : ℝ) ≠ 0 by norm_num), ← EReal.coe_add]
  exact rsqrt_coe (ms_pos _)

theorem pay6 (hy : Holds y Y) : Holds (k0_pay6 (F := Ideal) y) fun p => nrm (Y p) := by
  intro p k
  pointwise [k0_pay6, k0_pay4]
  simp only [hy _ _, pay5 hy _ _, ← EReal.coe_mul]; rfl

theorem pay12 (hx : Holds x X) : Holds (k0_pay12 (F := Ideal) x) fun p _ => rinv (X p) := by
  intro p k
  obtain rfl : k = 0 := Subsingleton.elim _ _
  pointwise [k0_pay12]
  simp only [hx _ _, ← EReal.coe_mul, sum_coe, word_1024, word_eps, div_coe (show (1024 : ℝ) ≠ 0 by norm_num), ← EReal.coe_add]
  exact rsqrt_coe (ms_pos _)

theorem pay13 (hx : Holds x X) : Holds (k0_pay13 (F := Ideal) x) fun p => nrm (X p) := by
  intro p k
  pointwise [k0_pay13]
  simp only [hx _ _, pay12 hx _ _, ← EReal.coe_mul]; rfl

theorem pay14 {g : FVec Ideal S1x1024 .f32} {G : Fin 1024 → ℝ} (hx : Holds x X) (hg : Holds g fun _ => G) :
    Holds (k0_pay14 (F := Ideal) g x) fun p => hRow (X p) G := by
  intro p k
  pointwise [k0_pay14, k0_pay11]
  simp only [hg _ _, pay13 hx _ _, ← EReal.coe_mul]; rfl

variable {d : FVec Ideal S256x1024 .f32} {q acc : FVec Ideal S1x1024 .f32} {D : Fin 256 → Fin 1024 → ℝ} {Q A : Fin 1024 → ℝ}

theorem pay7 (hd : Holds d D) : Holds (k0_pay7 (F := Ideal) d) fun p k => 1 / 2 * D p k := by
  intro p k
  pointwise [k0_pay7]
  simp only [hd _ _, word_half, ← EReal.coe_mul]

theorem pay8 (hd : Holds d D) (hy : Holds y Y) (ha : Holds acc fun _ => A) :
    Holds (k0_pay8 (F := Ideal) d y acc) fun _ k => A k + ∑ p, dqgRow (D p) (Y p) k := by
  intro p k
  pointwise [k0_pay8]
  simp only [pay7 hd _ _, pay6 hy _ _, ha _ _, ← EReal.coe_mul, sum_coe, ← EReal.coe_add]; rfl

theorem pay9 (hd : Holds d D) (hq : Holds q fun _ => Q) (hy : Holds y Y) :
    Holds (k0_pay9 (F := Ideal) d q y) fun p k =>
      1 / 2 * D p k * Q k - nrm (Y p) k * ((∑ j, 1 / 2 * D p j * Q j * nrm (Y p) j) / 1024) := by
  intro p k
  pointwise [k0_pay9]
  simp only [pay7 hd _ _, pay6 hy _ _, hq _ _, ← EReal.coe_mul, sum_coe, word_1024, div_coe (show (1024 : ℝ) ≠ 0 by norm_num),
    ← EReal.coe_sub]

theorem pay10 (hd : Holds d D) (hq : Holds q fun _ => Q) (hy : Holds y Y) :
    Holds (k0_pay10 (F := Ideal) (k0_pay5 y) (k0_pay9 d q y)) fun p => dyRow (D p) (Y p) Q := by
  intro p k
  pointwise [k0_pay10]
  simp only [pay5 hy _ _, pay9 hd hq hy _ _, ← EReal.coe_mul]; rfl
end Rms

/-! ## The products with the weights, run by run -/

section Gate
variable {v16 : FVec Ideal S256x1 .f32} {v37 : FVec Ideal S256x1024 .f32} {v40 : FVec Ideal S256x1024 .bf16}
  {DY : Fin 256 → Fin 1024 → ℝ}

/-- The gradient of one run of gated columns times the gate's derivatives there. -/
def da {n : ℕ} (DY : Fin 256 → Fin 1024 → ℝ) (W : Fin n → Fin 1024 → ℝ) (G : Fin 256 → Fin n → ℝ) (p : Fin 256) (k : Fin n) : ℝ :=
  (∑ d, DY p d * W k d) * G p k

variable {w : FVec Ideal S1024x1024 .bf16} {g : FVec Ideal S256x1024 .bf16} {W : Fin 1024 → Fin 1024 → ℝ}
  {G : Fin 256 → Fin 1024 → ℝ}

theorem pay17 (hy : Holds (k0_pay10 (F := Ideal) v16 v37) DY) (hw : Holds w W) (hg : Holds g G) :
    Holds (k0_pay17 (F := Ideal) v16 v37 w g) (da DY W G) := by
  intro p k
  pointwise [k0_pay17, k0_pay16]
  simp only [hy _ _, hw _ _, hg _ _, ← EReal.coe_mul, sum_coe]; rfl

theorem pay18 (hy : Holds (k0_pay10 (F := Ideal) v16 v37) DY) (hw : Holds w W) (hg : Holds g G) :
    Holds (k0_pay18 (F := Ideal) v16 v37 w g) (da DY W G) := pay17 hy hw hg

theorem pay20 (hy : Holds v40 DY) (hw : Holds w W) (hg : Holds g G) : Holds (k0_pay20 (F := Ideal) v40 w g) (da DY W G) := by
  intro p k
  pointwise [k0_pay20, k0_pay19]
  simp only [hy _ _, hw _ _, hg _ _, ← EReal.coe_mul, sum_coe]; rfl

theorem pay21 (hy : Holds v40 DY) (hw : Holds w W) (hg : Holds g G) : Holds (k0_pay21 (F := Ideal) v40 w g) (da DY W G) :=
  pay20 hy hw hg

theorem pay24 {w : FVec Ideal S768x1024 .bf16} {g : FVec Ideal S256x768 .bf16} {W : Fin 768 → Fin 1024 → ℝ}
    {G : Fin 256 → Fin 768 → ℝ} (hy : Holds v40 DY) (hw : Holds w W) (hg : Holds g G) :
    Holds (k0_pay24 (F := Ideal) v40 w g) (da DY W G) := by
  intro p k
  pointwise [k0_pay24, k0_pay23]
  simp only [hy _ _, hw _ _, hg _ _, ← EReal.coe_mul, sum_coe]; rfl

theorem pay25 {w : FVec Ideal S768x1024 .bf16} {g : FVec Ideal S256x768 .bf16} {W : Fin 768 → Fin 1024 → ℝ}
    {G : Fin 256 → Fin 768 → ℝ} (hy : Holds v40 DY) (hw : Holds w W) (hg : Holds g G) :
    Holds (k0_pay25 (F := Ideal) v40 w g) (da DY W G) := pay24 hy hw hg

/-- The part of the normalised input's gradient that one run of columns gives. -/
def dhPart {n : ℕ} (A : Fin 256 → Fin n → ℝ) (W : Fin n → Fin 1024 → ℝ) (p : Fin 256) (d : Fin 1024) : ℝ := ∑ k, A p k * W k d

theorem pay22 {v67 v72 g1 u1 : FVec Ideal S256x1024 .bf16} {a0 b0 w1 a1 b1 : FVec Ideal S1024x1024 .bf16}
    {D0 U0 G1 U1 : Fin 256 → Fin 1024 → ℝ} {A0 B0 W1 A1 B1 : Fin 1024 → Fin 1024 → ℝ}
    (hy : Holds v40 DY) (h67 : Holds v67 D0) (h72 : Holds v72 U0) (ha0 : Holds a0 A0) (hb0 : Holds b0 B0) (hw : Holds w1 W1)
    (hg1 : Holds g1 G1) (hu1 : Holds u1 U1) (ha1 : Holds a1 A1) (hb1 : Holds b1 B1) :
    Holds (k0_pay22 (F := Ideal) v40 k0_pay15 v67 v72 a0 b0 w1 g1 u1 a1 b1) fun p d =>
      ((dhPart D0 A0 p d + dhPart U0 B0 p d) + dhPart (da DY W1 G1) A1 p d) + dhPart (da DY W1 U1) B1 p d := by
  intro p k
  pointwise [k0_pay22, k0_pay15]
  simp only [pay20 hy hw hg1 _ _, pay21 hy hw hu1 _ _, h67 _ _, h72 _ _, ha0 _ _, hb0 _ _, ha1 _ _, hb1 _ _, ← EReal.coe_mul,
    sum_coe, ← EReal.coe_add]; rfl

theorem pay26 {v105 : FVec Ideal S256x1024 .f32} {w a b : FVec Ideal S768x1024 .bf16} {g u : FVec Ideal S256x768 .bf16}
    {H : Fin 256 → Fin 1024 → ℝ} {G U : Fin 256 → Fin 768 → ℝ} {W A B : Fin 768 → Fin 1024 → ℝ}
    (hy : Holds v40 DY) (h105 : Holds v105 H) (hw : Holds w W) (hg : Holds g G) (hu : Holds u U) (ha : Holds a A) (hb : Holds b B) :
    Holds (k0_pay26 (F := Ideal) v40 v105 w g u a b) fun p d =>
      (H p d + dhPart (da DY W G) A p d) + dhPart (da DY W U) B p d := by
  intro p k
  pointwise [k0_pay26]
  simp only [pay24 hy hw hg _ _, pay25 hy hw hu _ _, h105 _ _, ha _ _, hb _ _, ← EReal.coe_mul,
    sum_coe, ← EReal.coe_add]; rfl
end Gate

section Out
variable {v40 : FVec Ideal S256x1024 .bf16} {v105 x dxo : FVec Ideal S256x1024 .f32} {w a b : FVec Ideal S768x1024 .bf16}
  {g u : FVec Ideal S256x768 .bf16} {pg acc : FVec Ideal S1x1024 .f32} {DH X D : Fin 256 → Fin 1024 → ℝ} {P A : Fin 1024 → ℝ}

theorem pay27 (hd : Holds (k0_pay26 (F := Ideal) v40 v105 w g u a b) DH) (hx : Holds x X) (hacc : Holds acc fun _ => A) :
    Holds (k0_pay27 (F := Ideal) v40 (k0_pay13 x) v105 w g u a b acc) fun _ k => A k + ∑ p, DH p k * nrm (X p) k := by
  intro p k
  pointwise [k0_pay27]
  simp only [hd _ _, pay13 hx _ _, hacc _ _, ← EReal.coe_mul, sum_coe, ← EReal.coe_add]

theorem pay1 (hd : Holds (k0_pay26 (F := Ideal) v40 v105 w g u a b) DH) (hx : Holds x X) (hpg : Holds pg fun _ => P)
    (hdxo : Holds dxo D) :
    Holds (k0_pay1 (F := Ideal) dxo (k0_pay12 x) (k0_pay13 x) (k0_pay28 v40 (k0_pay11 pg) v105 w g u a b)
      (k0_pay29 v40 (k0_pay11 pg) (k0_pay13 x) v105 w g u a b)) fun p k => D p k + rmsGrad (X p) (fun j => DH p j * P j) k := by
  intro p k
  pointwise [k0_pay1, k0_pay28, k0_pay29, k0_pay11]
  simp only [hd _ _, pay13 hx _ _, pay12 hx _ _, hpg _ _, hdxo _ _, ← EReal.coe_mul, sum_coe, word_1024,
    div_coe (show (1024 : ℝ) ≠ 0 by norm_num), ← EReal.coe_add, ← EReal.coe_sub]; rfl

theorem pay2 : Holds (k0_pay2 (F := Ideal)) fun _ _ => 0 := by
  intro p k
  pointwise [k0_pay2]
  rfl
theorem pay3 : Holds (k0_pay3 (F := Ideal)) fun _ _ => 0 := by
  intro p k
  pointwise [k0_pay3]
  rfl
end Out

end Cert.KernelIdeal.Pay

end
-- ==== Proof.KernelHost.lean ====
/- The arrays the host hands the kernel, over the reals: the gate's derivatives, the second product, the transposed first
   matrix and the weights as rows, and the blocks of them that a grid point reads. -/
module

public import proofs.«01_k».proof.Proof.KernelPay
public import proofs.«01_k».proof.Proof.Gen.KernelIdeal.Value
public import Idealize.ShloMosaic.Lib.StableHlo.ReadAt
public import Idealize.ShloMosaic.Lib.Pipeline.ValueKit

@[expose] public section

set_option maxRecDepth 16384

noncomputable section

open Idealize.ShloMosaic Cert.Half Idealize.ShloMosaic.TcCoe
open Cert.KernelIdeal Cert.KernelIdeal.Gen Cert.KernelIdeal.Pay

namespace Cert.KernelIdeal.HostValue

variable (m : (ℓ : Loc nD τ sig) → Buf (Elt Ideal) ℓ)

/-- Device `c`'s six arguments hold the numbers `R`. -/
abbrev ArgsAt (c : Dev nD) (R : Reals) : Prop :=
  ArgsHold (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5)) R

variable {m} {c : Dev nD} {R : Reals}

theorem w1t_eq (h : ArgsAt m c R) (j : Fin 5632) (k : Fin 1024) :
    (V m c main_v33 : FVec Ideal S5632x1024 .bf16) (ix2 j k) = ((R.w1 k j : ℝ) : EReal) := by
  unfold V
  after_reads_at
  exact h.w1 k j

theorem w2_eq (h : ArgsAt m c R) (j : Fin 2816) (k : Fin 1024) :
    (V m c main_v34 : FVec Ideal S2816x1024 .bf16) (ix2 j k) = ((R.w2 j k : ℝ) : EReal) := by
  unfold V
  after_reads_at
  exact h.w2 j k

theorem pg_eq (h : ArgsAt m c R) (k : Fin 1024) :
    (V m c main_v30 : FVec Ideal S1x1024 .f32) (ix2 0 k) = ((R.pg k : ℝ) : EReal) := by
  unfold V
  after_reads_at
  exact h.pg k

theorem qg_eq (h : ArgsAt m c R) (k : Fin 1024) :
    (V m c main_v31 : FVec Ideal S1x1024 .f32) (ix2 0 k) = ((R.qg k : ℝ) : EReal) := by
  unfold V
  after_reads_at
  exact h.qg k

theorem y_eq (h : ArgsAt m c R) (r : Fin 16384) (k : Fin 1024) :
    (V m c main_v29 : FVec Ideal S16384x1024 .bf16) (ix2 r k) = ((R.y r k : ℝ) : EReal) := by
  unfold V
  after_reads_at
  simp only [h.x _ _, h.pg _, h.w1 _ _, h.w2 _ _, ← EReal.coe_mul, sum_coe, word_1024, word_eps,
    div_coe (show (1024 : ℝ) ≠ 0 by norm_num), ← EReal.coe_add, rsqrt_ms, sig_coe]
  rfl

theorem gdLo_eq (h : ArgsAt m c R) (r : Fin 16384) (j : Fin 2816) :
    (V m c main_v28 : FVec Ideal S16384x5632 .bf16) (ix2 r (lo j)) = ((gateLo (R.a r) j : ℝ) : EReal) := by
  unfold V
  after_reads_at
  rw [dif_pos (show (lo j).val < 2816 from j.isLt)]
  after_reads_at
  simp only [h.x _ _, h.pg _, h.w1 _ _, h.w2 _ _, ← EReal.coe_mul, sum_coe, word_1024, word_eps,
    div_coe (show (1024 : ℝ) ≠ 0 by norm_num), ← EReal.coe_add, rsqrt_ms, sig_coe, one_sub_coe]
  rfl

theorem gdHi_eq (h : ArgsAt m c R) (r : Fin 16384) (j : Fin 2816) :
    (V m c main_v28 : FVec Ideal S16384x5632 .bf16) (ix2 r (hi j)) = ((gateHi (R.a r) j : ℝ) : EReal) := by
  unfold V
  after_reads_at
  rw [dif_neg (show ¬(hi j).val < 2816 by show ¬2816 + j.val < 2816; omega)]
  after_reads_at
  simp only [show ∀ l, (⟨(hi j).val - 2816, l⟩ : Fin 5632) = lo j from fun _ => Fin.ext (Nat.add_sub_cancel_left ..),
    h.x _ _, h.pg _, h.w1 _ _, h.w2 _ _, ← EReal.coe_mul, sum_coe, word_1024, word_eps,
    div_coe (show (1024 : ℝ) ≠ 0 by norm_num), ← EReal.coe_add, rsqrt_ms, sig_coe]
  rfl

theorem gd_eq (h : ArgsAt m c R) (r : Fin 16384) (j : Fin 5632) :
    (V m c main_v28 : FVec Ideal S16384x5632 .bf16) (ix2 r j) = ((R.gd r j : ℝ) : EReal) := by
  rcases lo_or_hi j with ⟨i, rfl⟩ | ⟨i, rfl⟩
  · rw [gdLo_eq h, Reals.gd, gateD_lo]
  · rw [gdHi_eq h, Reals.gd, gateD_hi]

/-! ## The blocks a grid point reads -/

/-- The token of row `p` of point `t`. -/
def tok (t : Fin cfg0.N) (p : Fin 256) : Fin 16384 := ⟨256 * t.val + p.val, by have := t.isLt; have e : cfg0.N = 64 := rfl; omega⟩

theorem idx_row : ∀ t : Fin cfg0.N, win0_0.index t = ![t.val, 0] ∧ win0_1.index t = ![t.val, 0] ∧ win0_2.index t = ![t.val, 0]
    ∧ win0_3.index t = ![t.val, 0] :=
  (by decide +kernel : ∀ t : Fin grid0.N, _)
theorem idx_whole : ∀ t : Fin cfg0.N, win0_4.index t = ![0, 0] ∧ win0_5.index t = ![0, 0] ∧ win0_6.index t = ![0, 0]
    ∧ win0_7.index t = ![0, 0] :=
  (by decide +kernel : ∀ t : Fin grid0.N, _)

theorem blk0 (h : ArgsAt m c R) (t : Fin cfg0.N) : Holds (iblk m c 0 t : FVec Ideal S256x1024 .f32) fun p => R.dxo (tok t p) := by
  intro p k
  refine Eq.trans ?_ (h.dxo (tok t p) k)
  blk_simp [iblk]
  rw [V_main_arg0]
  congr 1
  blk_ext [(idx_row t).1, tok]

theorem blk1 (h : ArgsAt m c R) (t : Fin cfg0.N) : Holds (iblk m c 1 t : FVec Ideal S256x1024 .f32) fun p => R.x (tok t p) := by
  intro p k
  refine Eq.trans ?_ (h.x (tok t p) k)
  blk_simp [iblk]
  rw [V_main_arg1]
  congr 1
  blk_ext [(idx_row t).2.1, tok]

theorem blk2 (h : ArgsAt m c R) (t : Fin cfg0.N) : Holds (iblk m c 2 t : FVec Ideal S256x1024 .bf16) fun p => R.y (tok t p) := by
  intro p k
  refine Eq.trans ?_ (y_eq h (tok t p) k)
  blk_simp [iblk]
  congr 1
  blk_ext [(idx_row t).2.2.1, tok]

theorem blk3 (h : ArgsAt m c R) (t : Fin cfg0.N) : Holds (iblk m c 3 t : FVec Ideal S256x5632 .bf16) fun p => R.gd (tok t p) := by
  intro p k
  refine Eq.trans ?_ (gd_eq h (tok t p) k)
  blk_simp [iblk]
  congr 1
  blk_ext [(idx_row t).2.2.2, tok]

theorem blk4 (h : ArgsAt m c R) (t : Fin cfg0.N) : Holds (iblk m c 4 t : FVec Ideal S1x1024 .f32) fun _ => R.pg := by
  intro p k
  refine Eq.trans ?_ (pg_eq h k)
  blk_simp [iblk]
  congr 1
  blk_ext [(idx_whole t).1]

theorem blk5 (h : ArgsAt m c R) (t : Fin cfg0.N) : Holds (iblk m c 5 t : FVec Ideal S1x1024 .f32) fun _ => R.qg := by
  intro p k
  refine Eq.trans ?_ (qg_eq h k)
  blk_simp [iblk]
  congr 1
  blk_ext [(idx_whole t).2.1]

theorem blk6 (h : ArgsAt m c R) (t : Fin cfg0.N) : Holds (iblk m c 6 t : FVec Ideal S5632x1024 .bf16) fun j k => R.w1 k j := by
  intro j k
  refine Eq.trans ?_ (w1t_eq h j k)
  blk_simp [iblk]
  congr 1
  blk_ext [(idx_whole t).2.2.1]

theorem blk7 (h : ArgsAt m c R) (t : Fin cfg0.N) : Holds (iblk m c 7 t : FVec Ideal S2816x1024 .bf16) R.w2 := by
  intro j k
  refine Eq.trans ?_ (w2_eq h j k)
  blk_simp [iblk]
  congr 1
  blk_ext [(idx_whole t).2.2.2]

end Cert.KernelIdeal.HostValue

end
-- ==== Proof.Blocks.lean ====
/- Rectangles of matrices of reals, and sums over the points of a grid. -/
module

public import proofs.«01_k».proof.Proof.RealMath
public import Idealize.ShloMosaic.Lib.Pipeline.ValueKit

@[expose] public section

set_option maxRecDepth 16384

noncomputable section

open Idealize.ShloMosaic

namespace Cert.Half

/-- A rectangle of a matrix, as a load reads it. -/
abbrev cut {a b : ℕ} {e : EltTy} (x : Vec Ideal ⟨2, ![a, b]⟩ e) (o0 o1 n0 n1 : ℕ)
    (inb : ∀ d, ![o0, o1] d + ![n0, n1] d ≤ (⟨2, ![a, b]⟩ : Shape).size d) : Vec Ideal ⟨2, ![n0, n1]⟩ e :=
  View.ld (Val := Elt Ideal) (e' := e) x (Rect.unit (s := ⟨2, ![a, b]⟩) ![o0, o1] ![n0, n1] inb)

/-- A place of the rectangle is the matrix's place that far beyond its corner. -/
theorem cut_at {a b n0 n1 o0 o1 : ℕ} {e : EltTy} (x : Vec Ideal ⟨2, ![a, b]⟩ e)
    (inb : ∀ d, ![o0, o1] d + ![n0, n1] d ≤ (⟨2, ![a, b]⟩ : Shape).size d) (h0 : o0 + n0 ≤ a) (h1 : o1 + n1 ≤ b) (p : Fin n0) (k : Fin n1) :
    cut x o0 o1 n0 n1 inb (ix2 p k) = x (ix2 ⟨o0 + p, by omega⟩ ⟨o1 + k, by omega⟩) := by
  refine View.ld_unit_apply_of (Val := Elt Ideal) (e := e) x _ _ inb (ix2 p k) _ fun d => ?_
  fin_cases d <;> rfl

/-- A rectangle read out of a matrix of reals. -/
theorem holds_ld {a b n0 n1 o0 o1 : ℕ} {x : FVec Ideal ⟨2, ![a, b]⟩ .bf16} {f : Fin a → Fin b → ℝ} (hx : Holds x f)
    (inb : ∀ d, ![o0, o1] d + ![n0, n1] d ≤ (⟨2, ![a, b]⟩ : Shape).size d) (h0 : o0 + n0 ≤ a) (h1 : o1 + n1 ≤ b) :
    Holds (cut (e := .bf16) x o0 o1 n0 n1 inb) fun p k => f ⟨o0 + p, by omega⟩ ⟨o1 + k, by omega⟩ :=
  fun p k => (cut_at (e := .bf16) x inb h0 h1 p k).trans (hx _ _)

/-- A sum over the points up to point `n`. -/
def runSum {M : Type} [AddCommMonoid M] (T : ℕ → M) (n : ℕ) : M := ∑ s ∈ Finset.range (n + 1), T s
theorem runSum_zero {M : Type} [AddCommMonoid M] (T : ℕ → M) : 0 + T 0 = runSum T 0 := by unfold runSum; simp
theorem runSum_succ {M : Type} [AddCommMonoid M] (T : ℕ → M) (n : ℕ) : runSum T n + T (n + 1) = runSum T (n + 1) := by
  unfold runSum; rw [Finset.sum_range_succ (n := n + 1)]
/-- Sums over runs of `b` rows, added up, are the sum over all the rows. -/
theorem runSum_rows {M : Type} [AddCommMonoid M] {a b : ℕ} {T : ℕ → M} {N : ℕ} (hN : N = (a + 1) * b) (f : Fin N → M)
    (hT : ∀ s (hs : s < a + 1), T s = ∑ p : Fin b, f ⟨b * s + p.val, by
      have := p.isLt; have : b * s + b ≤ N := by rw [hN, Nat.mul_comm (a + 1)]; exact (Nat.mul_succ b s) ▸ Nat.mul_le_mul_left b hs
      omega⟩) : runSum T a = ∑ r, f r := by
  subst hN
  unfold runSum
  rw [← Fin.sum_mul_add_fin (a + 1) b f, Finset.sum_range]
  exact Finset.sum_congr rfl fun s _ => (hT s.val s.isLt).trans (Finset.sum_congr rfl fun p _ =>
    congrArg f (Fin.ext (by show b * s.val + p.val = s.val * b + p.val; rw [Nat.mul_comm])))

end Cert.Half

end
-- ==== Proof.KernelPoint.lean ====
/- What one grid point leaves in its six output blocks, over the reals. -/
module

public import proofs.«01_k».proof.Proof.KernelHost
public import proofs.«01_k».proof.Proof.Blocks

@[expose] public section

set_option maxRecDepth 16384

noncomputable section

open Idealize.ShloMosaic Cert.Half Idealize.ShloMosaic.TcCoe
open Cert.KernelIdeal Cert.KernelIdeal.Gen Cert.KernelIdeal.Pay Cert.KernelIdeal.HostValue

namespace Cert.KernelIdeal.Point

section Body
variable {x0 x1 : FVec Ideal S256x1024 .f32} {x2 : FVec Ideal S256x1024 .bf16} {x3 : FVec Ideal S256x5632 .bf16}
  {x4 x5 : FVec Ideal S1x1024 .f32} {x6 : FVec Ideal S5632x1024 .bf16} {x7 : FVec Ideal S2816x1024 .bf16}
  {D X Y : Fin 256 → Fin 1024 → ℝ} {G : Fin 256 → Fin 5632 → ℝ} {P Q : Fin 1024 → ℝ} {W1 : Fin 1024 → Fin 5632 → ℝ}
  {W2 : Fin 2816 → Fin 1024 → ℝ}

variable (x0 x2 x5) in
/-- The gradient of the second product, as the body names it. -/
abbrev dyV : FVec Ideal S256x1024 .bf16 := k0_pay10 (k0_pay5 x2) (k0_pay9 x0 x5 x2)

/-- One run of the hidden row's gradient: its columns `o + k` of the first half, or of the second. -/
theorem da_run {n : ℕ} (o o' : ℕ) (h : o + n ≤ 2816) (h' : o' = o ∨ o' = 2816 + o) (p : Fin 256) (k : Fin n) :
    da (fun p => dyRow (D p) (Y p) Q) (fun j d => W2 ⟨o + j, by omega⟩ ⟨0 + d, by omega⟩)
      (fun p j => G ⟨0 + p, by omega⟩ ⟨o' + j, by omega⟩) p k = daRow W2 (D p) (Y p) Q (G p) ⟨o' + k, by omega⟩ := by
  have hc : col ⟨o' + k, by omega⟩ = ⟨o + k, by omega⟩ := by
    rcases h' with rfl | rfl
    · exact col_lo ⟨o' + k, by omega⟩
    · exact (congrArg col (Fin.ext (Nat.add_assoc ..))).trans (col_hi ⟨o + k, by omega⟩)
  unfold da daRow dsRow
  rw [hc]
  simp only [Nat.zero_add, Fin.eta]

/-- That run's part of the normalised input's gradient. -/
theorem dh_run {n : ℕ} (o o' : ℕ) (h : o + n ≤ 2816) (h' : o' = o ∨ o' = 2816 + o) (p : Fin 256) (d : Fin 1024) :
    dhPart (da (fun p => dyRow (D p) (Y p) Q) (fun (j : Fin n) d => W2 ⟨o + j, by omega⟩ ⟨0 + d, by omega⟩)
      (fun p j => G ⟨0 + p, by omega⟩ ⟨o' + j, by omega⟩)) (fun j d => W1 ⟨0 + d, by omega⟩ ⟨o' + j, by omega⟩) p d
      = ∑ k : Fin n, daRow W2 (D p) (Y p) Q (G p) ⟨o' + k, by omega⟩ * W1 d ⟨o' + k, by omega⟩ :=
  Finset.sum_congr rfl fun k _ => congrArg₂ (· * ·) (da_run o o' h h' p k) (by simp only [Nat.zero_add, Fin.eta])

variable (h0 : Holds x0 D) (h1 : Holds x1 X) (h2 : Holds x2 Y) (h3 : Holds x3 G) (h4 : Holds x4 fun _ => P) (h5 : Holds x5 fun _ => Q)
  (h6 : Holds x6 fun j k => W1 k j) (h7 : Holds x7 W2)
include h0 h2 h3 h5 h6 h7

/-- The whole hidden gradient times the first matrix: the six runs' sum. -/
theorem dh_eq : Holds (k0_pay26 (dyV x0 x2 x5)
    (k0_pay22 (dyV x0 x2 x5) k0_pay15
      (k0_pay17 (k0_pay5 x2) (k0_pay9 x0 x5 x2)
        (cut x7 0 0 1024 1024 inb_S2816x1024_S1024x1024_0_0)
        (cut x3 0 0 256 1024 inb_S256x5632_S256x1024_0_0))
      (k0_pay18 (k0_pay5 x2) (k0_pay9 x0 x5 x2)
        (cut x7 0 0 1024 1024 inb_S2816x1024_S1024x1024_0_0)
        (cut x3 0 2816 256 1024 inb_S256x5632_S256x1024_0_2816))
      (cut x6 0 0 1024 1024 inb_S5632x1024_S1024x1024_0_0)
      (cut x6 2816 0 1024 1024 inb_S5632x1024_S1024x1024_2816_0)
      (cut x7 1024 0 1024 1024 inb_S2816x1024_S1024x1024_1024_0)
      (cut x3 0 1024 256 1024 inb_S256x5632_S256x1024_0_1024)
      (cut x3 0 3840 256 1024 inb_S256x5632_S256x1024_0_3840)
      (cut x6 1024 0 1024 1024 inb_S5632x1024_S1024x1024_1024_0)
      (cut x6 3840 0 1024 1024 inb_S5632x1024_S1024x1024_3840_0))
    (cut x7 2048 0 768 1024 inb_S2816x1024_S768x1024_2048_0)
    (cut x3 0 2048 256 768 inb_S256x5632_S256x768_0_2048)
    (cut x3 0 4864 256 768 inb_S256x5632_S256x768_0_4864)
    (cut x6 2048 0 768 1024 inb_S5632x1024_S768x1024_2048_0)
    (cut x6 4864 0 768 1024 inb_S5632x1024_S768x1024_4864_0))
    fun p => dhRow W1 W2 (D p) (Y p) Q (G p) := by
  have hy := pay10 h0 h5 h2
  have h := pay26 hy (pay22 hy (pay17 hy (holds_ld h7 inb_S2816x1024_S1024x1024_0_0 (by omega) (by omega)) (holds_ld h3 inb_S256x5632_S256x1024_0_0 (by omega) (by omega)))
    (pay18 hy (holds_ld h7 inb_S2816x1024_S1024x1024_0_0 (by omega) (by omega)) (holds_ld h3 inb_S256x5632_S256x1024_0_2816 (by omega) (by omega)))
    (holds_ld h6 inb_S5632x1024_S1024x1024_0_0 (by omega) (by omega)) (holds_ld h6 inb_S5632x1024_S1024x1024_2816_0 (by omega) (by omega))
    (holds_ld h7 inb_S2816x1024_S1024x1024_1024_0 (by omega) (by omega)) (holds_ld h3 inb_S256x5632_S256x1024_0_1024 (by omega) (by omega))
    (holds_ld h3 inb_S256x5632_S256x1024_0_3840 (by omega) (by omega)) (holds_ld h6 inb_S5632x1024_S1024x1024_1024_0 (by omega) (by omega))
    (holds_ld h6 inb_S5632x1024_S1024x1024_3840_0 (by omega) (by omega)))
    (holds_ld h7 inb_S2816x1024_S768x1024_2048_0 (by omega) (by omega)) (holds_ld h3 inb_S256x5632_S256x768_0_2048 (by omega) (by omega))
    (holds_ld h3 inb_S256x5632_S256x768_0_4864 (by omega) (by omega)) (holds_ld h6 inb_S5632x1024_S768x1024_2048_0 (by omega) (by omega))
    (holds_ld h6 inb_S5632x1024_S768x1024_4864_0 (by omega) (by omega))
  intro p d
  refine (h p d).trans (congrArg _ ?_)
  unfold dhRow
  dsimp only
  rw [sum_chunks, dh_run 0 0 (by omega) (.inl rfl), dh_run 0 2816 (by omega) (.inr rfl), dh_run 1024 1024 (by omega) (.inl rfl),
    dh_run 1024 3840 (by omega) (.inr rfl), dh_run 2048 2048 (by omega) (.inl rfl), dh_run 2048 4864 (by omega) (.inr rfl)]
  simp only [Nat.zero_add]

end Body

variable {m : (ℓ : Loc nD τ sig) → Buf (Elt Ideal) ℓ} {c : Dev nD} {R : Reals}

/-- Point `t`'s block of the input's gradient. -/
theorem out8 (h : ArgsAt m c R) (t : Fin cfg0.N) : Holds (outsAt0 m c t.val t.isLt).1 fun p => R.dx (tok t p) := by
  have e := pay1 (dh_eq (blk0 h t) (blk2 h t) (blk3 h t) (blk5 h t) (blk6 h t) (blk7 h t)) (blk1 h t) (blk4 h t) (blk0 h t)
  by_cases h0 : t.val % 64 = 0
  · rw [outsAt0_A m c t h0]; frame_out; exact e
  · rw [outsAt0_B m c t h0]; frame_out; exact e

/-- Point `t`'s block of the second product's gradient. -/
theorem out10 (h : ArgsAt m c R) (t : Fin cfg0.N) : Holds (outsAt0 m c t.val t.isLt).2.2.1 fun p => R.dy (tok t p) := by
  have e := pay10 (blk0 h t) (blk5 h t) (blk2 h t)
  by_cases h0 : t.val % 64 = 0
  · rw [outsAt0_A m c t h0]; frame_out; exact e
  · rw [outsAt0_B m c t h0]; frame_out; exact e

/-- Point `t`'s block of the normalised input. -/
theorem out11 (h : ArgsAt m c R) (t : Fin cfg0.N) : Holds (outsAt0 m c t.val t.isLt).2.2.2.1 fun p => R.h (tok t p) := by
  have e := pay14 (blk1 h t) (blk4 h t)
  by_cases h0 : t.val % 64 = 0
  · rw [outsAt0_A m c t h0]; frame_out; exact e
  · rw [outsAt0_B m c t h0]; frame_out; exact e

/-- What point `t` leaves in the first weight's gradient: what it found (nothing at the first point) and its rows' parts. -/
theorem out12_first (h : ArgsAt m c R) (t : Fin cfg0.N) (h0 : t.val % 64 = 0) :
    Holds (outsAt0 m c t.val t.isLt).2.2.2.2.1 fun _ k =>
      0 + ∑ p, dpgRow (R.x (tok t p)) R.w1 R.w2 (R.dxo (tok t p)) (R.y (tok t p)) R.qg (R.gd (tok t p)) k := by
  rw [outsAt0_A m c t h0]; frame_out
  exact pay27 (dh_eq (blk0 h t) (blk2 h t) (blk3 h t) (blk5 h t) (blk6 h t) (blk7 h t)) (blk1 h t) pay2
theorem out12_next (h : ArgsAt m c R) (t : Fin cfg0.N) (h0 : ¬t.val % 64 = 0) {A : Fin 1024 → ℝ}
    (ha : Holds (outsAt0 m c (t.val - 1) (Nat.lt_of_le_of_lt (Nat.sub_le _ _) t.isLt)).2.2.2.2.1 fun _ => A) :
    Holds (outsAt0 m c t.val t.isLt).2.2.2.2.1 fun _ k =>
      A k + ∑ p, dpgRow (R.x (tok t p)) R.w1 R.w2 (R.dxo (tok t p)) (R.y (tok t p)) R.qg (R.gd (tok t p)) k := by
  rw [outsAt0_B m c t h0]; frame_out
  exact pay27 (dh_eq (blk0 h t) (blk2 h t) (blk3 h t) (blk5 h t) (blk6 h t) (blk7 h t)) (blk1 h t) ha

/-- The same for the second weight's gradient. -/
theorem out13_first (h : ArgsAt m c R) (t : Fin cfg0.N) (h0 : t.val % 64 = 0) :
    Holds (outsAt0 m c t.val t.isLt).2.2.2.2.2 fun _ k => 0 + ∑ p, dqgRow (R.dxo (tok t p)) (R.y (tok t p)) k := by
  rw [outsAt0_A m c t h0]; frame_out
  exact pay8 (blk0 h t) (blk2 h t) pay3
theorem out13_next (h : ArgsAt m c R) (t : Fin cfg0.N) (h0 : ¬t.val % 64 = 0) {A : Fin 1024 → ℝ}
    (ha : Holds (outsAt0 m c (t.val - 1) (Nat.lt_of_le_of_lt (Nat.sub_le _ _) t.isLt)).2.2.2.2.2 fun _ => A) :
    Holds (outsAt0 m c t.val t.isLt).2.2.2.2.2 fun _ k => A k + ∑ p, dqgRow (R.dxo (tok t p)) (R.y (tok t p)) k := by
  rw [outsAt0_B m c t h0]; frame_out
  exact pay8 (blk0 h t) (blk2 h t) ha

/-- One stored run of the hidden row's gradient, read at a place of the block. -/
theorem da_piece (t : Fin cfg0.N) (p : Fin 256) (j : Fin 5632) {n : ℕ} (o o' : ℕ) (ho : o + n ≤ 2816) (ho' : o' = o ∨ o' = 2816 + o)
    {v : Shape.Idx ⟨2, ![256, n]⟩ → EReal}
    (hv : Holds v (da (fun p => dyRow (R.dxo (tok t p)) (R.y (tok t p)) R.qg) (fun (j : Fin n) d => R.w2 ⟨o + j, by omega⟩ ⟨0 + d, by omega⟩)
      (fun p j => R.gd (tok t ⟨0 + p, by omega⟩) ⟨o' + j, by omega⟩))) (x : Shape.Idx ⟨2, ![256, n]⟩)
    (e0 : p.val = (x 0).val) (e1 : j.val = o' + (x 1).val) : v x = ((R.da (tok t p) j : ℝ) : EReal) := by
  have hx : ∀ (a : Fin 256) (b : Fin n) (_ : p.val = a.val) (_ : j.val = o' + b.val),
      da (fun p => dyRow (R.dxo (tok t p)) (R.y (tok t p)) R.qg) (fun (j : Fin n) d => R.w2 ⟨o + j, by omega⟩ ⟨0 + d, by omega⟩)
        (fun p j => R.gd (tok t ⟨0 + p, by omega⟩) ⟨o' + j, by omega⟩) a b = R.da (tok t p) j := by
    intro a b ha hb
    obtain rfl : p = a := Fin.ext ha
    have hlt : o' + b.val < 5632 := by clear hb e1; omega
    obtain rfl : j = ⟨o' + b, hlt⟩ := Fin.ext hb
    exact da_run (D := fun p => R.dxo (tok t p)) (Y := fun p => R.y (tok t p)) (G := fun p => R.gd (tok t p)) (Q := R.qg) (W2 := R.w2)
      o o' ho ho' p b
  exact (holds_at hv x).trans (congrArg _ (hx _ _ e0 e1))

/-- Point `t`'s block of the hidden row's gradient, stored in six runs of columns. -/
theorem out9 (h : ArgsAt m c R) (t : Fin cfg0.N) : Holds (outsAt0 m c t.val t.isLt).2.1 fun p => R.da (tok t p) := by
  have hy := pay10 (blk0 h t) (blk5 h t) (blk2 h t)
  have w0 := holds_ld (blk7 h t) inb_S2816x1024_S1024x1024_0_0 (by omega) (by omega)
  have w1 := holds_ld (blk7 h t) inb_S2816x1024_S1024x1024_1024_0 (by omega) (by omega)
  have w2 := holds_ld (blk7 h t) inb_S2816x1024_S768x1024_2048_0 (by omega) (by omega)
  have p0 := fun p j => da_piece t p j 0 0 (by omega) (.inl rfl) (pay17 hy w0 (holds_ld (blk3 h t) inb_S256x5632_S256x1024_0_0 (by omega) (by omega)))
  have p1 := fun p j => da_piece t p j 0 2816 (by omega) (.inr rfl) (pay18 hy w0 (holds_ld (blk3 h t) inb_S256x5632_S256x1024_0_2816 (by omega) (by omega)))
  have p2 := fun p j => da_piece t p j 1024 1024 (by omega) (.inl rfl) (pay20 hy w1 (holds_ld (blk3 h t) inb_S256x5632_S256x1024_0_1024 (by omega) (by omega)))
  have p3 := fun p j => da_piece t p j 1024 3840 (by omega) (.inr rfl) (pay21 hy w1 (holds_ld (blk3 h t) inb_S256x5632_S256x1024_0_3840 (by omega) (by omega)))
  have p4 := fun p j => da_piece t p j 2048 2048 (by omega) (.inl rfl) (pay24 hy w2 (holds_ld (blk3 h t) inb_S256x5632_S256x768_0_2048 (by omega) (by omega)))
  have p5 := fun p j => da_piece t p j 2048 4864 (by omega) (.inr rfl) (pay25 hy w2 (holds_ld (blk3 h t) inb_S256x5632_S256x768_0_4864 (by omega) (by omega)))
  intro p j
  by_cases h0 : t.val % 64 = 0
  · rw [outsAt0_A m c t h0]; frame_out
    canon_tiles x hx using (View.cover_of_tiledBy _ ![256, 256] (by sl_kernel_rfl) _)
    exacts [p5 p j x hx0 hx1, p4 p j x hx0 hx1, p3 p j x hx0 hx1, p2 p j x hx0 hx1, p1 p j x hx0 hx1,
      p0 p j x hx0 (hx1.trans (Nat.zero_add _).symm)]
  · rw [outsAt0_B m c t h0]; frame_out
    canon_tiles x hx using (View.cover_of_tiledBy _ ![256, 256] (by sl_kernel_rfl) _)
    exacts [p5 p j x hx0 hx1, p4 p j x hx0 hx1, p3 p j x hx0 hx1, p2 p j x hx0 hx1, p1 p j x hx0 hx1,
      p0 p j x hx0 (hx1.trans (Nat.zero_add _).symm)]

end Cert.KernelIdeal.Point

end
-- ==== Proof.KernelValue.lean ====
/- What the whole run leaves in the six output arrays, over the reals. -/
module

public import proofs.«01_k».proof.Proof.KernelPoint

@[expose] public section

set_option maxRecDepth 16384

noncomputable section

open Idealize.ShloMosaic Cert.Half Idealize.ShloMosaic.TcCoe Idealize.SL Idealize.SL.Sem
open Cert.KernelIdeal Cert.KernelIdeal.Gen Cert.KernelIdeal.Pay Cert.KernelIdeal.HostValue Cert.KernelIdeal.Point

namespace Cert.KernelIdeal.KernelValue

variable {m : (ℓ : Loc nD τ sig) → Buf (Elt Ideal) ℓ} {c : Dev nD} {R : Reals}

theorem idx_out : ∀ t : Fin cfg0.N, win0_8.index t = ![t.val, 0] ∧ win0_9.index t = ![t.val, 0] ∧ win0_10.index t = ![t.val, 0]
    ∧ win0_11.index t = ![t.val, 0] :=
  (by decide +kernel : ∀ t : Fin grid0.N, _)

theorem value8 (h : ArgsAt m c R) : (dats m 0 c).arrAt 8 cfg0.N = arrOf R.dx := by
  refine (dats m 0 c).arrAt_eq_of_covers 8 _ (by decide +kernel) fun t hf y => ?_
  blk_simp
  rw [after0_8]
  refine (holds_at (out8 h t) y).trans (show arrOf R.dx (ix2 (tok t (y 0)) (y 1)) = _ from ?_)
  congr 1
  blk_ext [(idx_out t).1, tok]

theorem value9 (h : ArgsAt m c R) : (dats m 0 c).arrAt 9 cfg0.N = arrOf R.da := by
  refine (dats m 0 c).arrAt_eq_of_covers 9 _ (by decide +kernel) fun t hf y => ?_
  blk_simp
  rw [after0_9]
  refine (holds_at (out9 h t) y).trans (show arrOf R.da (ix2 (tok t (y 0)) (y 1)) = _ from ?_)
  congr 1
  blk_ext [(idx_out t).2.1, tok]

theorem value10 (h : ArgsAt m c R) : (dats m 0 c).arrAt 10 cfg0.N = arrOf R.dy := by
  refine (dats m 0 c).arrAt_eq_of_covers 10 _ (by decide +kernel) fun t hf y => ?_
  blk_simp
  rw [after0_10]
  refine (holds_at (out10 h t) y).trans (show arrOf R.dy (ix2 (tok t (y 0)) (y 1)) = _ from ?_)
  congr 1
  blk_ext [(idx_out t).2.2.1, tok]

theorem value11 (h : ArgsAt m c R) : (dats m 0 c).arrAt 11 cfg0.N = arrOf R.h := by
  refine (dats m 0 c).arrAt_eq_of_covers 11 _ (by decide +kernel) fun t hf y => ?_
  blk_simp
  rw [after0_11]
  refine (holds_at (out11 h t) y).trans (show arrOf R.h (ix2 (tok t (y 0)) (y 1)) = _ from ?_)
  congr 1
  blk_ext [(idx_out t).2.2.2, tok]

/-- A sum over the points up to point `n`. -/
def upto (n : ℕ) (hn : n < cfg0.N) (T : Fin cfg0.N → ℝ) : ℝ := ∑ s : Fin (n + 1), T ⟨s.val, Nat.lt_of_lt_of_le s.isLt hn⟩
theorem upto_zero (hn : 0 < cfg0.N) (T : Fin cfg0.N → ℝ) : 0 + T ⟨0, hn⟩ = upto 0 hn T := by
  unfold upto; rw [zero_add, Fin.sum_univ_one]; rfl
theorem upto_succ (n : ℕ) (hn : n + 1 < cfg0.N) (T : Fin cfg0.N → ℝ) :
    upto n (Nat.lt_of_succ_lt hn) T + T ⟨n + 1, hn⟩ = upto (n + 1) hn T := by
  unfold upto; rw [Fin.sum_univ_castSucc (n := n + 1)]; rfl
/-- The points' sums over their rows are the tokens' sum. -/
theorem upto_last (hn : 63 < cfg0.N) (f : Fin 16384 → ℝ) : upto 63 hn (fun t => ∑ p, f (tok t p)) = ∑ r, f r := by
  rw [← Fin.sum_mul_add_fin 64 256 f]
  exact Finset.sum_congr rfl fun s _ => Finset.sum_congr rfl fun p _ =>
    congrArg f (Fin.ext (by show 256 * s.val + p.val = s.val * 256 + p.val; omega))

theorem next_pos (n : ℕ) (hn : n + 1 < cfg0.N) : ¬(n + 1) % 64 = 0 := by have hN : cfg0.N = 64 := rfl; omega

/-- One point's part of the first weight's gradient, -/
def dpgPt (R : Reals) (k : Fin 1024) (t : Fin cfg0.N) : ℝ :=
  ∑ p, dpgRow (R.x (tok t p)) R.w1 R.w2 (R.dxo (tok t p)) (R.y (tok t p)) R.qg (R.gd (tok t p)) k
/-- and of the second's. -/
def dqgPt (R : Reals) (k : Fin 1024) (t : Fin cfg0.N) : ℝ := ∑ p, dqgRow (R.dxo (tok t p)) (R.y (tok t p)) k

/-- The first weight's gradient after point `n`: the rows of the points up to there. -/
theorem upto12 (h : ArgsAt m c R) (n : ℕ) (hn : n < cfg0.N) : Holds (outsAt0 m c n hn).2.2.2.2.1 fun _ k =>
    upto n hn (dpgPt R k) := by
  induction n with
  | zero => exact fun p k => (out12_first h ⟨0, hn⟩ rfl p k).trans (congrArg _ (upto_zero hn (dpgPt R k)))
  | succ n ih =>
    exact fun p k => (out12_next h ⟨n + 1, hn⟩ (next_pos n hn) (ih (Nat.lt_of_succ_lt hn)) p k).trans (congrArg _ (upto_succ n hn (dpgPt R k)))

/-- The same for the second weight. -/
theorem upto13 (h : ArgsAt m c R) (n : ℕ) (hn : n < cfg0.N) : Holds (outsAt0 m c n hn).2.2.2.2.2 fun _ k =>
    upto n hn (dqgPt R k) := by
  induction n with
  | zero => exact fun p k => (out13_first h ⟨0, hn⟩ rfl p k).trans (congrArg _ (upto_zero hn (dqgPt R k)))
  | succ n ih =>
    exact fun p k => (out13_next h ⟨n + 1, hn⟩ (next_pos n hn) (ih (Nat.lt_of_succ_lt hn)) p k).trans (congrArg _ (upto_succ n hn (dqgPt R k)))

/-- The two sums are written back at the last point only. -/
theorem flush_last : ∀ t : Fin cfg0.N, ((cfg0.win 12).flush t = true → t.val = 63) ∧ ((cfg0.win 13).flush t = true → t.val = 63) :=
  (by decide +kernel : ∀ t : Fin grid0.N, _)
theorem idx_last : ∀ t : Fin cfg0.N, win0_12.index t = ![0, 0] ∧ win0_13.index t = ![0, 0] :=
  (by decide +kernel : ∀ t : Fin grid0.N, _)
theorem upto_flush (t : Fin cfg0.N) (ht : t.val = 63) (f : Fin 16384 → ℝ) : upto t.val t.isLt (fun t => ∑ p, f (tok t p)) = ∑ r, f r := by
  obtain ⟨n, hn⟩ := t
  obtain rfl : n = 63 := ht
  exact upto_last hn f

theorem value12 (h : ArgsAt m c R) : (dats m 0 c).arrAt 12 cfg0.N = arrOf fun _ : Fin 1 => R.dpg := by
  refine (dats m 0 c).arrAt_eq_of_covers 12 _ (by decide +kernel) fun t hf y => ?_
  blk_simp
  rw [after0_12]
  refine (holds_at (upto12 h t.val t.isLt) y).trans ((congrArg _ (upto_flush t ((flush_last t).1 hf) (fun r => dpgRow (R.x r) R.w1 R.w2 (R.dxo r) (R.y r) R.qg (R.gd r) (y 1)))).trans
    (show arrOf (fun _ : Fin 1 => R.dpg) (ix2 (y 0) (y 1)) = _ from ?_))
  congr 1
  blk_ext [(idx_last t).1]

theorem value13 (h : ArgsAt m c R) : (dats m 0 c).arrAt 13 cfg0.N = arrOf fun _ : Fin 1 => R.dqg := by
  refine (dats m 0 c).arrAt_eq_of_covers 13 _ (by decide +kernel) fun t hf y => ?_
  blk_simp
  rw [after0_13]
  refine (holds_at (upto13 h t.val t.isLt) y).trans ((congrArg _ (upto_flush t ((flush_last t).2 hf) (fun r => dqgRow (R.dxo r) (R.y r) (y 1)))).trans
    (show arrOf (fun _ : Fin 1 => R.dqg) (ix2 (y 0) (y 1)) = _ from ?_))
  congr 1
  blk_ext [(idx_last t).2]

end Cert.KernelIdeal.KernelValue

end
-- ==== Proof.RefValue.lean ====
/- What the reference computes, stage by stage, over the reals. -/
module

public import proofs.«01_k».proof.Proof.RealMath
public import proofs.«01_k».proof.Proof.Gen.ReferenceIdeal.Read
public import Idealize.ShloMosaic.Lib.Pointwise

@[expose] public section

set_option maxRecDepth 16384

noncomputable section

open Idealize.ShloMosaic Cert.Half
open Cert.ReferenceIdeal Cert.ReferenceIdeal.Gen Cert.ReferenceIdeal.Value Cert.ReferenceIdeal.Read

namespace Cert.ReferenceIdeal.RefValue

variable {x0 x1 : (⟨S16384x1024, .f32⟩ : BufTy).Contents (Elt Ideal)} {x2 x3 : (⟨S1024, .f32⟩ : BufTy).Contents (Elt Ideal)}
  {x4 : (⟨S1024x5632, .f32⟩ : BufTy).Contents (Elt Ideal)} {x5 : (⟨S2816x1024, .f32⟩ : BufTy).Contents (Elt Ideal)} {R : Reals}

/-! ## The forward pass -/

theorem ms_x (h : ArgsHold x0 x1 x2 x3 x4 x5 R) : Holds (val_main_v8 (F := Ideal) x1) fun r _ => ms (R.x r) := by
  intro r k
  obtain rfl : k = 0 := Subsingleton.elim _ _
  pointwise [val_main_v8, val_main_v7, val_main_v6, val_main_v5, val_main_v4, val_main_v3, val_main_v2, val_main_cst_1, val_main_cst_2, val_main_cst_3]
  simp only [h.x _ _, ← EReal.coe_mul, sum_coe, word_zero, word_1024, word_eps, div_coe (show (1024 : ℝ) ≠ 0 by norm_num), ← EReal.coe_add, zero_add]
  rfl

theorem rinv_x (h : ArgsHold x0 x1 x2 x3 x4 x5 R) : Holds (val_main_v9 (F := Ideal) x1) fun r _ => rinv (R.x r) := by
  intro r k
  obtain rfl : k = 0 := Subsingleton.elim _ _
  pointwise [val_main_v9]
  rw [ms_x h]
  exact rsqrt_coe (ms_pos _)

theorem half_x (h : ArgsHold x0 x1 x2 x3 x4 x5 R) :
    Holds (val_main_v12 (F := Ideal) x1) fun r _ => -(1 / 2) * (rinv (R.x r) / ms (R.x r)) := by
  intro r k
  obtain rfl : k = 0 := Subsingleton.elim _ _
  pointwise [val_main_v12, val_main_v11, val_main_v10, val_main_cst_4]
  rw [ms_x h, rinv_x h, word_neg_half, div_coe (ms_pos _).ne', ← EReal.coe_mul]

theorem nrm_x (h : ArgsHold x0 x1 x2 x3 x4 x5 R) : Holds (val_main_v14 (F := Ideal) x1) fun r => nrm (R.x r) := by
  intro r k
  pointwise [val_main_v14, val_main_v13]
  rw [h.x, rinv_x h, ← EReal.coe_mul]; rfl

theorem h_x (h : ArgsHold x0 x1 x2 x3 x4 x5 R) : Holds (val_main_v17 (F := Ideal) x1 x2) R.h := by
  intro r k
  pointwise [val_main_v17, val_main_v16, val_main_v15]
  rw [h.pg, nrm_x h, ← EReal.coe_mul]; rfl

theorem a_x (h : ArgsHold x0 x1 x2 x3 x4 x5 R) : Holds (val_main_v19 (F := Ideal) x1 x2 x4) R.a := by
  intro r k
  pointwise [val_main_v19, val_main_v18, val_main_v0, val_main_cst]
  simp only [h_x h _ _, h.w1 _ _, ← EReal.coe_mul, sum_coe, word_zero, ← EReal.coe_add, add_zero]; rfl

theorem lo_x (h : ArgsHold x0 x1 x2 x3 x4 x5 R) : Holds (val_main_v20 (F := Ideal) x1 x2 x4) fun r j => R.a r (lo j) := by
  intro r k
  pointwise [val_main_v20]
  exact a_x h r (lo k)

theorem hi_x (h : ArgsHold x0 x1 x2 x3 x4 x5 R) : Holds (val_main_v21 (F := Ideal) x1 x2 x4) fun r j => R.a r (hi j) := by
  intro r k
  pointwise [val_main_v21]
  exact a_x h r (hi k)

theorem sig_x (h : ArgsHold x0 x1 x2 x3 x4 x5 R) : Holds (val_main_v22_2 (F := Ideal) x1 x2 x4) fun r j => Cert.Half.sig (R.a r (lo j)) := by
  intro r k
  pointwise [val_main_v22_2, val_main_call0_v4, val_main_call0_v3, val_main_call0_v2, val_main_call0_v1, val_main_call0_v0,
    val_main_call0_cst, val_main_call0_cst_0]
  rw [lo_x h]
  exact sig_coe _

theorem y_x (h : ArgsHold x0 x1 x2 x3 x4 x5 R) : Holds (val_main_v25 (F := Ideal) x1 x2 x4 x5) R.y := by
  intro r k
  pointwise [val_main_v25, val_main_v24, val_main_v23, val_main_v22_0, val_main_v1, val_main_cst_0]
  simp only [lo_x h _ _, hi_x h _ _, sig_x h _ _, h.w2 _ _, ← EReal.coe_mul, sum_coe, word_zero, ← EReal.coe_add, add_zero]; rfl

theorem ms_y (h : ArgsHold x0 x1 x2 x3 x4 x5 R) : Holds (val_main_v32 (F := Ideal) x1 x2 x4 x5) fun r _ => ms (R.y r) := by
  intro r k
  obtain rfl : k = 0 := Subsingleton.elim _ _
  pointwise [val_main_v32, val_main_v31, val_main_v30, val_main_v29, val_main_v28, val_main_v27, val_main_v26, val_main_cst_5,
    val_main_cst_6, val_main_cst_7]
  simp only [y_x h _ _, ← EReal.coe_mul, sum_coe, word_zero, word_1024, word_eps, div_coe (show (1024 : ℝ) ≠ 0 by norm_num),
    ← EReal.coe_add, zero_add]
  rfl

theorem rinv_y (h : ArgsHold x0 x1 x2 x3 x4 x5 R) : Holds (val_main_v33 (F := Ideal) x1 x2 x4 x5) fun r _ => rinv (R.y r) := by
  intro r k
  obtain rfl : k = 0 := Subsingleton.elim _ _
  pointwise [val_main_v33]
  rw [ms_y h]
  exact rsqrt_coe (ms_pos _)

theorem half_y (h : ArgsHold x0 x1 x2 x3 x4 x5 R) :
    Holds (val_main_v36 (F := Ideal) x1 x2 x4 x5) fun r _ => -(1 / 2) * (rinv (R.y r) / ms (R.y r)) := by
  intro r k
  obtain rfl : k = 0 := Subsingleton.elim _ _
  pointwise [val_main_v36, val_main_v35, val_main_v34, val_main_cst_8]
  rw [ms_y h, rinv_y h, word_neg_half, div_coe (ms_pos _).ne', ← EReal.coe_mul]

theorem nrm_y (h : ArgsHold x0 x1 x2 x3 x4 x5 R) : Holds (val_main_v38 (F := Ideal) x1 x2 x4 x5) fun r => nrm (R.y r) := by
  intro r k
  pointwise [val_main_v38, val_main_v37]
  rw [y_x h, rinv_y h, ← EReal.coe_mul]; rfl

/-! ## The backward pass -/

theorem half_dxo (h : ArgsHold x0 x1 x2 x3 x4 x5 R) : Holds (val_main_v47 (F := Ideal) x0) fun r k => 1 / 2 * R.dxo r k := by
  intro r k
  pointwise [val_main_v47, val_main_v46, val_main_v45, val_main_cst_10]
  rw [h.dxo, word_half, ← EReal.coe_mul]

theorem dqg (h : ArgsHold x0 x1 x2 x3 x4 x5 R) : Holds (val_main_v112 (F := Ideal) x0 x1 x2 x4 x5) fun _ => R.dqg := by
  intro r k
  pointwise [val_main_v112, val_main_v53, val_main_v50, val_main_v49, val_main_v48, val_main_cst_11, val_main_cst_12]
  rw [Fin.sum_univ_one]
  simp only [nrm_y h _ _, half_dxo h _ _, ← EReal.coe_mul, sum_coe]
  exact congrArg _ (Finset.sum_congr rfl fun r _ => by unfold dqgRow; ring)

theorem dn_y (h : ArgsHold x0 x1 x2 x3 x4 x5 R) : Holds (val_main_v52 (F := Ideal) x0 x3) fun r k => 1 / 2 * R.dxo r k * R.qg k := by
  intro r k
  pointwise [val_main_v52, val_main_v51, val_main_v39]
  rw [half_dxo h, h.qg, ← EReal.coe_mul]

theorem mean_y (h : ArgsHold x0 x1 x2 x3 x4 x5 R) : Holds (val_main_v63 (F := Ideal) x0 x1 x2 x3 x4 x5) fun r _ =>
    (∑ j, R.y r j * (1 / 2 * R.dxo r j * R.qg j)) * (-(1 / 2) * (rinv (R.y r) / ms (R.y r))) / 1024 := by
  intro r k
  pointwise [val_main_v63, val_main_v62, val_main_v61, val_main_v60, val_main_v59, val_main_v56, val_main_v55, val_main_v54, val_main_cst_13,
    val_main_cst_14, val_main_cst_15]
  rw [Fin.sum_univ_one]
  simp only [y_x h _ _, dn_y h _ _, half_y h _ _, ← EReal.coe_mul, sum_coe, word_zero, word_1024, div_coe (show (1024 : ℝ) ≠ 0 by norm_num),
    ← EReal.coe_add, zero_add]

theorem dy (h : ArgsHold x0 x1 x2 x3 x4 x5 R) : Holds (val_main_v67 (F := Ideal) x0 x1 x2 x3 x4 x5) R.dy := by
  intro r k
  pointwise [val_main_v67, val_main_v66, val_main_v65, val_main_v64, val_main_v58, val_main_v57]
  simp only [y_x h _ _, dn_y h _ _, rinv_y h _ _, mean_y h _ _, ← EReal.coe_mul, ← EReal.coe_add]
  exact congrArg _ (rmsGrad_eq (R.y r) (fun d => 1 / 2 * R.dxo r d * R.qg d) k)

theorem ds (h : ArgsHold x0 x1 x2 x3 x4 x5 R) : Holds (val_main_v68 (F := Ideal) x0 x1 x2 x3 x4 x5) fun r => dsRow R.w2 (R.dxo r) (R.y r) R.qg := by
  intro r k
  pointwise [val_main_v68]
  simp only [dy h _ _, h.w2 _ _, ← EReal.coe_mul, sum_coe]; rfl

theorem dlo (h : ArgsHold x0 x1 x2 x3 x4 x5 R) : Holds (val_main_v71 (F := Ideal) x0 x1 x2 x3 x4 x5) fun r j => R.da r (lo j) := by
  intro r k
  pointwise [val_main_v71, val_main_call1_v2, val_main_call1_v1, val_main_call1_v0, val_main_v70, val_main_v22_1, val_main_call0_v7,
    val_main_call0_v6, val_main_call0_cst_1]
  simp only [ds h _ _, lo_x h _ _, hi_x h _ _, sig_x h _ _, word_one, EReal.coe_one, one_sub_coe, ← EReal.coe_mul, ← EReal.coe_add]
  refine congrArg _ ?_
  unfold Reals.da daRow Reals.gd
  rw [gateD_lo, col_lo]; unfold gateLo; ring

theorem dhi (h : ArgsHold x0 x1 x2 x3 x4 x5 R) : Holds (val_main_v69 (F := Ideal) x0 x1 x2 x3 x4 x5) fun r j => R.da r (hi j) := by
  intro r k
  pointwise [val_main_v69, val_main_v22_0]
  simp only [ds h _ _, lo_x h _ _, sig_x h _ _, ← EReal.coe_mul]
  refine congrArg _ ?_
  unfold Reals.da daRow Reals.gd
  rw [gateD_hi, col_hi]; unfold gateHi; ring

theorem da (h : ArgsHold x0 x1 x2 x3 x4 x5 R) : Holds (val_main_v72 (F := Ideal) x0 x1 x2 x3 x4 x5) R.da := by
  intro r j
  rcases lo_or_hi j with ⟨i, rfl⟩ | ⟨i, rfl⟩
  · refine Eq.trans ?_ (dlo h r i)
    pointwise [val_main_v72]
    exact dif_pos (show (lo i).val < 2816 from i.isLt)
  · refine Eq.trans ?_ (dhi h r i)
    pointwise [val_main_v72]
    have hn : ¬(hi i).val < 2816 := by show ¬2816 + i.val < 2816; omega
    rw [dif_neg hn]
    congr 2
    exact Fin.ext (by show 2816 + i.val - 2816 = i.val; omega)

theorem dh (h : ArgsHold x0 x1 x2 x3 x4 x5 R) : Holds (val_main_v73 (F := Ideal) x0 x1 x2 x3 x4 x5) fun r =>
    dhRow R.w1 R.w2 (R.dxo r) (R.y r) R.qg (R.gd r) := by
  intro r k
  pointwise [val_main_v73]
  simp only [da h _ _, h.w1 _ _, ← EReal.coe_mul, sum_coe]; rfl

theorem dpg (h : ArgsHold x0 x1 x2 x3 x4 x5 R) : Holds (val_main_v111 (F := Ideal) x0 x1 x2 x3 x4 x5) fun _ => R.dpg := by
  intro r k
  pointwise [val_main_v111, val_main_v79, val_main_v76, val_main_v75, val_main_v74, val_main_cst_16, val_main_cst_17]
  rw [Fin.sum_univ_one]
  simp only [nrm_x h _ _, dh h _ _, ← EReal.coe_mul, sum_coe]
  exact congrArg _ (Finset.sum_congr rfl fun r _ => by unfold dpgRow; ring)

theorem dn_x (h : ArgsHold x0 x1 x2 x3 x4 x5 R) : Holds (val_main_v78 (F := Ideal) x0 x1 x2 x3 x4 x5) fun r k =>
    dhRow R.w1 R.w2 (R.dxo r) (R.y r) R.qg (R.gd r) k * R.pg k := by
  intro r k
  pointwise [val_main_v78, val_main_v77, val_main_v15]
  rw [dh h, h.pg, ← EReal.coe_mul]

theorem mean_x (h : ArgsHold x0 x1 x2 x3 x4 x5 R) : Holds (val_main_v90 (F := Ideal) x0 x1 x2 x3 x4 x5) fun r _ =>
    (∑ j, R.x r j * (dhRow R.w1 R.w2 (R.dxo r) (R.y r) R.qg (R.gd r) j * R.pg j)) * (-(1 / 2) * (rinv (R.x r) / ms (R.x r))) / 1024 := by
  intro r k
  pointwise [val_main_v90, val_main_v89, val_main_v88, val_main_v87, val_main_v86, val_main_v82, val_main_v81, val_main_v80, val_main_cst_18,
    val_main_cst_19, val_main_cst_20]
  rw [Fin.sum_univ_one]
  simp only [h.x _ _, dn_x h _ _, half_x h _ _, ← EReal.coe_mul, sum_coe, word_zero, word_1024, div_coe (show (1024 : ℝ) ≠ 0 by norm_num),
    ← EReal.coe_add, zero_add]

theorem dx (h : ArgsHold x0 x1 x2 x3 x4 x5 R) : Holds (val_main_v94 (F := Ideal) x0 x1 x2 x3 x4 x5) R.dx := by
  intro r k
  pointwise [val_main_v94, val_main_v93, val_main_v92, val_main_v91, val_main_v85, val_main_v84, val_main_v83]
  simp only [h.dxo _ _, h.x _ _, dn_x h _ _, rinv_x h _ _, mean_x h _ _, ← EReal.coe_mul, ← EReal.coe_add, add_assoc]
  refine congrArg _ (congrArg (R.dxo r k + ·) ?_)
  rw [← add_assoc]
  exact rmsGrad_eq (R.x r) (fun k => dhRow R.w1 R.w2 (R.dxo r) (R.y r) R.qg (R.gd r) k * R.pg k) k

theorem da_cast (h : ArgsHold x0 x1 x2 x3 x4 x5 R) : Holds (val_main_v95 (F := Ideal) x0 x1 x2 x3 x4 x5) R.da := da h
theorem dy_cast (h : ArgsHold x0 x1 x2 x3 x4 x5 R) : Holds (val_main_v96 (F := Ideal) x0 x1 x2 x3 x4 x5) R.dy := dy h
theorem h_cast (h : ArgsHold x0 x1 x2 x3 x4 x5 R) : Holds (val_main_v110 (F := Ideal) x1 x2) R.h := h_x h

end Cert.ReferenceIdeal.RefValue

end
-- ==== Proof.Finite.lean ====
/- The precondition: every element of every argument is a real number. -/
module

public import proofs.«01_k».proof.Proof.RealMath
public import proofs.«01_k».proof.Proof.Gen.Pre_finite
public import Idealize.ShloMosaic.Lib.ReduceAll
public import Idealize.ShloMosaic.Lib.Affine

@[expose] public section

set_option maxRecDepth 16384

noncomputable section

open Idealize.ShloMosaic Cert.Half
open Cert.Pre_finite Cert.Pre_finite.Gen

namespace Cert.Finite

/-- The word of the infinity the predicate compares with. -/
theorem word_top : Ideal.ofBits .f32 0x7F800000#32 = (⊤ : EReal) := by simp [Ideal.ofBits, Ideal.ieee]

/-- An absolute value below infinity is a real's. -/
theorem of_abs_lt (a : EReal) (h : FloatOps.cmpf (F := Ideal) (φ := .f32) .olt (FloatOps.hostAbsf (F := Ideal) (φ := .f32) a) (Ideal.ofBits .f32 0x7F800000#32) = 1#1) :
    a = ((a.toReal : ℝ) : EReal) := by
  rw [word_top] at h
  refine (EReal.coe_toReal ?_ ?_).symm
  · rintro rfl
    revert h
    simp [Ideal.cmpf_def, Ideal.absf_def, Ideal.cmp]
  · rintro rfl
    revert h
    simp [Ideal.cmpf_def, Ideal.absf_def, Ideal.cmp]

/-- One argument's test, passed, says that each of its elements is real. -/
theorem real_of_all {s : Shape} {axes : List (Fin s.rank)} {v : FVec Ideal s .f32} {b : S_.BroadcastsInDim s (![] : Fin 0 → Fin s.rank)}
    {r : s.ReducesTo axes S_} {u : 0 < S_.numel} {j : S_.Idx}
    (h : Host.reduce IntOp.andi (cmpf .olt (Host.absf v) (broadcastInDim s ![] b (constant S_ .f32 0x7F800000#32))) (constantI S_ 1 1#1) r u j = 1#1)
    (i : s.Idx) : v i = (((v i : EReal).toReal : ℝ) : EReal) := by
  haveI : Subsingleton S_.Idx := ⟨fun a b => funext fun d => d.elim0⟩
  exact of_abs_lt _ (Host.reduce_andi_all _ _ r u j h i)

/-- The predicate gives the numbers. -/
theorem exists_reals {a0 a1 : FVec Ideal S16384x1024 .f32} {a2 a3 : FVec Ideal S1024 .f32} {a4 : FVec Ideal S1024x5632 .f32}
    {a5 : FVec Ideal S2816x1024 .f32} (h : Cert.Pre_finite.fn (F := Ideal) a0 a1 a2 a3 a4 a5 = fun _ => 1#1) :
    ∃ R : Reals, ArgsHold a0 a1 a2 a3 a4 a5 R := by
  have h := congrFun h (fun d => d.elim0)
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨⟨fun r k => (a0 (ix2 r k) : EReal).toReal, fun r k => (a1 (ix2 r k) : EReal).toReal, fun k => (a2 (ix1 k) : EReal).toReal,
    fun k => (a3 (ix1 k) : EReal).toReal, fun k j => (a4 (ix2 k j) : EReal).toReal, fun j k => (a5 (ix2 j k) : EReal).toReal⟩,
    fun _ _ => real_of_all h0 _, fun _ _ => real_of_all h1 _, fun _ => real_of_all h2 _, fun _ => real_of_all h3 _,
    fun _ _ => real_of_all h4 _, fun _ _ => real_of_all h5 _⟩

end Cert.Finite

end
-- ==== Proof.FfnBwd.lean ====
/- The claims about `ffn_bwd`: the frames, and that kernel and reference leave the same six results. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelValue
public import proofs.«01_k».proof.Proof.RefValue
public import proofs.«01_k».proof.Proof.Finite

@[expose] public section

noncomputable section

open Idealize.ShloMosaic Idealize.SL.Sem Cert.Half

namespace Cert.FfnBwd

theorem frame : Cert.quiescent_Kernel := fun m g _ => Cert.Kernel.Gen.frame m g
theorem frame_ideal : Cert.quiescent_KernelIdeal := fun m g _ => Cert.KernelIdeal.Gen.frame m g
theorem frame_ideal_finite : Cert.quiescent_KernelIdeal_pre_finite := fun m g _ => Cert.KernelIdeal.Gen.frame m g

/-- The reference runs, keeps its arguments and leaves every counter at zero. -/
theorem frame_reference : Cert.quiescent_ReferenceIdeal := fun m g _ =>
  (θ_run Cert.ReferenceIdeal.defs _ _).mono
    (fun r h => ⟨fun c => (h c).2.2.2.2.2.2, sem_eq_zero_of_no_sems (by decide) r.2⟩) (Cert.ReferenceIdeal.Value.run (F := Ideal) m g)
theorem frame_reference_finite : Cert.quiescent_ReferenceIdeal_pre_finite := fun m g _ =>
  (θ_run Cert.ReferenceIdeal.defs _ _).mono
    (fun r h => ⟨fun c => (h c).2.2.2.2.2.2, sem_eq_zero_of_no_sems (by decide) r.2⟩) (Cert.ReferenceIdeal.Value.run (F := Ideal) m g)

theorem preserves : Cert.preserves_Kernel_KernelIdeal := trivial

open Cert.KernelIdeal.KernelValue Cert.ReferenceIdeal.RefValue in
/-- On real arguments both programs leave the six arrays of reals. -/
theorem algebraic : Cert.algebraic_KernelIdeal_ReferenceIdeal_pre_finite := by
  intro m g m' g' hpre hagree
  have hr : ∀ c, ∃ R, Cert.KernelIdeal.HostValue.ArgsAt m c R := fun c => Cert.Finite.exists_reals (hpre c)
  choose R hR using hr
  have hR' : ∀ c, ArgsHold _ _ _ _ _ _ (R c) := fun c => by
    have h := hR c
    unfold Cert.KernelIdeal.HostValue.ArgsAt at h
    obtain ⟨e0, e1, e2, e3, e4, e5⟩ := hagree c
    exact (e0 ▸ e1 ▸ e2 ▸ e3 ▸ e4 ▸ e5 ▸ h : ArgsHold (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) (R c))
  refine ⟨fun c => arrOf (R c).dx, fun c => arrOf (R c).da, fun c => arrOf (R c).dy, fun c => arrOf (R c).h,
    fun c => arrOf fun _ : Fin 1 => (R c).dpg, fun c => arrOf fun _ : Fin 1 => (R c).dqg, ?_, ?_⟩
  · refine (θ_run Cert.KernelIdeal.defs _ _).mono (fun r h c => ?_) (Cert.KernelIdeal.Value.run_blocks (F := Ideal) m g)
    obtain ⟨h0, h1, h2, h3, h4, h5, hargs⟩ := h c
    exact ⟨h0.trans (value8 (hR c)), h1.trans (value9 (hR c)), h2.trans (value10 (hR c)), h3.trans (value11 (hR c)),
      h4.trans (value12 (hR c)), h5.trans (value13 (hR c)), hargs⟩
  · refine (θ_run Cert.ReferenceIdeal.defs _ _).mono (fun r h c => ?_) (Cert.ReferenceIdeal.Value.run (F := Ideal) m' g')
    obtain ⟨h0, h1, h2, h3, h4, h5, hargs⟩ := h c
    exact ⟨h0.trans ((Cert.ReferenceIdeal.Read.val_main_v94_eq _).trans (dx (hR' c)).eq_arrOf),
      h1.trans ((Cert.ReferenceIdeal.Read.val_main_v95_eq _).trans (da_cast (hR' c)).eq_arrOf),
      h2.trans ((Cert.ReferenceIdeal.Read.val_main_v96_eq _).trans (dy_cast (hR' c)).eq_arrOf),
      h3.trans ((Cert.ReferenceIdeal.Read.val_main_v110_eq _).trans (h_cast (hR' c)).eq_arrOf),
      h4.trans ((Cert.ReferenceIdeal.Read.val_main_v111_eq _).trans (dpg (hR' c)).eq_arrOf),
      h5.trans ((Cert.ReferenceIdeal.Read.val_main_v112_eq _).trans (dqg (hR' c)).eq_arrOf), hargs⟩

end Cert.FfnBwd

end
-- ==== Proof.MixInMath.lean ====
/- The real numbers behind the gradient through the mixer's norm and its input projection. -/
module

public import proofs.«01_k».proof.Proof.Blocks

@[expose] public section

noncomputable section

open Idealize.ShloMosaic Cert.Half

namespace Cert.MixInMath

/-- The numbers the five arguments hold: the residual's gradient, the input, the projected rows' gradient, the norm's weight
    and the projection. -/
structure Nums where
  dxo : Fin 16384 → Fin 1024 → ℝ
  x : Fin 16384 → Fin 1024 → ℝ
  dz : Fin 16384 → Fin 5376 → ℝ
  pg : Fin 1024 → ℝ
  w : Fin 1024 → Fin 5376 → ℝ

/-- The five arrays hold these numbers. -/
structure NumsHold (a0 a1 : Shape.Idx ⟨2, ![16384, 1024]⟩ → EReal) (a2 : Shape.Idx ⟨2, ![16384, 5376]⟩ → EReal)
    (a3 : Shape.Idx ⟨1, ![1024]⟩ → EReal) (a4 : Shape.Idx ⟨2, ![1024, 5376]⟩ → EReal) (R : Nums) : Prop where
  dxo : Holds a0 R.dxo
  x : Holds a1 R.x
  dz : Holds a2 R.dz
  pg : ∀ k, a3 (ix1 k) = ((R.pg k : ℝ) : EReal)
  w : Holds a4 R.w

namespace Nums
variable (R : Nums) (r : Fin 16384)
/-- The gradient of the normalised, weighted input, -/
def dh (k : Fin 1024) : ℝ := ∑ j, R.dz r j * R.w k j
/-- of the input, -/
def dx (k : Fin 1024) : ℝ := R.dxo r k + rmsGrad (R.x r) (fun j => R.dh r j * R.pg j) k
/-- the normalised, weighted input, -/
def h (k : Fin 1024) : ℝ := hRow (R.x r) R.pg k
/-- and the gradient of the norm's weight. -/
def dpg (k : Fin 1024) : ℝ := ∑ r, R.dh r k * nrm (R.x r) k
end Nums

/-- A projected row's sum, in the order in which the kernel takes its columns. -/
theorem sum_thirds (f : Fin 5376 → ℝ) :
    ∑ j, f j = (∑ k : Fin 1792, f ⟨0 + k, by omega⟩ + ∑ k : Fin 1792, f ⟨1792 + k, by omega⟩) + ∑ k : Fin 1792, f ⟨3584 + k, by omega⟩ := by
  have e : ∑ j, f j = ∑ j : Fin (1792 + (1792 + 1792)), f ⟨j, j.isLt⟩ := rfl
  rw [e, Fin.sum_univ_add, Fin.sum_univ_add, ← add_assoc]
  simp only [Fin.val_castAdd, Fin.val_natAdd, ← Nat.add_assoc, Nat.reduceAdd, Nat.zero_add]

end Cert.MixInMath

end
-- ==== Proof.MixInKernel.lean ====
/- What `mix_in_bwd` leaves in its three results, over the reals. -/
module

public import proofs.«01_k».proof.Proof.MixInMath
public import proofs.«01_k».proof.Proof.Gen.MixInIdeal.Value
public import Idealize.ShloMosaic.Lib.StableHlo.ReadAt
public import Idealize.ShloMosaic.Lib.Pointwise

@[expose] public section

set_option maxRecDepth 16384

noncomputable section

open Idealize.ShloMosaic Cert.Half Cert.MixInMath Idealize.ShloMosaic.TcCoe Idealize.SL Idealize.SL.Sem
open Cert.MixInIdeal Cert.MixInIdeal.Gen

namespace Cert.MixInIdeal.KernelValue

/-! ## The body's values -/

section Pay
variable {x dxo v30 : FVec Ideal S512x1024 .f32} {g acc : FVec Ideal S1x1024 .f32} {z0 z1 z2 : FVec Ideal S512x1792 .bf16}
  {w0 w1 w2 : FVec Ideal S1792x1024 .bf16} {X DXO H : Fin 512 → Fin 1024 → ℝ} {G A : Fin 1024 → ℝ}
  {Z0 Z1 Z2 : Fin 512 → Fin 1792 → ℝ} {W0 W1 W2 : Fin 1792 → Fin 1024 → ℝ}

theorem pay6 (hx : Holds x X) : Holds (k0_pay6 (F := Ideal) x) fun p _ => rinv (X p) := by
  intro p k
  obtain rfl : k = 0 := Subsingleton.elim _ _
  pointwise [k0_pay6]
  simp only [hx _ _, ← EReal.coe_mul, sum_coe, word_1024, word_eps, div_coe (show (1024 : ℝ) ≠ 0 by norm_num), ← EReal.coe_add]
  exact rsqrt_coe (ms_pos _)

theorem pay7 (hx : Holds x X) : Holds (k0_pay7 (F := Ideal) x) fun p => nrm (X p) := by
  intro p k
  pointwise [k0_pay7]
  simp only [hx _ _, pay6 hx _ _, ← EReal.coe_mul]; rfl

theorem pay8 (hx : Holds x X) (hg : Holds g fun _ => G) : Holds (k0_pay8 (F := Ideal) g x) fun p => hRow (X p) G := by
  intro p k
  pointwise [k0_pay8, k0_pay5]
  simp only [hg _ _, pay7 hx _ _, ← EReal.coe_mul]; rfl

theorem pay9 (h0 : Holds z0 Z0) (h1 : Holds z1 Z1) (k0 : Holds w0 W0) (k1 : Holds w1 W1) :
    Holds (k0_pay9 (F := Ideal) z0 w0 z1 w1) fun p d => ∑ j, Z0 p j * W0 j d + ∑ j, Z1 p j * W1 j d := by
  intro p k
  pointwise [k0_pay9]
  simp only [h0 _ _, h1 _ _, k0 _ _, k1 _ _, ← EReal.coe_mul, sum_coe, ← EReal.coe_add]

theorem pay1 (h30 : Holds v30 H) (h2 : Holds z2 Z2) (k2 : Holds w2 W2) :
    Holds (k0_pay1 (F := Ideal) v30 z2 w2) fun p d => H p d + ∑ j, Z2 p j * W2 j d := by
  intro p k
  pointwise [k0_pay1]
  simp only [h30 _ _, h2 _ _, k2 _ _, ← EReal.coe_mul, sum_coe, ← EReal.coe_add]

theorem pay2 (hd : Holds (k0_pay1 (F := Ideal) v30 z2 w2) H) (hx : Holds x X) (ha : Holds acc fun _ => A) :
    Holds (k0_pay2 (F := Ideal) (k0_pay7 x) v30 z2 w2 acc) fun _ k => A k + ∑ p, H p k * nrm (X p) k := by
  intro p k
  pointwise [k0_pay2]
  simp only [hd _ _, pay7 hx _ _, ha _ _, ← EReal.coe_mul, sum_coe, ← EReal.coe_add]

theorem pay3 (hd : Holds (k0_pay1 (F := Ideal) v30 z2 w2) H) (hx : Holds x X) (hg : Holds g fun _ => G) (hdxo : Holds dxo DXO) :
    Holds (k0_pay3 (F := Ideal) (k0_pay5 g) (k0_pay6 x) (k0_pay7 x) v30 z2 w2 dxo)
      fun p k => DXO p k + rmsGrad (X p) (fun j => H p j * G j) k := by
  intro p k
  pointwise [k0_pay3, k0_pay5]
  simp only [hd _ _, pay7 hx _ _, pay6 hx _ _, hg _ _, hdxo _ _, ← EReal.coe_mul, sum_coe, word_1024,
    div_coe (show (1024 : ℝ) ≠ 0 by norm_num), ← EReal.coe_add, ← EReal.coe_sub]; rfl

theorem pay4 : Holds (k0_pay4 (F := Ideal)) fun _ _ => 0 := by
  intro p k
  pointwise [k0_pay4]
  rfl
end Pay

/-! ## The blocks a grid point reads -/

variable {m : (ℓ : Loc nD τ sig) → Buf (Elt Ideal) ℓ} {c : Dev nD} {R : Nums}

variable (m) in
/-- Device `c`'s five arguments hold the numbers `R`. -/
abbrev ArgsAt (c : Dev nD) (R : Nums) : Prop :=
  NumsHold (m (c, Proc.tc.devRef main_arg0)) (m (c, Proc.tc.devRef main_arg1)) (m (c, Proc.tc.devRef main_arg2))
    (m (c, Proc.tc.devRef main_arg3)) (m (c, Proc.tc.devRef main_arg4)) R

theorem wt_eq (h : ArgsAt m c R) (j : Fin 5376) (k : Fin 1024) :
    (V m c main_v2 : FVec Ideal S5376x1024 .bf16) (ix2 j k) = ((R.w k j : ℝ) : EReal) := by
  unfold V
  after_reads_at
  exact h.w k j

theorem pg_eq (h : ArgsAt m c R) (k : Fin 1024) : (V m c main_v0 : FVec Ideal S1x1024 .f32) (ix2 0 k) = ((R.pg k : ℝ) : EReal) := by
  unfold V
  after_reads_at
  exact h.pg k

/-- The token of row `p` of point `t`. -/
def tok (t : Fin cfg0.N) (p : Fin 512) : Fin 16384 := ⟨512 * t.val + p.val, by have := t.isLt; have e : cfg0.N = 32 := rfl; omega⟩

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ ((cfg0.win 7).flush t = true → t.val = 31) :=
  (by decide +kernel : ∀ t : Fin grid0.N, _)

theorem blk0 (h : ArgsAt m c R) (t : Fin cfg0.N) : Holds (iblk m c 0 t : FVec Ideal S512x1024 .f32) fun p => R.dxo (tok t p) := by
  intro p k
  refine Eq.trans ?_ (h.dxo (tok t p) k)
  blk_simp [iblk]
  rw [V_main_arg0]
  congr 1
  blk_ext [(idx t).1, tok]

theorem blk1 (h : ArgsAt m c R) (t : Fin cfg0.N) : Holds (iblk m c 1 t : FVec Ideal S512x1024 .f32) fun p => R.x (tok t p) := by
  intro p k
  refine Eq.trans ?_ (h.x (tok t p) k)
  blk_simp [iblk]
  rw [V_main_arg1]
  congr 1
  blk_ext [(idx t).2.1, tok]

theorem blk2 (h : ArgsAt m c R) (t : Fin cfg0.N) : Holds (iblk m c 2 t : FVec Ideal S512x5376 .bf16) fun p => R.dz (tok t p) := by
  intro p k
  refine Eq.trans ?_ (h.dz (tok t p) k)
  blk_simp [iblk]
  rw [V_main_arg2]
  congr 1
  blk_ext [(idx t).2.2.1, tok]

theorem blk3 (h : ArgsAt m c R) (t : Fin cfg0.N) : Holds (iblk m c 3 t : FVec Ideal S1x1024 .f32) fun _ => R.pg := by
  intro p k
  refine Eq.trans ?_ (pg_eq h k)
  blk_simp [iblk]
  congr 1
  blk_ext [(idx t).2.2.2.1]

theorem blk4 (h : ArgsAt m c R) (t : Fin cfg0.N) : Holds (iblk m c 4 t : FVec Ideal S5376x1024 .bf16) fun j k => R.w k j := by
  intro j k
  refine Eq.trans ?_ (wt_eq h j k)
  blk_simp [iblk]
  congr 1
  blk_ext [(idx t).2.2.2.2.1]

/-! ## What a grid point leaves -/

/-- The projected gradient times the projection: the three runs' sum. -/
theorem dh_eq (h : ArgsAt m c R) (t : Fin cfg0.N) :
    Holds (k0_pay1 (F := Ideal) (k0_pay9
      (cut (iblk m c 2 t) 0 0 512 1792 inb_S512x5376_S512x1792_0_0) (cut (iblk m c 4 t) 0 0 1792 1024 inb_S5376x1024_S1792x1024_0_0)
      (cut (iblk m c 2 t) 0 1792 512 1792 inb_S512x5376_S512x1792_0_1792) (cut (iblk m c 4 t) 1792 0 1792 1024 inb_S5376x1024_S1792x1024_1792_0))
      (cut (iblk m c 2 t) 0 3584 512 1792 inb_S512x5376_S512x1792_0_3584) (cut (iblk m c 4 t) 3584 0 1792 1024 inb_S5376x1024_S1792x1024_3584_0))
      fun p => R.dh (tok t p) := by
  have e := pay1 (pay9 (holds_ld (blk2 h t) inb_S512x5376_S512x1792_0_0 (by omega) (by omega))
      (holds_ld (blk2 h t) inb_S512x5376_S512x1792_0_1792 (by omega) (by omega))
      (holds_ld (blk4 h t) inb_S5376x1024_S1792x1024_0_0 (by omega) (by omega))
      (holds_ld (blk4 h t) inb_S5376x1024_S1792x1024_1792_0 (by omega) (by omega)))
    (holds_ld (blk2 h t) inb_S512x5376_S512x1792_0_3584 (by omega) (by omega))
    (holds_ld (blk4 h t) inb_S5376x1024_S1792x1024_3584_0 (by omega) (by omega))
  intro p d
  refine (e p d).trans (congrArg _ ?_)
  refine Eq.trans ?_ (sum_thirds _).symm
  simp only [Nat.zero_add, Fin.eta]

theorem out5 (h : ArgsAt m c R) (t : Fin cfg0.N) : Holds (outsAt0 m c t.val t.isLt).1 fun p => R.dx (tok t p) := by
  have e := pay3 (dh_eq h t) (blk1 h t) (blk3 h t) (blk0 h t)
  by_cases h0 : t.val % 32 = 0
  · rw [outsAt0_A m c t h0]; frame_out; exact e
  · rw [outsAt0_B m c t h0]; frame_out; exact e

theorem out6 (h : ArgsAt m c R) (t : Fin cfg0.N) : Holds (outsAt0 m c t.val t.isLt).2.1 fun p => R.h (tok t p) := by
  have e := pay8 (blk1 h t) (blk3 h t)
  by_cases h0 : t.val % 32 = 0
  · rw [outsAt0_A m c t h0]; frame_out; exact e
  · rw [outsAt0_B m c t h0]; frame_out; exact e

/-- The rows' part of the weight's gradient at point `s`. -/
def part (R : Nums) (k : Fin 1024) (s : ℕ) : ℝ :=
  if hs : s < cfg0.N then ∑ p, R.dh (tok ⟨s, hs⟩ p) k * nrm (R.x (tok ⟨s, hs⟩ p)) k else 0
theorem part_eq (t : Fin cfg0.N) (k : Fin 1024) : part R k t.val = ∑ p, R.dh (tok t p) k * nrm (R.x (tok t p)) k := by
  unfold part; rw [dif_pos t.isLt]

/-- The weight's gradient after point `n`: the rows of the points up to there. -/
theorem out7 (h : ArgsAt m c R) (n : ℕ) (hn : n < cfg0.N) : Holds (outsAt0 m c n hn).2.2 fun _ k => runSum (part R k) n := by
  induction n with
  | zero =>
    intro p k
    rw [outsAt0_A m c ⟨0, hn⟩ rfl]; frame_out
    refine (pay2 (dh_eq h ⟨0, hn⟩) (blk1 h ⟨0, hn⟩) pay4 p k).trans (congrArg _ ?_)
    rw [← runSum_zero, part_eq ⟨0, hn⟩]
  | succ n ih =>
    intro p k
    have h0 : ¬(n + 1) % 32 = 0 := by have hN : cfg0.N = 32 := rfl; omega
    rw [outsAt0_B m c ⟨n + 1, hn⟩ h0]; frame_out
    refine (pay2 (dh_eq h ⟨n + 1, hn⟩) (blk1 h ⟨n + 1, hn⟩) (ih (Nat.lt_of_succ_lt hn)) p k).trans (congrArg _ ?_)
    rw [← runSum_succ, part_eq ⟨n + 1, hn⟩]

/-! ## The results -/

theorem value5 (h : ArgsAt m c R) : (dats m 0 c).arrAt 5 cfg0.N = arrOf R.dx := by
  refine (dats m 0 c).arrAt_eq_of_covers 5 _ (by decide +kernel) fun t hf y => ?_
  blk_simp
  rw [after0_5]
  refine (holds_at (out5 h t) y).trans (show arrOf R.dx (ix2 (tok t (y 0)) (y 1)) = _ from ?_)
  congr 1
  blk_ext [(idx t).2.2.2.2.2.1, tok]

theorem value6 (h : ArgsAt m c R) : (dats m 0 c).arrAt 6 cfg0.N = arrOf R.h := by
  refine (dats m 0 c).arrAt_eq_of_covers 6 _ (by decide +kernel) fun t hf y => ?_
  blk_simp
  rw [after0_6]
  refine (holds_at (out6 h t) y).trans (show arrOf R.h (ix2 (tok t (y 0)) (y 1)) = _ from ?_)
  congr 1
  blk_ext [(idx t).2.2.2.2.2.2.1, tok]

theorem part_sum (k : Fin 1024) : runSum (part R k) 31 = R.dpg k := by
  refine runSum_rows (b := 512) (by norm_num) (fun r => R.dh r k * nrm (R.x r) k) fun s hs => ?_
  exact part_eq (R := R) ⟨s, hs⟩ k

theorem value7 (h : ArgsAt m c R) : (dats m 0 c).arrAt 7 cfg0.N = arrOf fun _ : Fin 1 => R.dpg := by
  refine (dats m 0 c).arrAt_eq_of_covers 7 _ (by decide +kernel) fun t hf y => ?_
  have ht := (idx t).2.2.2.2.2.2.2.2 hf
  blk_simp
  rw [after0_7]
  refine (holds_at (out7 h t.val t.isLt) y).trans ((congrArg _ ((congrArg (runSum (part R (y 1))) ht).trans (part_sum (y 1)))).trans
    (show arrOf (fun _ : Fin 1 => R.dpg) (ix2 (y 0) (y 1)) = _ from ?_))
  congr 1
  blk_ext [(idx t).2.2.2.2.2.2.2.1]

end Cert.MixInIdeal.KernelValue

end
-- ==== Proof.MixInRef.lean ====
/- What the reference of `mix_in_bwd` computes, stage by stage, over the reals. -/
module

public import proofs.«01_k».proof.Proof.MixInMath
public import proofs.«01_k».proof.Proof.Gen.MixInRefIdeal.Read
public import Idealize.ShloMosaic.Lib.Pointwise

@[expose] public section

set_option maxRecDepth 16384

noncomputable section

open Idealize.ShloMosaic Cert.Half Cert.MixInMath
open Cert.MixInRefIdeal Cert.MixInRefIdeal.Gen Cert.MixInRefIdeal.Value Cert.MixInRefIdeal.Read

namespace Cert.MixInRefIdeal.RefValue

variable {x0 x1 : (⟨S16384x1024, .f32⟩ : BufTy).Contents (Elt Ideal)} {x2 : (⟨S16384x5376, .bf16⟩ : BufTy).Contents (Elt Ideal)}
  {x3 : (⟨S1024, .f32⟩ : BufTy).Contents (Elt Ideal)} {x4 : (⟨S1024x5376, .f32⟩ : BufTy).Contents (Elt Ideal)} {R : Nums}

theorem ms_x (h : NumsHold x0 x1 x2 x3 x4 R) : Holds (val_main_v6 (F := Ideal) x1) fun r _ => ms (R.x r) := by
  intro r k
  obtain rfl : k = 0 := Subsingleton.elim _ _
  pointwise [val_main_v6, val_main_v5, val_main_v4, val_main_v3, val_main_v2, val_main_v1, val_main_v0, val_main_cst, val_main_cst_0, val_main_cst_1]
  simp only [h.x _ _, ← EReal.coe_mul, sum_coe, word_zero, word_1024, word_eps, div_coe (show (1024 : ℝ) ≠ 0 by norm_num), ← EReal.coe_add, zero_add]
  rfl

theorem rinv_x (h : NumsHold x0 x1 x2 x3 x4 R) : Holds (val_main_v7 (F := Ideal) x1) fun r _ => rinv (R.x r) := by
  intro r k
  obtain rfl : k = 0 := Subsingleton.elim _ _
  pointwise [val_main_v7]
  rw [ms_x h]
  exact rsqrt_coe (ms_pos _)

theorem half_x (h : NumsHold x0 x1 x2 x3 x4 R) : Holds (val_main_v10 (F := Ideal) x1) fun r _ => -(1 / 2) * (rinv (R.x r) / ms (R.x r)) := by
  intro r k
  obtain rfl : k = 0 := Subsingleton.elim _ _
  pointwise [val_main_v10, val_main_v9, val_main_v8, val_main_cst_2]
  rw [ms_x h, rinv_x h, word_neg_half, div_coe (ms_pos _).ne', ← EReal.coe_mul]

theorem nrm_x (h : NumsHold x0 x1 x2 x3 x4 R) : Holds (val_main_v12 (F := Ideal) x1) fun r => nrm (R.x r) := by
  intro r k
  pointwise [val_main_v12, val_main_v11]
  rw [h.x, rinv_x h, ← EReal.coe_mul]; rfl

theorem h_x (h : NumsHold x0 x1 x2 x3 x4 R) : Holds (val_main_v15 (F := Ideal) x1 x3) R.h := by
  intro r k
  pointwise [val_main_v15, val_main_v14, val_main_v13]
  rw [h.pg, nrm_x h, ← EReal.coe_mul]; rfl

theorem dh (h : NumsHold x0 x1 x2 x3 x4 R) : Holds (val_main_v18 (F := Ideal) x2 x4) R.dh := by
  intro r k
  pointwise [val_main_v18, val_main_v17]
  simp only [h.dz _ _, h.w _ _, ← EReal.coe_mul, sum_coe]; rfl

theorem dpg (h : NumsHold x0 x1 x2 x3 x4 R) : Holds (val_main_v54 (F := Ideal) x1 x2 x4) fun _ => R.dpg := by
  intro r k
  pointwise [val_main_v54, val_main_v24, val_main_v21, val_main_v20, val_main_v19, val_main_cst_3, val_main_cst_4]
  rw [Fin.sum_univ_one]
  simp only [nrm_x h _ _, dh h _ _, ← EReal.coe_mul, sum_coe, word_zero, ← EReal.coe_add, zero_add]
  exact congrArg _ (Finset.sum_congr rfl fun r _ => mul_comm _ _)

theorem dn_x (h : NumsHold x0 x1 x2 x3 x4 R) : Holds (val_main_v23 (F := Ideal) x2 x3 x4) fun r k => R.dh r k * R.pg k := by
  intro r k
  pointwise [val_main_v23, val_main_v22, val_main_v13]
  rw [dh h, h.pg, ← EReal.coe_mul]

theorem mean_x (h : NumsHold x0 x1 x2 x3 x4 R) : Holds (val_main_v35 (F := Ideal) x1 x2 x3 x4) fun r (_ : Fin 1024) =>
    (∑ j, R.x r j * (R.dh r j * R.pg j)) * (-(1 / 2) * (rinv (R.x r) / ms (R.x r))) / 1024 := by
  intro r k
  pointwise [val_main_v35, val_main_v34, val_main_v33, val_main_v32, val_main_v31, val_main_v27, val_main_v26, val_main_v25, val_main_cst_5,
    val_main_cst_6, val_main_cst_7]
  rw [Fin.sum_univ_one]
  simp only [h.x _ _, dn_x h _ _, half_x h _ _, ← EReal.coe_mul, sum_coe, word_zero, word_1024, div_coe (show (1024 : ℝ) ≠ 0 by norm_num),
    ← EReal.coe_add, zero_add]

theorem dx (h : NumsHold x0 x1 x2 x3 x4 R) : Holds (val_main_v39 (F := Ideal) x0 x1 x2 x3 x4) R.dx := by
  intro r k
  pointwise [val_main_v39, val_main_v38, val_main_v37, val_main_v36, val_main_v30, val_main_v29, val_main_v28]
  simp only [h.dxo _ _, h.x _ _, dn_x h _ _, rinv_x h _ _, mean_x h _ _, ← EReal.coe_mul, ← EReal.coe_add, add_assoc]
  refine congrArg _ (congrArg (R.dxo r k + ·) ?_)
  rw [← add_assoc]
  exact rmsGrad_eq (R.x r) (fun k => R.dh r k * R.pg k) k

theorem h_cast (h : NumsHold x0 x1 x2 x3 x4 R) : Holds (val_main_v53 (F := Ideal) x1 x3) R.h := h_x h

end Cert.MixInRefIdeal.RefValue

end
-- ==== Proof.MixIn.lean ====
/- The claims about `mix_in_bwd`: the frames, and that kernel and reference leave the same three results. -/
module

public import proofs.«01_k».proof.Defs
public import proofs.«01_k».proof.Proof.Gen.MixIn.Frame
public import proofs.«01_k».proof.Proof.Gen.MixInRefIdeal.Run
public import proofs.«01_k».proof.Proof.Gen.Pre_finite_mix_in
public import proofs.«01_k».proof.Proof.MixInKernel
public import proofs.«01_k».proof.Proof.MixInRef
public import proofs.«01_k».proof.Proof.Finite

@[expose] public section

noncomputable section

open Idealize.ShloMosaic Idealize.SL.Sem Cert.Half Cert.MixInMath

namespace Cert.MixInBwd

theorem frame : Cert.quiescent_MixIn := fun m g _ => Cert.MixIn.Gen.frame m g
theorem frame_ideal : Cert.quiescent_MixInIdeal := fun m g _ => Cert.MixInIdeal.Gen.frame m g
theorem frame_ideal_finite : Cert.quiescent_MixInIdeal_pre_finite_mix_in := fun m g _ => Cert.MixInIdeal.Gen.frame m g

/-- The reference runs, keeps its arguments and leaves every counter at zero. -/
theorem frame_reference : Cert.quiescent_MixInRefIdeal := fun m g _ =>
  (θ_run Cert.MixInRefIdeal.defs _ _).mono
    (fun r h => ⟨fun c => (h c).2.2.2, sem_eq_zero_of_no_sems (by decide) r.2⟩) (Cert.MixInRefIdeal.Value.run (F := Ideal) m g)
theorem frame_reference_finite : Cert.quiescent_MixInRefIdeal_pre_finite_mix_in := fun m g _ =>
  (θ_run Cert.MixInRefIdeal.defs _ _).mono
    (fun r h => ⟨fun c => (h c).2.2.2, sem_eq_zero_of_no_sems (by decide) r.2⟩) (Cert.MixInRefIdeal.Value.run (F := Ideal) m g)

theorem preserves : Cert.preserves_MixIn_MixInIdeal := trivial

open Cert.Pre_finite_mix_in in
/-- The predicate gives the numbers. -/
theorem exists_nums {a0 a1 : FVec Ideal S16384x1024 .f32} {a2 : FVec Ideal S16384x5376 .bf16} {a3 : FVec Ideal S1024 .f32}
    {a4 : FVec Ideal S1024x5376 .f32} (h : Cert.Pre_finite_mix_in.fn (F := Ideal) a0 a1 a2 a3 a4 = fun _ => 1#1) :
    ∃ R : Nums, NumsHold a0 a1 a2 a3 a4 R := by
  have h := congrFun h (fun d => d.elim0)
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨⟨fun r k => (a0 (ix2 r k) : EReal).toReal, fun r k => (a1 (ix2 r k) : EReal).toReal, fun r j => (a2 (ix2 r j) : EReal).toReal,
    fun k => (a3 (ix1 k) : EReal).toReal, fun k j => (a4 (ix2 k j) : EReal).toReal⟩,
    fun _ _ => Finite.real_of_all h0 _, fun _ _ => Finite.real_of_all h1 _, fun _ _ => Finite.real_of_all h2 _,
    fun _ => Finite.real_of_all h3 _, fun _ _ => Finite.real_of_all h4 _⟩

open Cert.MixInIdeal.KernelValue Cert.MixInRefIdeal.RefValue in
/-- On real arguments both programs leave the three arrays of reals. -/
theorem algebraic : Cert.algebraic_MixInIdeal_MixInRefIdeal_pre_finite_mix_in := by
  intro m g m' g' hpre hagree
  have hr : ∀ c, ∃ R, ArgsAt m c R := fun c => exists_nums (hpre c)
  choose R hR using hr
  have hR' : ∀ c, NumsHold _ _ _ _ _ (R c) := fun c => by
    have h := hR c
    unfold ArgsAt at h
    obtain ⟨e0, e1, e2, e3, e4⟩ := hagree c
    exact (e0 ▸ e1 ▸ e2 ▸ e3 ▸ e4 ▸ h : NumsHold (m' ((c.tc : Thread Cert.MixInRefIdeal.nD Cert.MixInRefIdeal.τ).loc Cert.MixInRefIdeal.main_arg0))
      (m' ((c.tc : Thread Cert.MixInRefIdeal.nD Cert.MixInRefIdeal.τ).loc Cert.MixInRefIdeal.main_arg1))
      (m' ((c.tc : Thread Cert.MixInRefIdeal.nD Cert.MixInRefIdeal.τ).loc Cert.MixInRefIdeal.main_arg2))
      (m' ((c.tc : Thread Cert.MixInRefIdeal.nD Cert.MixInRefIdeal.τ).loc Cert.MixInRefIdeal.main_arg3))
      (m' ((c.tc : Thread Cert.MixInRefIdeal.nD Cert.MixInRefIdeal.τ).loc Cert.MixInRefIdeal.main_arg4)) (R c))
  refine ⟨fun c => arrOf (R c).dx, fun c => arrOf (R c).h, fun c => arrOf fun _ : Fin 1 => (R c).dpg, ?_, ?_⟩
  · refine (θ_run Cert.MixInIdeal.defs _ _).mono (fun r h c => ?_) (Cert.MixInIdeal.Value.run_blocks (F := Ideal) m g)
    obtain ⟨h0, h1, h2, hargs⟩ := h c
    exact ⟨h0.trans (value5 (hR c)), h1.trans (value6 (hR c)), h2.trans (value7 (hR c)), hargs⟩
  · refine (θ_run Cert.MixInRefIdeal.defs _ _).mono (fun r h c => ?_) (Cert.MixInRefIdeal.Value.run (F := Ideal) m' g')
    obtain ⟨h0, h1, h2, hargs⟩ := h c
    exact ⟨h0.trans ((Cert.MixInRefIdeal.Read.val_main_v39_eq _ _).trans (dx (hR' c)).eq_arrOf),
      h1.trans ((Cert.MixInRefIdeal.Read.val_main_v53_eq _ _).trans (h_cast (hR' c)).eq_arrOf),
      h2.trans ((Cert.MixInRefIdeal.Read.val_main_v54_eq _ _ _).trans (dpg (hR' c)).eq_arrOf), hargs⟩

end Cert.MixInBwd

end
-- ==== Proof.Wgrad.lean ====
/- A weight's gradient as a sum over the rows, added up run by run into a block kept between the points of a grid. -/
module

public import proofs.«01_k».proof.Proof.Blocks
public import Idealize.ShloMosaic.Lib.Pipeline.ReadBack

@[expose] public section

noncomputable section

open Idealize.ShloMosaic

namespace Cert.Half

/-- The gradient of a product's second factor: the first factor's columns against the cotangent's, the latter as rows. -/
def outer {n a b : ℕ} (x : Shape.Idx ⟨2, ![n, a]⟩ → EReal) (y : Shape.Idx ⟨2, ![n, b]⟩ → EReal) : Shape.Idx ⟨2, ![b, a]⟩ → EReal :=
  fun i => ∑ r, x (ix2 r (i 1)) * y (ix2 r (i 0))

/-- A run of columns read out of what one store of a whole block left. -/
theorem run_at {sig : RefSig} {κ : Kind} {sp : Space} {a b n o : ℕ} (v : View sig κ sp ⟨2, ![a, b]⟩ .f32)
    (inb : ∀ d, ![0, 0] d + ![a, b] d ≤ (⟨2, ![a, b]⟩ : Shape).size d) (inb' : ∀ d, ![0, o] d + ![a, n] d ≤ (⟨2, ![a, b]⟩ : Shape).size d)
    (Z : Vec Ideal ⟨2, ![a, b]⟩ .f32) (L : List (View.Piece (Elt Ideal) ⟨2, ![a, b]⟩ .f32)) (hn : o + n ≤ b) {p p' : Fin a} {j : Fin b} {k : Fin n}
    (hp : p.val = p'.val) (hj : j.val = o + k.val) :
    v.readCov ((⟨Rect.unit ![0, 0] ![a, b] inb, Z⟩ : View.Piece (Elt Ideal) ⟨2, ![a, b]⟩ .f32) :: L)
      (Rect.unit (s := ⟨2, ![a, b]⟩) ![0, o] ![a, n] inb').toLoadRect (ix2 p' k) = Z (ix2 p j) := by
  have hk : o + k.val < b := lt_of_lt_of_le (by omega) hn
  have hp' : 0 + p'.val < a := by omega
  obtain rfl : j = ⟨o + k, hk⟩ := Fin.ext hj
  obtain rfl : p = ⟨0 + p', hp'⟩ := Fin.ext (hp.trans (Nat.zero_add _).symm)
  refine Eq.trans ?_ (cut_at Z inb' (by omega) hn p' k)
  exact congrFun (View.readCov_fill v inb Z L (Rect.unit (s := ⟨2, ![a, b]⟩) ![0, o] ![a, n] inb') (fun d => by fin_cases d <;> rfl)) _

/-- Row `q` of the run that point `s` reads, the runs taken in turn, `K` of them. -/
def rowAt {n K b : ℕ} (hK : 0 < K) (hn : n = K * b) (s : ℕ) (q : Fin b) : Fin n := ⟨b * (s % K) + q, by
  have h := Nat.mul_le_mul_left b (Nat.mod_lt s hK)
  have := q.isLt
  rw [hn, Nat.mul_comm K]
  exact lt_of_lt_of_le (by rw [Nat.succ_eq_add_one, Nat.mul_add]; omega) h⟩

/-- The pass over the runs that point `s` belongs to. -/
def passAt {N I K : ℕ} (hN : N = I * K) (s : ℕ) (hs : s < N) : Fin I :=
  ⟨s / K, Nat.div_lt_of_lt_mul (by rw [Nat.mul_comm, ← hN]; exact hs)⟩

/-- What is kept at a pass's last point is the sum over all the rows. -/
theorem pass_total {M : Type} [AddCommMonoid M] {n N I K b : ℕ} (hK : 0 < K) (hn : n = K * b) (hN : N = I * K) (f : Fin I → Fin n → M)
    (S : ∀ s, s < N → M) (first : ∀ s hs, s % K = 0 → S s hs = 0 + ∑ q : Fin b, f (passAt hN s hs) (rowAt hK hn s q))
    (next : ∀ s hs, (s + 1) % K ≠ 0 →
      S (s + 1) hs = S s (Nat.lt_of_succ_lt hs) + ∑ q : Fin b, f (passAt hN (s + 1) hs) (rowAt hK hn (s + 1) q))
    (s : ℕ) (hs : s < N) (h : s % K + 1 = K) : S s hs = ∑ r, f (passAt hN s hs) r := by
  -- the runs' sums, by the run's number
  let T : Fin I → ℕ → M := fun i k => if hk : k < K then ∑ q : Fin b, f i (rowAt hK hn k q) else 0
  have hT : ∀ i s, T i (s % K) = ∑ q : Fin b, f i (rowAt hK hn s q) := fun i s => by
    refine (dif_pos (Nat.mod_lt s hK)).trans (Finset.sum_congr rfl fun q _ => congrArg (f i) (Fin.ext ?_))
    show b * (s % K % K) + _ = _
    rw [Nat.mod_mod]; rfl
  have run : ∀ s hs, S s hs = runSum (T (passAt hN s hs)) (s % K) := fun s => by
    induction s with
    | zero =>
      intro hs
      rw [first 0 hs (Nat.zero_mod K), ← hT, Nat.zero_mod, runSum_zero]
    | succ s ih =>
      intro hs
      by_cases h0 : (s + 1) % K = 0
      · rw [first _ hs h0, ← hT, h0, runSum_zero]
      · have hm : (s + 1) % K = s % K + 1 := by
          rw [Nat.add_mod] at h0 ⊢
          rcases Nat.lt_or_ge 1 K with h1 | h1
          · rw [Nat.mod_eq_of_lt h1] at h0 ⊢
            refine Nat.mod_eq_of_lt (lt_of_le_of_ne (Nat.mod_lt s hK) fun e => h0 ?_)
            rw [show s % K + 1 = K from e, Nat.mod_self]
          · obtain rfl : K = 1 := by omega
            exact absurd (Nat.mod_one _) h0
        have hp : passAt hN (s + 1) hs = passAt hN s (Nat.lt_of_succ_lt hs) := Fin.ext (by
          show (s + 1) / K = s / K
          have e0 := Nat.div_add_mod s K
          have e1 := Nat.div_add_mod (s + 1) K
          rw [hm] at e1
          exact Nat.eq_of_mul_eq_mul_left hK (by omega))
        rw [next _ hs h0, ih, ← hT, hm, ← hp, runSum_succ]
  rw [run, show s % K = K - 1 by omega]
  refine runSum_rows (a := K - 1) (b := b) (by rw [hn, Nat.sub_add_cancel hK]) _ fun k hk => ?_
  have hk' : k < K := by omega
  refine (dif_pos hk').trans (Finset.sum_congr rfl fun q _ => congrArg _ (Fin.ext ?_))
  show b * (k % K) + _ = _
  rw [Nat.mod_eq_of_lt hk']

end Cert.Half

end
-- ==== Proof.GradW1.lean ====
/- The claims about `wgrad_ffn_w1`: the frames, and that kernel and reference leave the same gradient. -/
module

public import proofs.«01_k».proof.Defs
public import proofs.«01_k».proof.Proof.Wgrad
public import proofs.«01_k».proof.Proof.Gen.GradW1.Frame
public import proofs.«01_k».proof.Proof.Gen.GradW1Ideal.Value
public import proofs.«01_k».proof.Proof.Gen.GradW1RefIdeal.Run
public import proofs.«01_k».proof.Proof.Gen.GradW1RefIdeal.Read
public import Idealize.ShloMosaic.Lib.Pointwise

@[expose] public section

set_option maxRecDepth 16384

noncomputable section

open Idealize.ShloMosaic Idealize.SL.Sem Cert.Half Idealize.ShloMosaic.TcCoe
open Cert.GradW1Ideal Cert.GradW1Ideal.Gen

namespace Cert.GradW1Proof

variable {m : (ℓ : Loc nD τ sig) → Buf (Elt Ideal) ℓ} {c : Dev nD}

variable (m c) in
/-- The two arguments of device `c`. -/
abbrev xs : FVec Ideal S16384x1024 .bf16 := m ((c : Thread nD τ).loc main_arg0)
variable (m c) in
abbrev ys : FVec Ideal S16384x5632 .bf16 := m ((c : Thread nD τ).loc main_arg1)

theorem pay1_at (p : Fin 512) (j : Fin 5632) : k0_pay1 (F := Ideal) (ix2 p j) = 0 := by
  pointwise [k0_pay1]
theorem pay2_at (v : FVec Ideal S512x5632 .f32) (x : FVec Ideal S1024x512 .bf16) (y : FVec Ideal S1024x5632 .bf16) (p : Fin 512) (j : Fin 5632) :
    k0_pay2 v x y (ix2 p j) = v (ix2 p j) + ∑ q : Fin 1024, x (ix2 q p) * y (ix2 q j) := by
  pointwise [k0_pay2]

theorem pay3_at (v : FVec Ideal S512x1408 .f32) (x : S1408x512.Idx) : k0_pay3 (F := Ideal) v x = v (ix2 (x 1) (x 0)) := by
  rw [show x = ix2 (x 0) (x 1) by funext d; fin_cases d <;> rfl]
  pointwise [k0_pay3]

theorem idx : ∀ t : Fin cfg0.N, win0_0.index t = ![t.val % 16, t.val / 16] ∧ win0_1.index t = ![t.val % 16, 0] ∧ win0_2.index t = ![0, t.val / 16]
    ∧ ((cfg0.win 2).flush t = true → t.val % 16 = 15) :=
  (by decide +kernel : ∀ t : Fin grid0.N, _)

theorem hN : cfg0.N = 2 * 16 := rfl
/-- The rows point `t` reads, and the columns of the pass. -/
abbrev row (t : Fin cfg0.N) (q : Fin 1024) : Fin 16384 := rowAt (K := 16) (by norm_num) (by norm_num) t.val q
abbrev col (i : Fin 2) (p : Fin 512) : Fin 1024 := ⟨512 * i + p, by omega⟩

theorem blk0 (t : Fin cfg0.N) (q : Fin 1024) (p : Fin 512) :
    (iblk m c 0 t : FVec Ideal S1024x512 .bf16) (ix2 q p) = xs m c (ix2 (row t q) (col (passAt hN t.val t.isLt) p)) := by
  blk_simp [iblk]
  rw [V_main_arg0]
  congr 1
  blk_ext [(idx t).1, rowAt, passAt]

theorem blk1 (t : Fin cfg0.N) (q : Fin 1024) (j : Fin 5632) :
    (iblk m c 1 t : FVec Ideal S1024x5632 .bf16) (ix2 q j) = ys m c (ix2 (row t q) j) := by
  blk_simp [iblk]
  rw [V_main_arg1]
  congr 1
  blk_ext [(idx t).2.1, rowAt]

/-- The kept block after a point. -/
theorem kept_next (t : Fin cfg0.N) (h0 : ¬t.val % 16 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 16 = 15
  · rw [outsAt0_C m c t h0 h1]; frame_out; exact congrArg (k0_pay2 · _ _) (Memref.IsWhole.read_unread _ _)
  · rw [outsAt0_B m c t h0 h1]; frame_out; exact congrArg (k0_pay2 · _ _) (Memref.IsWhole.read_unread _ _)

/-- The block a pass's last point leaves is the kept block's transpose. -/
theorem out_last (t : Fin cfg0.N) (h1 : t.val % 16 = 15) (j : Fin 5632) (p : Fin 512) :
    (outsAt0 m c t.val t.isLt).1 (ix2 j p) = (outsAt0 m c t.val t.isLt).2 (ix2 p j) := by
  have h0 : ¬t.val % 16 = 0 := by omega
  rw [outsAt0_C m c t h0 h1]
  frame_out
  canon_tiles x hx using (View.cover_of_tiledBy _ ![1408, 512] (by sl_kernel_rfl) _)
  exacts [(pay3_at _ x).trans (run_at _ _ _ _ _ (by norm_num) hx1 hx0), (pay3_at _ x).trans (run_at _ _ _ _ _ (by norm_num) hx1 hx0),
    (pay3_at _ x).trans (run_at _ _ _ _ _ (by norm_num) hx1 hx0),
    (pay3_at _ x).trans (run_at _ _ _ _ _ (by norm_num) hx1 (hx0.trans (Nat.zero_add _).symm))]

/-- A pass's last point keeps the sums over all the rows. -/
theorem kept_last (t : Fin cfg0.N) (h1 : t.val % 16 = 15) (p : Fin 512) (j : Fin 5632) :
    (outsAt0 m c t.val t.isLt).2 (ix2 p j) = outer (xs m c) (ys m c)
      (ix2 j (col (passAt hN t.val t.isLt) p)) := by
  refine pass_total (K := 16) (b := 1024) (by norm_num) (by norm_num) hN (fun i r =>
    xs m c (ix2 r (col i p)) * ys m c (ix2 r j))
    (fun s hs => (outsAt0 m c s hs).2 (ix2 p j)) (fun s hs h0 => ?_) (fun s hs h0 => ?_) t.val t.isLt (by omega)
  · rw [outsAt0_A m c ⟨s, hs⟩ h0 (by dsimp only; omega)]
    frame_out
    refine (pay2_at _ _ _ p j).trans ?_
    simp only [pay1_at, blk0, blk1]
  · refine (congrFun (kept_next ⟨s + 1, hs⟩ h0) _).trans ((pay2_at _ _ _ p j).trans ?_)
    simp only [blk0, blk1]
    rfl

/-- The gradient the kernel leaves. -/
theorem value : (dats m 0 c).arrAt 2 cfg0.N = outer (xs m c) (ys m c) := by
  refine (dats m 0 c).arrAt_eq_of_covers 2 _ (by decide +kernel) fun t hf y => ?_
  have h1 := (idx t).2.2.2 hf
  blk_simp
  rw [after0_2]
  refine (congrArg _ (show y = ix2 (y 0) (y 1) by funext d; fin_cases d <;> rfl)).trans
    ((out_last t h1 (y 0) (y 1)).trans ((kept_last t h1 (y 1) (y 0)).trans ?_))
  congr 1
  blk_ext [(idx t).2.2.1, passAt]

/-! ## The claims -/

/-- The reference's gradient. -/
theorem ref_value (x : FVec Ideal S16384x1024 .bf16) (y : FVec Ideal S16384x5632 .bf16) :
    Cert.GradW1RefIdeal.Read.val_main_v7 (F := Ideal) x y = outer x y := by
  funext i
  rw [show i = ix2 (i 0) (i 1) by funext d; fin_cases d <;> rfl]
  pointwise [Cert.GradW1RefIdeal.Read.val_main_v7, Cert.GradW1RefIdeal.Read.val_main_v6, Cert.GradW1RefIdeal.Read.val_main_v5,
    Cert.GradW1RefIdeal.Read.val_main_v4, Cert.GradW1RefIdeal.Read.val_main_v3, Cert.GradW1RefIdeal.Read.val_main_v1]
  exact Finset.sum_congr rfl fun r _ => mul_comm _ _

theorem frame : Cert.quiescent_GradW1 := fun m g _ => Cert.GradW1.Gen.frame m g
theorem frame_ideal : Cert.quiescent_GradW1Ideal := fun m g _ => Cert.GradW1Ideal.Gen.frame m g

/-- The reference runs, keeps its arguments and leaves every counter at zero. -/
theorem frame_reference : Cert.quiescent_GradW1RefIdeal := fun m g _ =>
  (θ_run Cert.GradW1RefIdeal.defs _ _).mono
    (fun r h => ⟨fun c => (h c).2, sem_eq_zero_of_no_sems (by decide) r.2⟩) (Cert.GradW1RefIdeal.Value.run (F := Ideal) m g)

theorem preserves : Cert.preserves_GradW1_GradW1Ideal := trivial

/-- Both programs leave the same gradient. -/
theorem algebraic : Cert.algebraic_GradW1Ideal_GradW1RefIdeal := by
  intro m g m' g' _ hagree
  refine ⟨fun c => outer (xs m c) (ys m c), ?_, ?_⟩
  · refine (θ_run Cert.GradW1Ideal.defs _ _).mono (fun r h c => ?_) (Cert.GradW1Ideal.Value.run_blocks (F := Ideal) m g)
    exact ⟨(h c).1.trans value, (h c).2⟩
  · refine (θ_run Cert.GradW1RefIdeal.defs _ _).mono (fun r h c => ?_) (Cert.GradW1RefIdeal.Value.run (F := Ideal) m' g')
    refine ⟨(h c).1.trans ((Cert.GradW1RefIdeal.Read.val_main_v7_eq _ _).trans ((ref_value _ _).trans ?_)), (h c).2⟩
    rw [(hagree c).1, (hagree c).2]

end Cert.GradW1Proof

end
-- ==== Proof.GradW2.lean ====
/- The claims about `wgrad_ffn_w2`: the frames, and that kernel and reference leave the same gradient. -/
module

public import proofs.«01_k».proof.Defs
public import proofs.«01_k».proof.Proof.Wgrad
public import proofs.«01_k».proof.Proof.Gen.GradW2.Frame
public import proofs.«01_k».proof.Proof.Gen.GradW2Ideal.Value
public import proofs.«01_k».proof.Proof.Gen.GradW2RefIdeal.Run
public import proofs.«01_k».proof.Proof.Gen.GradW2RefIdeal.Read
public import Idealize.ShloMosaic.Lib.Pointwise

@[expose] public section

set_option maxRecDepth 16384

noncomputable section

open Idealize.ShloMosaic Idealize.SL.Sem Cert.Half Idealize.ShloMosaic.TcCoe
open Cert.GradW2Ideal Cert.GradW2Ideal.Gen

namespace Cert.GradW2Proof

variable {m : (ℓ : Loc nD τ sig) → Buf (Elt Ideal) ℓ} {c : Dev nD}

variable (m c) in
/-- The two arguments of device `c`. -/
abbrev xs : FVec Ideal S16384x1024 .bf16 := m ((c : Thread nD τ).loc main_arg1)
variable (m c) in
abbrev ys : FVec Ideal S16384x2816 .bf16 := m ((c : Thread nD τ).loc main_arg0)

theorem pay1_at (p : Fin 1024) (j : Fin 2816) : k0_pay1 (F := Ideal) (ix2 p j) = 0 := by
  pointwise [k0_pay1]
theorem pay2_at (v : FVec Ideal S1024x2816 .f32) (x : FVec Ideal S1024x1024 .bf16) (y : FVec Ideal S1024x2816 .bf16) (p : Fin 1024) (j : Fin 2816) :
    k0_pay2 v x y (ix2 p j) = v (ix2 p j) + ∑ q : Fin 1024, x (ix2 q p) * y (ix2 q j) := by
  pointwise [k0_pay2]

theorem pay3_at (v : FVec Ideal S1024x1408 .f32) (x : S1408x1024.Idx) : k0_pay3 (F := Ideal) v x = v (ix2 (x 1) (x 0)) := by
  rw [show x = ix2 (x 0) (x 1) by funext d; fin_cases d <;> rfl]
  pointwise [k0_pay3]

theorem idx : ∀ t : Fin cfg0.N, win0_0.index t = ![t.val % 16, t.val / 16] ∧ win0_1.index t = ![t.val % 16, 0] ∧ win0_2.index t = ![0, t.val / 16]
    ∧ ((cfg0.win 2).flush t = true → t.val % 16 = 15) :=
  (by decide +kernel : ∀ t : Fin grid0.N, _)

theorem hN : cfg0.N = 1 * 16 := rfl
/-- The rows point `t` reads, and the columns of the pass. -/
abbrev row (t : Fin cfg0.N) (q : Fin 1024) : Fin 16384 := rowAt (K := 16) (by norm_num) (by norm_num) t.val q
abbrev col (i : Fin 1) (p : Fin 1024) : Fin 1024 := ⟨1024 * i + p, by omega⟩

theorem blk0 (t : Fin cfg0.N) (q : Fin 1024) (p : Fin 1024) :
    (iblk m c 0 t : FVec Ideal S1024x1024 .bf16) (ix2 q p) = xs m c (ix2 (row t q) (col (passAt hN t.val t.isLt) p)) := by
  blk_simp [iblk]
  rw [V_main_arg1]
  congr 1
  blk_ext [(idx t).1, rowAt, passAt]

theorem blk1 (t : Fin cfg0.N) (q : Fin 1024) (j : Fin 2816) :
    (iblk m c 1 t : FVec Ideal S1024x2816 .bf16) (ix2 q j) = ys m c (ix2 (row t q) j) := by
  blk_simp [iblk]
  rw [V_main_arg0]
  congr 1
  blk_ext [(idx t).2.1, rowAt]

/-- The kept block after a point. -/
theorem kept_next (t : Fin cfg0.N) (h0 : ¬t.val % 16 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 16 = 15
  · rw [outsAt0_C m c t h0 h1]; frame_out; exact congrArg (k0_pay2 · _ _) (Memref.IsWhole.read_unread _ _)
  · rw [outsAt0_B m c t h0 h1]; frame_out; exact congrArg (k0_pay2 · _ _) (Memref.IsWhole.read_unread _ _)

/-- The block a pass's last point leaves is the kept block's transpose. -/
theorem out_last (t : Fin cfg0.N) (h1 : t.val % 16 = 15) (j : Fin 2816) (p : Fin 1024) :
    (outsAt0 m c t.val t.isLt).1 (ix2 j p) = (outsAt0 m c t.val t.isLt).2 (ix2 p j) := by
  have h0 : ¬t.val % 16 = 0 := by omega
  rw [outsAt0_C m c t h0 h1]
  frame_out
  canon_tiles x hx using (View.cover_of_tiledBy _ ![1408, 1024] (by sl_kernel_rfl) _)
  exacts [(pay3_at _ x).trans (run_at _ _ _ _ _ (by norm_num) hx1 hx0),
    (pay3_at _ x).trans (run_at _ _ _ _ _ (by norm_num) hx1 (hx0.trans (Nat.zero_add _).symm))]

/-- A pass's last point keeps the sums over all the rows. -/
theorem kept_last (t : Fin cfg0.N) (h1 : t.val % 16 = 15) (p : Fin 1024) (j : Fin 2816) :
    (outsAt0 m c t.val t.isLt).2 (ix2 p j) = outer (xs m c) (ys m c)
      (ix2 j (col (passAt hN t.val t.isLt) p)) := by
  refine pass_total (K := 16) (b := 1024) (by norm_num) (by norm_num) hN (fun i r =>
    xs m c (ix2 r (col i p)) * ys m c (ix2 r j))
    (fun s hs => (outsAt0 m c s hs).2 (ix2 p j)) (fun s hs h0 => ?_) (fun s hs h0 => ?_) t.val t.isLt (by omega)
  · rw [outsAt0_A m c ⟨s, hs⟩ h0 (by dsimp only; omega)]
    frame_out
    refine (pay2_at _ _ _ p j).trans ?_
    simp only [pay1_at, blk0, blk1]
  · refine (congrFun (kept_next ⟨s + 1, hs⟩ h0) _).trans ((pay2_at _ _ _ p j).trans ?_)
    simp only [blk0, blk1]
    rfl

/-- The gradient the kernel leaves. -/
theorem value : (dats m 0 c).arrAt 2 cfg0.N = outer (xs m c) (ys m c) := by
  refine (dats m 0 c).arrAt_eq_of_covers 2 _ (by decide +kernel) fun t hf y => ?_
  have h1 := (idx t).2.2.2 hf
  blk_simp
  rw [after0_2]
  refine (congrArg _ (show y = ix2 (y 0) (y 1) by funext d; fin_cases d <;> rfl)).trans
    ((out_last t h1 (y 0) (y 1)).trans ((kept_last t h1 (y 1) (y 0)).trans ?_))
  congr 1
  blk_ext [(idx t).2.2.1, passAt]

/-! ## The claims -/

/-- The reference's gradient. -/
theorem ref_value (x : FVec Ideal S16384x2816 .bf16) (y : FVec Ideal S16384x1024 .bf16) :
    Cert.GradW2RefIdeal.Read.val_main_v6 (F := Ideal) x y = outer y x := by
  funext i
  rw [show i = ix2 (i 0) (i 1) by funext d; fin_cases d <;> rfl]
  pointwise [Cert.GradW2RefIdeal.Read.val_main_v6, Cert.GradW2RefIdeal.Read.val_main_v5,
    Cert.GradW2RefIdeal.Read.val_main_v4, Cert.GradW2RefIdeal.Read.val_main_v3, Cert.GradW2RefIdeal.Read.val_main_v1]
  rfl

theorem frame : Cert.quiescent_GradW2 := fun m g _ => Cert.GradW2.Gen.frame m g
theorem frame_ideal : Cert.quiescent_GradW2Ideal := fun m g _ => Cert.GradW2Ideal.Gen.frame m g

/-- The reference runs, keeps its arguments and leaves every counter at zero. -/
theorem frame_reference : Cert.quiescent_GradW2RefIdeal := fun m g _ =>
  (θ_run Cert.GradW2RefIdeal.defs _ _).mono
    (fun r h => ⟨fun c => (h c).2, sem_eq_zero_of_no_sems (by decide) r.2⟩) (Cert.GradW2RefIdeal.Value.run (F := Ideal) m g)

theorem preserves : Cert.preserves_GradW2_GradW2Ideal := trivial

/-- Both programs leave the same gradient. -/
theorem algebraic : Cert.algebraic_GradW2Ideal_GradW2RefIdeal := by
  intro m g m' g' _ hagree
  refine ⟨fun c => outer (xs m c) (ys m c), ?_, ?_⟩
  · refine (θ_run Cert.GradW2Ideal.defs _ _).mono (fun r h c => ?_) (Cert.GradW2Ideal.Value.run_blocks (F := Ideal) m g)
    exact ⟨(h c).1.trans value, (h c).2⟩
  · refine (θ_run Cert.GradW2RefIdeal.defs _ _).mono (fun r h c => ?_) (Cert.GradW2RefIdeal.Value.run (F := Ideal) m' g')
    refine ⟨(h c).1.trans ((Cert.GradW2RefIdeal.Read.val_main_v6_eq _ _).trans ((ref_value _ _).trans ?_)), (h c).2⟩
    rw [(hagree c).1, (hagree c).2]

end Cert.GradW2Proof

end
-- ==== Proof.GradWIn.lean ====
/- The claims about `wgrad_w_in`: the frames, and that kernel and reference leave the same gradient. -/
module

public import proofs.«01_k».proof.Defs
public import proofs.«01_k».proof.Proof.Wgrad
public import proofs.«01_k».proof.Proof.Gen.GradWIn.Frame
public import proofs.«01_k».proof.Proof.Gen.GradWInIdeal.Value
public import proofs.«01_k».proof.Proof.Gen.GradWInRefIdeal.Run
public import proofs.«01_k».proof.Proof.Gen.GradWInRefIdeal.Read
public import Idealize.ShloMosaic.Lib.Pointwise

@[expose] public section

set_option maxRecDepth 16384

noncomputable section

open Idealize.ShloMosaic Idealize.SL.Sem Cert.Half Idealize.ShloMosaic.TcCoe
open Cert.GradWInIdeal Cert.GradWInIdeal.Gen

namespace Cert.GradWInProof

variable {m : (ℓ : Loc nD τ sig) → Buf (Elt Ideal) ℓ} {c : Dev nD}

variable (m c) in
/-- The two arguments of device `c`. -/
abbrev xs : FVec Ideal S16384x1024 .bf16 := m ((c : Thread nD τ).loc main_arg0)
variable (m c) in
abbrev ys : FVec Ideal S16384x5376 .bf16 := m ((c : Thread nD τ).loc main_arg1)

theorem pay1_at (p : Fin 512) (j : Fin 5376) : k0_pay1 (F := Ideal) (ix2 p j) = 0 := by
  pointwise [k0_pay1]
theorem pay2_at (v : FVec Ideal S512x5376 .f32) (x : FVec Ideal S1024x512 .bf16) (y : FVec Ideal S1024x5376 .bf16) (p : Fin 512) (j : Fin 5376) :
    k0_pay2 v x y (ix2 p j) = v (ix2 p j) + ∑ q : Fin 1024, x (ix2 q p) * y (ix2 q j) := by
  pointwise [k0_pay2]

theorem pay3_at (v : FVec Ideal S512x1792 .f32) (x : S1792x512.Idx) : k0_pay3 (F := Ideal) v x = v (ix2 (x 1) (x 0)) := by
  rw [show x = ix2 (x 0) (x 1) by funext d; fin_cases d <;> rfl]
  pointwise [k0_pay3]

theorem idx : ∀ t : Fin cfg0.N, win0_0.index t = ![t.val % 16, t.val / 16] ∧ win0_1.index t = ![t.val % 16, 0] ∧ win0_2.index t = ![0, t.val / 16]
    ∧ ((cfg0.win 2).flush t = true → t.val % 16 = 15) :=
  (by decide +kernel : ∀ t : Fin grid0.N, _)

theorem hN : cfg0.N = 2 * 16 := rfl
/-- The rows point `t` reads, and the columns of the pass. -/
abbrev row (t : Fin cfg0.N) (q : Fin 1024) : Fin 16384 := rowAt (K := 16) (by norm_num) (by norm_num) t.val q
abbrev col (i : Fin 2) (p : Fin 512) : Fin 1024 := ⟨512 * i + p, by omega⟩

theorem blk0 (t : Fin cfg0.N) (q : Fin 1024) (p : Fin 512) :
    (iblk m c 0 t : FVec Ideal S1024x512 .bf16) (ix2 q p) = xs m c (ix2 (row t q) (col (passAt hN t.val t.isLt) p)) := by
  blk_simp [iblk]
  rw [V_main_arg0]
  congr 1
  blk_ext [(idx t).1, rowAt, passAt]

theorem blk1 (t : Fin cfg0.N) (q : Fin 1024) (j : Fin 5376) :
    (iblk m c 1 t : FVec Ideal S1024x5376 .bf16) (ix2 q j) = ys m c (ix2 (row t q) j) := by
  blk_simp [iblk]
  rw [V_main_arg1]
  congr 1
  blk_ext [(idx t).2.1, rowAt]

/-- The kept block after a point. -/
theorem kept_next (t : Fin cfg0.N) (h0 : ¬t.val % 16 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 16 = 15
  · rw [outsAt0_C m c t h0 h1]; frame_out; exact congrArg (k0_pay2 · _ _) (Memref.IsWhole.read_unread _ _)
  · rw [outsAt0_B m c t h0 h1]; frame_out; exact congrArg (k0_pay2 · _ _) (Memref.IsWhole.read_unread _ _)

/-- The block a pass's last point leaves is the kept block's transpose. -/
theorem out_last (t : Fin cfg0.N) (h1 : t.val % 16 = 15) (j : Fin 5376) (p : Fin 512) :
    (outsAt0 m c t.val t.isLt).1 (ix2 j p) = (outsAt0 m c t.val t.isLt).2 (ix2 p j) := by
  have h0 : ¬t.val % 16 = 0 := by omega
  rw [outsAt0_C m c t h0 h1]
  frame_out
  canon_tiles x hx using (View.cover_of_tiledBy _ ![1792, 512] (by sl_kernel_rfl) _)
  exacts [(pay3_at _ x).trans (run_at _ _ _ _ _ (by norm_num) hx1 hx0), (pay3_at _ x).trans (run_at _ _ _ _ _ (by norm_num) hx1 hx0),
    (pay3_at _ x).trans (run_at _ _ _ _ _ (by norm_num) hx1 (hx0.trans (Nat.zero_add _).symm))]

/-- A pass's last point keeps the sums over all the rows. -/
theorem kept_last (t : Fin cfg0.N) (h1 : t.val % 16 = 15) (p : Fin 512) (j : Fin 5376) :
    (outsAt0 m c t.val t.isLt).2 (ix2 p j) = outer (xs m c) (ys m c)
      (ix2 j (col (passAt hN t.val t.isLt) p)) := by
  refine pass_total (K := 16) (b := 1024) (by norm_num) (by norm_num) hN (fun i r =>
    xs m c (ix2 r (col i p)) * ys m c (ix2 r j))
    (fun s hs => (outsAt0 m c s hs).2 (ix2 p j)) (fun s hs h0 => ?_) (fun s hs h0 => ?_) t.val t.isLt (by omega)
  · rw [outsAt0_A m c ⟨s, hs⟩ h0 (by dsimp only; omega)]
    frame_out
    refine (pay2_at _ _ _ p j).trans ?_
    simp only [pay1_at, blk0, blk1]
  · refine (congrFun (kept_next ⟨s + 1, hs⟩ h0) _).trans ((pay2_at _ _ _ p j).trans ?_)
    simp only [blk0, blk1]
    rfl

/-- The gradient the kernel leaves. -/
theorem value : (dats m 0 c).arrAt 2 cfg0.N = outer (xs m c) (ys m c) := by
  refine (dats m 0 c).arrAt_eq_of_covers 2 _ (by decide +kernel) fun t hf y => ?_
  have h1 := (idx t).2.2.2 hf
  blk_simp
  rw [after0_2]
  refine (congrArg _ (show y = ix2 (y 0) (y 1) by funext d; fin_cases d <;> rfl)).trans
    ((out_last t h1 (y 0) (y 1)).trans ((kept_last t h1 (y 1) (y 0)).trans ?_))
  congr 1
  blk_ext [(idx t).2.2.1, passAt]

/-! ## The claims -/

/-- The reference's gradient. -/
theorem ref_value (x : FVec Ideal S16384x1024 .bf16) (y : FVec Ideal S16384x5376 .bf16) :
    Cert.GradWInRefIdeal.Read.val_main_v7 (F := Ideal) x y = outer x y := by
  funext i
  rw [show i = ix2 (i 0) (i 1) by funext d; fin_cases d <;> rfl]
  pointwise [Cert.GradWInRefIdeal.Read.val_main_v7, Cert.GradWInRefIdeal.Read.val_main_v6, Cert.GradWInRefIdeal.Read.val_main_v5,
    Cert.GradWInRefIdeal.Read.val_main_v4, Cert.GradWInRefIdeal.Read.val_main_v3, Cert.GradWInRefIdeal.Read.val_main_v1]
  exact Finset.sum_congr rfl fun r _ => mul_comm _ _

theorem frame : Cert.quiescent_GradWIn := fun m g _ => Cert.GradWIn.Gen.frame m g
theorem frame_ideal : Cert.quiescent_GradWInIdeal := fun m g _ => Cert.GradWInIdeal.Gen.frame m g

/-- The reference runs, keeps its arguments and leaves every counter at zero. -/
theorem frame_reference : Cert.quiescent_GradWInRefIdeal := fun m g _ =>
  (θ_run Cert.GradWInRefIdeal.defs _ _).mono
    (fun r h => ⟨fun c => (h c).2, sem_eq_zero_of_no_sems (by decide) r.2⟩) (Cert.GradWInRefIdeal.Value.run (F := Ideal) m g)

theorem preserves : Cert.preserves_GradWIn_GradWInIdeal := trivial

/-- Both programs leave the same gradient. -/
theorem algebraic : Cert.algebraic_GradWInIdeal_GradWInRefIdeal := by
  intro m g m' g' _ hagree
  refine ⟨fun c => outer (xs m c) (ys m c), ?_, ?_⟩
  · refine (θ_run Cert.GradWInIdeal.defs _ _).mono (fun r h c => ?_) (Cert.GradWInIdeal.Value.run_blocks (F := Ideal) m g)
    exact ⟨(h c).1.trans value, (h c).2⟩
  · refine (θ_run Cert.GradWInRefIdeal.defs _ _).mono (fun r h c => ?_) (Cert.GradWInRefIdeal.Value.run (F := Ideal) m' g')
    refine ⟨(h c).1.trans ((Cert.GradWInRefIdeal.Read.val_main_v7_eq _ _).trans ((ref_value _ _).trans ?_)), (h c).2⟩
    rw [(hagree c).1, (hagree c).2]

end Cert.GradWInProof

end
-- ==== Proof.GradSquare.lean ====
/- The claims about `wgrad_square`: the frames, and that kernel and reference leave the same gradient. -/
module

public import proofs.«01_k».proof.Defs
public import proofs.«01_k».proof.Proof.Wgrad
public import proofs.«01_k».proof.Proof.Gen.GradSquare.Frame
public import proofs.«01_k».proof.Proof.Gen.GradSquareIdeal.Value
public import proofs.«01_k».proof.Proof.Gen.GradSquareRefIdeal.Run
public import proofs.«01_k».proof.Proof.Gen.GradSquareRefIdeal.Read
public import Idealize.ShloMosaic.Lib.Pointwise

@[expose] public section

set_option maxRecDepth 16384

noncomputable section

open Idealize.ShloMosaic Idealize.SL.Sem Cert.Half Idealize.ShloMosaic.TcCoe
open Cert.GradSquareIdeal Cert.GradSquareIdeal.Gen

namespace Cert.GradSquareProof

variable {m : (ℓ : Loc nD τ sig) → Buf (Elt Ideal) ℓ} {c : Dev nD}

variable (m c) in
/-- The two arguments of device `c`. -/
abbrev xs : FVec Ideal S16384x1024 .bf16 := m ((c : Thread nD τ).loc main_arg1)
variable (m c) in
abbrev ys : FVec Ideal S16384x1024 .bf16 := m ((c : Thread nD τ).loc main_arg0)

theorem pay1_at (p : Fin 1024) (j : Fin 1024) : k0_pay1 (F := Ideal) (ix2 p j) = 0 := by
  pointwise [k0_pay1]
theorem pay2_at (v : FVec Ideal S1024x1024 .f32) (x : FVec Ideal S2048x1024 .bf16) (y : FVec Ideal S2048x1024 .bf16) (p : Fin 1024) (j : Fin 1024) :
    k0_pay2 v x y (ix2 p j) = v (ix2 p j) + ∑ q : Fin 2048, x (ix2 q p) * y (ix2 q j) := by
  pointwise [k0_pay2]

theorem pay3_at (v : FVec Ideal S1024x1024 .f32) (j p : Fin 1024) : k0_pay3 (F := Ideal) v (ix2 j p) = v (ix2 p j) := by
  pointwise [k0_pay3]

theorem idx : ∀ t : Fin cfg0.N, win0_0.index t = ![t.val % 8, t.val / 8] ∧ win0_1.index t = ![t.val % 8, 0] ∧ win0_2.index t = ![0, t.val / 8]
    ∧ ((cfg0.win 2).flush t = true → t.val % 8 = 7) :=
  (by decide +kernel : ∀ t : Fin grid0.N, _)

theorem hN : cfg0.N = 1 * 8 := rfl
/-- The rows point `t` reads, and the columns of the pass. -/
abbrev row (t : Fin cfg0.N) (q : Fin 2048) : Fin 16384 := rowAt (K := 8) (by norm_num) (by norm_num) t.val q
abbrev col (i : Fin 1) (p : Fin 1024) : Fin 1024 := ⟨1024 * i + p, by omega⟩

theorem blk0 (t : Fin cfg0.N) (q : Fin 2048) (p : Fin 1024) :
    (iblk m c 0 t : FVec Ideal S2048x1024 .bf16) (ix2 q p) = xs m c (ix2 (row t q) (col (passAt hN t.val t.isLt) p)) := by
  blk_simp [iblk]
  rw [V_main_arg1]
  congr 1
  blk_ext [(idx t).1, rowAt, passAt]

theorem blk1 (t : Fin cfg0.N) (q : Fin 2048) (j : Fin 1024) :
    (iblk m c 1 t : FVec Ideal S2048x1024 .bf16) (ix2 q j) = ys m c (ix2 (row t q) j) := by
  blk_simp [iblk]
  rw [V_main_arg0]
  congr 1
  blk_ext [(idx t).2.1, rowAt]

/-- The kept block after a point. -/
theorem kept_next (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]; frame_out; exact congrArg (k0_pay2 · _ _) (Memref.IsWhole.read_unread _ _)
  · rw [outsAt0_B m c t h0 h1]; frame_out; exact congrArg (k0_pay2 · _ _) (Memref.IsWhole.read_unread _ _)

/-- The block a pass's last point leaves is the kept block's transpose. -/
theorem out_last (t : Fin cfg0.N) (h1 : t.val % 8 = 7) (j : Fin 1024) (p : Fin 1024) :
    (outsAt0 m c t.val t.isLt).1 (ix2 j p) = (outsAt0 m c t.val t.isLt).2 (ix2 p j) := by
  have h0 : ¬t.val % 8 = 0 := by omega
  rw [outsAt0_C m c t h0 h1]
  frame_out
  exact pay3_at _ j p

/-- A pass's last point keeps the sums over all the rows. -/
theorem kept_last (t : Fin cfg0.N) (h1 : t.val % 8 = 7) (p : Fin 1024) (j : Fin 1024) :
    (outsAt0 m c t.val t.isLt).2 (ix2 p j) = outer (xs m c) (ys m c)
      (ix2 j (col (passAt hN t.val t.isLt) p)) := by
  refine pass_total (K := 8) (b := 2048) (by norm_num) (by norm_num) hN (fun i r =>
    xs m c (ix2 r (col i p)) * ys m c (ix2 r j))
    (fun s hs => (outsAt0 m c s hs).2 (ix2 p j)) (fun s hs h0 => ?_) (fun s hs h0 => ?_) t.val t.isLt (by omega)
  · rw [outsAt0_A m c ⟨s, hs⟩ h0 (by dsimp only; omega)]
    frame_out
    refine (pay2_at _ _ _ p j).trans ?_
    simp only [pay1_at, blk0, blk1]
  · refine (congrFun (kept_next ⟨s + 1, hs⟩ h0) _).trans ((pay2_at _ _ _ p j).trans ?_)
    simp only [blk0, blk1]
    rfl

/-- The gradient the kernel leaves. -/
theorem value : (dats m 0 c).arrAt 2 cfg0.N = outer (xs m c) (ys m c) := by
  refine (dats m 0 c).arrAt_eq_of_covers 2 _ (by decide +kernel) fun t hf y => ?_
  have h1 := (idx t).2.2.2 hf
  blk_simp
  rw [after0_2]
  refine (congrArg _ (show y = ix2 (y 0) (y 1) by funext d; fin_cases d <;> rfl)).trans
    ((out_last t h1 (y 0) (y 1)).trans ((kept_last t h1 (y 1) (y 0)).trans ?_))
  congr 1
  blk_ext [(idx t).2.2.1, passAt]

/-! ## The claims -/

/-- The reference's gradient. -/
theorem ref_value (x : FVec Ideal S16384x1024 .bf16) (y : FVec Ideal S16384x1024 .bf16) :
    Cert.GradSquareRefIdeal.Read.val_main_v6 (F := Ideal) x y = outer y x := by
  funext i
  rw [show i = ix2 (i 0) (i 1) by funext d; fin_cases d <;> rfl]
  pointwise [Cert.GradSquareRefIdeal.Read.val_main_v6, Cert.GradSquareRefIdeal.Read.val_main_v5,
    Cert.GradSquareRefIdeal.Read.val_main_v4, Cert.GradSquareRefIdeal.Read.val_main_v3, Cert.GradSquareRefIdeal.Read.val_main_v1]
  rfl

theorem frame : Cert.quiescent_GradSquare := fun m g _ => Cert.GradSquare.Gen.frame m g
theorem frame_ideal : Cert.quiescent_GradSquareIdeal := fun m g _ => Cert.GradSquareIdeal.Gen.frame m g

/-- The reference runs, keeps its arguments and leaves every counter at zero. -/
theorem frame_reference : Cert.quiescent_GradSquareRefIdeal := fun m g _ =>
  (θ_run Cert.GradSquareRefIdeal.defs _ _).mono
    (fun r h => ⟨fun c => (h c).2, sem_eq_zero_of_no_sems (by decide) r.2⟩) (Cert.GradSquareRefIdeal.Value.run (F := Ideal) m g)

theorem preserves : Cert.preserves_GradSquare_GradSquareIdeal := trivial

/-- Both programs leave the same gradient. -/
theorem algebraic : Cert.algebraic_GradSquareIdeal_GradSquareRefIdeal := by
  intro m g m' g' _ hagree
  refine ⟨fun c => outer (xs m c) (ys m c), ?_, ?_⟩
  · refine (θ_run Cert.GradSquareIdeal.defs _ _).mono (fun r h c => ?_) (Cert.GradSquareIdeal.Value.run_blocks (F := Ideal) m g)
    exact ⟨(h c).1.trans value, (h c).2⟩
  · refine (θ_run Cert.GradSquareRefIdeal.defs _ _).mono (fun r h c => ?_) (Cert.GradSquareRefIdeal.Value.run (F := Ideal) m' g')
    refine ⟨(h c).1.trans ((Cert.GradSquareRefIdeal.Read.val_main_v6_eq _ _).trans ((ref_value _ _).trans ?_)), (h c).2⟩
    rw [(hagree c).1, (hagree c).2]

end Cert.GradSquareProof

end
-- ==== Proof.FwdMath.lean ====
/- The real numbers behind the half-step's forward call: the logistic function through the hyperbolic tangent, the gate's
   derivatives as the call writes them, and the results it saves. -/
module

public import proofs.«01_k».proof.Proof.Blocks

@[expose] public section

set_option maxRecDepth 16384

noncomputable section

open Idealize.ShloMosaic

namespace Cert.Half

/-- The logistic function through the hyperbolic tangent of half its argument. -/
theorem half_tanh (z : ℝ) : 1 / 2 * Real.tanh (1 / 2 * z) + 1 / 2 = sig z := by
  have e : Real.exp (-z) = Real.exp (-(1 / 2 * z)) * Real.exp (-(1 / 2 * z)) := by rw [← Real.exp_add]; congr 1; ring
  have p : 0 < Real.exp (1 / 2 * z) := Real.exp_pos _
  unfold sig
  rw [e, Real.tanh_eq_sinh_div_cosh, Real.sinh_eq, Real.cosh_eq, Real.exp_neg]
  generalize Real.exp (1 / 2 * z) = a at p ⊢
  have h1 : a * a + 1 ≠ 0 := (by positivity : (0 : ℝ) < a * a + 1).ne'
  field_simp
  ring

/-- A row of logits of the gate: the normalised row times a run of the first matrix's columns. -/
def logit {n : ℕ} (H : Fin 512 → Fin 1024 → ℝ) (W : Fin n → Fin 1024 → ℝ) (p : Fin 512) (k : Fin n) : ℝ := ∑ d, H p d * W k d

/-- A gated row's sum, in the order in which the kernel takes its columns. -/
theorem sum_gate (f : Fin 2816 → ℝ) :
    ∑ j, f j = ((0 + ∑ k : Fin 1024, f ⟨0 + k, by omega⟩) + ∑ k : Fin 1024, f ⟨1024 + k, by omega⟩) + ∑ k : Fin 768, f ⟨2048 + k, by omega⟩ := by
  have e : ∑ j, f j = ∑ j : Fin (1024 + (1024 + 768)), f ⟨j, j.isLt⟩ := rfl
  rw [e, Fin.sum_univ_add, Fin.sum_univ_add, ← add_assoc]
  simp only [Fin.val_castAdd, Fin.val_natAdd, ← Nat.add_assoc, Nat.reduceAdd, Nat.zero_add, zero_add]

/-- The five arrays of the forward call hold the numbers `R` (whose gradient is not read). -/
structure FwdHold (a0 : Shape.Idx ⟨2, ![16384, 1024]⟩ → EReal) (a1 a2 : Shape.Idx ⟨1, ![1024]⟩ → EReal)
    (a3 : Shape.Idx ⟨2, ![1024, 5632]⟩ → EReal) (a4 : Shape.Idx ⟨2, ![2816, 1024]⟩ → EReal) (R : Reals) : Prop where
  x : ∀ r k, a0 (ix2 r k) = ((R.x r k : ℝ) : EReal)
  pg : ∀ k, a1 (ix1 k) = ((R.pg k : ℝ) : EReal)
  qg : ∀ k, a2 (ix1 k) = ((R.qg k : ℝ) : EReal)
  w1 : ∀ k j, a3 (ix2 k j) = ((R.w1 k j : ℝ) : EReal)
  w2 : ∀ j k, a4 (ix2 j k) = ((R.w2 j k : ℝ) : EReal)

/-- The same with the target `T`, which the call with the loss reads second. -/
structure LossHold (a0 a1 : Shape.Idx ⟨2, ![16384, 1024]⟩ → EReal) (a2 a3 : Shape.Idx ⟨1, ![1024]⟩ → EReal)
    (a4 : Shape.Idx ⟨2, ![1024, 5632]⟩ → EReal) (a5 : Shape.Idx ⟨2, ![2816, 1024]⟩ → EReal) (R : Reals) (T : Fin 16384 → Fin 1024 → ℝ) : Prop where
  half : FwdHold a0 a2 a3 a4 a5 R
  t : ∀ r k, a1 (ix2 r k) = ((T r k : ℝ) : EReal)

/-- The word of two, -/
theorem word_two : Ideal.ofBits .f32 0x40000000#32 = ((2 : ℝ) : EReal) := by
  simp [Ideal.ofBits, Ideal.ieee, ← EReal.coe_mul]; norm_num
/-- and of one over 1024. -/
theorem word_inv_1024 : Ideal.ofBits .f32 0x3A800000#32 = ((1 / 1024 : ℝ) : EReal) := by
  simp [Ideal.ofBits, Ideal.ieee, ← EReal.coe_mul]; norm_num

/-- The half-step's output row. -/
def outRow (x y qg : Fin 1024 → ℝ) (k : Fin 1024) : ℝ := x k + 1 / 2 * (nrm y k * qg k)

namespace Reals
variable (R : Reals)
/-- The gated row of token `r`, -/
def s (r : Fin 16384) : Fin 2816 → ℝ := gate (R.a r)
/-- and the half-step's output. -/
def xo (r : Fin 16384) : Fin 1024 → ℝ := outRow (R.x r) (R.y r) R.qg
/-- The squared error summed over the tokens, against the target `T`, -/
def sq (T : Fin 16384 → Fin 1024 → ℝ) (k : Fin 1024) : ℝ := ∑ r, (R.xo r k - T r k) * (R.xo r k - T r k)
/-- and the loss's gradient. -/
def dOut (T : Fin 16384 → Fin 1024 → ℝ) (r : Fin 16384) (k : Fin 1024) : ℝ := (R.xo r k - T r k) * (1 / 1024)
end Reals

end Cert.Half

end
-- ==== Proof.FwdPay.lean ====
/- What the body of `ffn_fwd` computes at one grid point, over the reals: each stored value at a row and a column, given that
   the point's input blocks hold reals. -/
module

public import proofs.«01_k».proof.Proof.FwdMath
public import proofs.«01_k».proof.Proof.Gen.FfnFwdIdeal.Skeleton
public import Idealize.ShloMosaic.Lib.Pointwise

@[expose] public section

set_option maxRecDepth 16384

noncomputable section

open Idealize.ShloMosaic Cert.Half
open Cert.FfnFwdIdeal Cert.FfnFwdIdeal.Gen

namespace Cert.FfnFwdIdeal.Pay

variable {x : FVec Ideal S512x1024 .f32} {pg qg : FVec Ideal S1x1024 .f32} {X : Fin 512 → Fin 1024 → ℝ} {P Q : Fin 1024 → ℝ}

theorem pay2 (hx : Holds x X) (hp : Holds pg fun _ => P) : Holds (k0_pay2 (F := Ideal) x pg) fun p => hRow (X p) P := by
  intro p k
  pointwise [k0_pay2]
  simp only [hx _ _, hp _ _, ← EReal.coe_mul, sum_coe, word_1024, word_eps, div_coe (show (1024 : ℝ) ≠ 0 by norm_num), ← EReal.coe_add,
    rsqrt_ms]
  rfl

/-! ## The gate, on one run of columns -/

section Run
variable {h : FVec Ideal S512x1024 .bf16} {wg wu : FVec Ideal S1024x1024 .bf16} {vg vu : FVec Ideal S768x1024 .bf16}
  {H : Fin 512 → Fin 1024 → ℝ} {WG WU : Fin 1024 → Fin 1024 → ℝ} {VG VU : Fin 768 → Fin 1024 → ℝ}

theorem pay12 (hh : Holds h H) (hg : Holds wg WG) : Holds (k0_pay12 (F := Ideal) h wg) (logit H WG) := by
  intro p k
  pointwise [k0_pay12]
  simp only [hh _ _, hg _ _, ← EReal.coe_mul, sum_coe]; rfl

theorem pay19 (hh : Holds h H) (hg : Holds vg VG) : Holds (k0_pay19 (F := Ideal) h vg) (logit H VG) := by
  intro p k
  pointwise [k0_pay19]
  simp only [hh _ _, hg _ _, ← EReal.coe_mul, sum_coe]; rfl

theorem pay14 (hh : Holds h H) (hg : Holds wg WG) : Holds (k0_pay14 (F := Ideal) h wg) fun p k => Half.sig (logit H WG p k) := by
  intro p k
  pointwise [k0_pay14]
  simp only [pay12 hh hg _ _, word_half, ← EReal.coe_mul, Ideal.tanh_coe, ← EReal.coe_add, half_tanh]

theorem pay21 (hh : Holds h H) (hg : Holds vg VG) : Holds (k0_pay21 (F := Ideal) h vg) fun p k => Half.sig (logit H VG p k) := by
  intro p k
  pointwise [k0_pay21]
  simp only [pay19 hh hg _ _, word_half, ← EReal.coe_mul, Ideal.tanh_coe, ← EReal.coe_add, half_tanh]

/-- The gate's first factor: silu of the first half. -/
abbrev silu {n : ℕ} (G : Fin 512 → Fin n → ℝ) (p : Fin 512) (k : Fin n) : ℝ := G p k * Half.sig (G p k)
/-- The gate's derivative in the first half, as the body writes it. -/
abbrev dGate {n : ℕ} (G U : Fin 512 → Fin n → ℝ) (p : Fin 512) (k : Fin n) : ℝ :=
  U p k * (Half.sig (G p k) + silu G p k - silu G p k * Half.sig (G p k))

theorem pay15 (hh : Holds h H) (hg : Holds wg WG) : Holds (k0_pay15 (F := Ideal) h wg) (silu (logit H WG)) := by
  intro p k
  pointwise [k0_pay15]
  rw [pay12 hh hg, pay14 hh hg, ← EReal.coe_mul]

theorem pay22 (hh : Holds h H) (hg : Holds vg VG) : Holds (k0_pay22 (F := Ideal) h vg) (silu (logit H VG)) := by
  intro p k
  pointwise [k0_pay22]
  rw [pay19 hh hg, pay21 hh hg, ← EReal.coe_mul]

theorem pay16 (hh : Holds h H) (hg : Holds wg WG) (hu : Holds wu WU) :
    Holds (k0_pay16 (F := Ideal) h wg wu) (dGate (logit H WG) (logit H WU)) := by
  intro p k
  pointwise [k0_pay16]
  have e : k0_pay13 (F := Ideal) h wu (ix2 p k) = _ := pay12 hh hu p k
  rw [e, pay14 hh hg, pay15 hh hg, ← EReal.coe_add, ← EReal.coe_mul, ← EReal.coe_sub, ← EReal.coe_mul]

theorem pay23 (hh : Holds h H) (hg : Holds vg VG) (hu : Holds vu VU) :
    Holds (k0_pay23 (F := Ideal) h vg vu) (dGate (logit H VG) (logit H VU)) := by
  intro p k
  pointwise [k0_pay23]
  have e : k0_pay20 (F := Ideal) h vu (ix2 p k) = _ := pay19 hh hu p k
  rw [e, pay21 hh hg, pay22 hh hg, ← EReal.coe_add, ← EReal.coe_mul, ← EReal.coe_sub, ← EReal.coe_mul]

theorem pay18 (hh : Holds h H) (hg : Holds wg WG) (hu : Holds wu WU) :
    Holds (k0_pay18 (F := Ideal) h wg wu) fun p k => silu (logit H WG) p k * logit H WU p k := by
  intro p k
  pointwise [k0_pay18]
  have e : k0_pay13 (F := Ideal) h wu (ix2 p k) = _ := pay12 hh hu p k
  rw [e, pay15 hh hg, ← EReal.coe_mul]

theorem pay25 (hh : Holds h H) (hg : Holds vg VG) (hu : Holds vu VU) :
    Holds (k0_pay25 (F := Ideal) h vg vu) fun p k => silu (logit H VG) p k * logit H VU p k := by
  intro p k
  pointwise [k0_pay25]
  have e : k0_pay20 (F := Ideal) h vu (ix2 p k) = _ := pay19 hh hu p k
  rw [e, pay22 hh hg, ← EReal.coe_mul]

/-! ## The second product, summed over the runs -/

variable {g u : FVec Ideal S512x1024 .f32} {w2 : FVec Ideal S1024x1024 .bf16} {W2 : Fin 1024 → Fin 1024 → ℝ} {G : Fin 512 → Fin 1024 → ℝ}

theorem pay11 (hs : Holds (k0_pay10 (F := Ideal) u g) G) (hw : Holds w2 W2) :
    Holds (k0_pay11 (F := Ideal) k0_pay3 u g w2) fun p d => 0 + ∑ k, G p k * W2 k d := by
  intro p k
  pointwise [k0_pay11, k0_pay3]
  simp only [hs _ _, hw _ _, word_zero, ← EReal.coe_mul, sum_coe, ← EReal.coe_add]

theorem pay26 {y : FVec Ideal S512x1024 .f32} {s : FVec Ideal S512x1024 .bf16} {v2 : FVec Ideal S768x1024 .bf16}
    {Y S : Fin 512 → Fin 1024 → ℝ} {V2 : Fin 768 → Fin 1024 → ℝ} {T : Fin 512 → Fin 768 → ℝ} (hy : Holds y Y) (hs : Holds s S) (hw : Holds w2 W2)
    (ht : Holds (k0_pay25 (F := Ideal) h vg vu) T) (hv : Holds v2 V2) :
    Holds (k0_pay26 (F := Ideal) h y s w2 vg vu v2) fun p d => (Y p d + ∑ k, S p k * W2 k d) + ∑ k, T p k * V2 k d := by
  intro p k
  pointwise [k0_pay26]
  simp only [hy _ _, hs _ _, ht _ _, hw _ _, hv _ _, ← EReal.coe_mul, sum_coe, ← EReal.coe_add]
end Run

theorem pay1 {y : FVec Ideal S512x1024 .f32} {Y : Fin 512 → Fin 1024 → ℝ} (hx : Holds x X) (hy : Holds y Y) (hq : Holds qg fun _ => Q) :
    Holds (k0_pay1 (F := Ideal) x y qg) fun p => outRow (X p) (Y p) Q := by
  intro p k
  pointwise [k0_pay1]
  simp only [hx _ _, hy _ _, hq _ _, word_half, ← EReal.coe_mul, sum_coe, word_1024, word_eps, div_coe (show (1024 : ℝ) ≠ 0 by norm_num),
    ← EReal.coe_add, rsqrt_ms]
  rfl

end Cert.FfnFwdIdeal.Pay

end
-- ==== Proof.FwdKernel.lean ====
/- What `ffn_fwd` leaves in its four results, over the reals: the host's weights, the blocks a grid point reads, what the
   point stores, and the whole arrays. -/
module

public import proofs.«01_k».proof.Proof.FwdPay
public import proofs.«01_k».proof.Proof.Gen.FfnFwdIdeal.Value
public import Idealize.ShloMosaic.Lib.StableHlo.ReadAt

@[expose] public section

set_option maxRecDepth 16384

noncomputable section

open Idealize.ShloMosaic Cert.Half Idealize.ShloMosaic.TcCoe Idealize.SL Idealize.SL.Sem
open Cert.FfnFwdIdeal Cert.FfnFwdIdeal.Gen Cert.FfnFwdIdeal.Pay

namespace Cert.FfnFwdIdeal.Point

/-! ## The body's values, run by run -/

section Body
variable {X : Fin 512 → Fin 1024 → ℝ} {P Q : Fin 1024 → ℝ} {W1 : Fin 1024 → Fin 5632 → ℝ} {W2 : Fin 2816 → Fin 1024 → ℝ}

/-- The logits of a run of the first matrix's columns. -/
abbrev run (X : Fin 512 → Fin 1024 → ℝ) (P : Fin 1024 → ℝ) (W1 : Fin 1024 → Fin 5632 → ℝ) (n o : ℕ) (ho : o + n ≤ 5632) :
    Fin 512 → Fin n → ℝ := logit (fun p => hRow (X p) P) fun k d => W1 ⟨0 + d, by omega⟩ ⟨o + k, by omega⟩

theorem run_eq {n o : ℕ} (ho : o + n ≤ 5632) (p : Fin 512) (k : Fin n) :
    run X P W1 n o ho p k = aRow (X p) P W1 ⟨o + k, by omega⟩ := by
  unfold run logit aRow
  simp only [Nat.zero_add, Fin.eta]

/-- The three stored values of a run, each a run of the gated row's columns. -/
theorem silu_run {n o : ℕ} (ho : o + n ≤ 2816) (p : Fin 512) (k : Fin n) :
    silu (run X P W1 n o (by omega)) p k = gateD (aRow (X p) P W1) ⟨2816 + o + k, by omega⟩ := by
  have e : (⟨2816 + o + k, by omega⟩ : Fin 5632) = hi ⟨o + k, by omega⟩ := Fin.ext (Nat.add_assoc ..)
  rw [e, gateD_hi]; unfold silu; rw [run_eq]; rfl
theorem dGate_run {n o : ℕ} (ho : o + n ≤ 2816) (p : Fin 512) (k : Fin n) :
    dGate (run X P W1 n o (by omega)) (run X P W1 n (2816 + o) (by omega)) p k = gateD (aRow (X p) P W1) ⟨o + k, by omega⟩ := by
  have e : (⟨o + k, by omega⟩ : Fin 5632) = lo ⟨o + k, by omega⟩ := rfl
  have e' : (⟨2816 + o + k, by omega⟩ : Fin 5632) = hi ⟨o + k, by omega⟩ := Fin.ext (Nat.add_assoc ..)
  unfold dGate silu
  rw [run_eq, run_eq, e', e, gateD_lo]; unfold gateLo; ring
theorem gate_run {n o : ℕ} (ho : o + n ≤ 2816) (p : Fin 512) (k : Fin n) :
    silu (run X P W1 n o (by omega)) p k * run X P W1 n (2816 + o) (by omega) p k = gate (aRow (X p) P W1) ⟨o + k, by omega⟩ := by
  have e' : (⟨2816 + o + k, by omega⟩ : Fin 5632) = hi ⟨o + k, by omega⟩ := Fin.ext (Nat.add_assoc ..)
  unfold silu
  rw [run_eq, run_eq, e']; rfl

/-- A stored run, read at a place of the block. -/
theorem piece {n N : ℕ} (o : ℕ) (ho : o + n ≤ N) {v : Shape.Idx ⟨2, ![512, n]⟩ → EReal} {f : Fin 512 → Fin n → ℝ} {g : Fin 512 → Fin N → ℝ}
    (hv : Holds v f) (hf : ∀ p k, f p k = g p ⟨o + k, by omega⟩) (p : Fin 512) (j : Fin N) (x : Shape.Idx ⟨2, ![512, n]⟩)
    (e0 : p.val = (x 0).val) (e1 : j.val = o + (x 1).val) : v x = ((g p j : ℝ) : EReal) := by
  have hx : ∀ (a : Fin 512) (b : Fin n) (_ : p.val = a.val) (_ : j.val = o + b.val), f a b = g p j := by
    intro a b ha hb
    obtain rfl : p = a := Fin.ext ha
    rw [hf]
    exact congrArg _ (Fin.ext hb.symm)
  exact (holds_at hv x).trans (congrArg _ (hx _ _ e0 e1))

variable {x0 : FVec Ideal S512x1024 .f32} {x1 x2 : FVec Ideal S1x1024 .f32} {x3 : FVec Ideal S5632x1024 .bf16} {x4 : FVec Ideal S2816x1024 .bf16}
variable (x0 x1 x3 x4) in
/-- The second product, as the body names it. -/
abbrev yV : FVec Ideal S512x1024 .f32 := k0_pay26 (k0_pay2 x0 x1)
  (k0_pay11 k0_pay3 (k0_pay5 x0 x1 (cut x3 2816 0 1024 1024 inb_S5632x1024_S1024x1024_2816_0))
    (k0_pay7 x0 x1 (cut x3 0 0 1024 1024 inb_S5632x1024_S1024x1024_0_0)) (cut x4 0 0 1024 1024 inb_S2816x1024_S1024x1024_0_0))
  (k0_pay18 (k0_pay2 x0 x1) (cut x3 1024 0 1024 1024 inb_S5632x1024_S1024x1024_1024_0) (cut x3 3840 0 1024 1024 inb_S5632x1024_S1024x1024_3840_0))
  (cut x4 1024 0 1024 1024 inb_S2816x1024_S1024x1024_1024_0)
  (cut x3 2048 0 768 1024 inb_S5632x1024_S768x1024_2048_0) (cut x3 4864 0 768 1024 inb_S5632x1024_S768x1024_4864_0)
  (cut x4 2048 0 768 1024 inb_S2816x1024_S768x1024_2048_0)

variable (h0 : Holds x0 X) (h1 : Holds x1 fun _ => P) (h2 : Holds x2 fun _ => Q) (h3 : Holds x3 fun j k => W1 k j) (h4 : Holds x4 W2)
include h0 h1 h3

/-- The gated row, run by run. -/
theorem s0 : Holds (k0_pay10 (F := Ideal) (k0_pay5 x0 x1 (cut x3 2816 0 1024 1024 inb_S5632x1024_S1024x1024_2816_0))
    (k0_pay7 x0 x1 (cut x3 0 0 1024 1024 inb_S5632x1024_S1024x1024_0_0)))
    fun p k => silu (run X P W1 1024 0 (by omega)) p k * run X P W1 1024 (2816 + 0) (by omega) p k :=
  pay18 (pay2 h0 h1) (holds_ld h3 inb_S5632x1024_S1024x1024_0_0 (by omega) (by omega))
    (holds_ld h3 inb_S5632x1024_S1024x1024_2816_0 (by omega) (by omega))
theorem s1 : Holds (k0_pay18 (F := Ideal) (k0_pay2 x0 x1) (cut x3 1024 0 1024 1024 inb_S5632x1024_S1024x1024_1024_0)
    (cut x3 3840 0 1024 1024 inb_S5632x1024_S1024x1024_3840_0))
    fun p k => silu (run X P W1 1024 1024 (by omega)) p k * run X P W1 1024 (2816 + 1024) (by omega) p k :=
  pay18 (pay2 h0 h1) (holds_ld h3 inb_S5632x1024_S1024x1024_1024_0 (by omega) (by omega))
    (holds_ld h3 inb_S5632x1024_S1024x1024_3840_0 (by omega) (by omega))
theorem s2 : Holds (k0_pay25 (F := Ideal) (k0_pay2 x0 x1) (cut x3 2048 0 768 1024 inb_S5632x1024_S768x1024_2048_0)
    (cut x3 4864 0 768 1024 inb_S5632x1024_S768x1024_4864_0))
    fun p k => silu (run X P W1 768 2048 (by omega)) p k * run X P W1 768 (2816 + 2048) (by omega) p k :=
  pay25 (pay2 h0 h1) (holds_ld h3 inb_S5632x1024_S768x1024_2048_0 (by omega) (by omega))
    (holds_ld h3 inb_S5632x1024_S768x1024_4864_0 (by omega) (by omega))

/-- The gate's derivatives, run by run: in the first half, -/
theorem l0 : Holds (k0_pay8 (F := Ideal) x0 x1 (cut x3 0 0 1024 1024 inb_S5632x1024_S1024x1024_0_0)
    (cut x3 2816 0 1024 1024 inb_S5632x1024_S1024x1024_2816_0))
    (dGate (run X P W1 1024 0 (by omega)) (run X P W1 1024 (2816 + 0) (by omega))) :=
  pay16 (pay2 h0 h1) (holds_ld h3 inb_S5632x1024_S1024x1024_0_0 (by omega) (by omega))
    (holds_ld h3 inb_S5632x1024_S1024x1024_2816_0 (by omega) (by omega))
theorem l1 : Holds (k0_pay16 (F := Ideal) (k0_pay2 x0 x1) (cut x3 1024 0 1024 1024 inb_S5632x1024_S1024x1024_1024_0)
    (cut x3 3840 0 1024 1024 inb_S5632x1024_S1024x1024_3840_0))
    (dGate (run X P W1 1024 1024 (by omega)) (run X P W1 1024 (2816 + 1024) (by omega))) :=
  pay16 (pay2 h0 h1) (holds_ld h3 inb_S5632x1024_S1024x1024_1024_0 (by omega) (by omega))
    (holds_ld h3 inb_S5632x1024_S1024x1024_3840_0 (by omega) (by omega))
theorem l2 : Holds (k0_pay23 (F := Ideal) (k0_pay2 x0 x1) (cut x3 2048 0 768 1024 inb_S5632x1024_S768x1024_2048_0)
    (cut x3 4864 0 768 1024 inb_S5632x1024_S768x1024_4864_0))
    (dGate (run X P W1 768 2048 (by omega)) (run X P W1 768 (2816 + 2048) (by omega))) :=
  pay23 (pay2 h0 h1) (holds_ld h3 inb_S5632x1024_S768x1024_2048_0 (by omega) (by omega))
    (holds_ld h3 inb_S5632x1024_S768x1024_4864_0 (by omega) (by omega))
/-- and in the second. -/
theorem r0 : Holds (k0_pay9 (F := Ideal) x0 x1 (cut x3 0 0 1024 1024 inb_S5632x1024_S1024x1024_0_0)) (silu (run X P W1 1024 0 (by omega))) :=
  pay15 (pay2 h0 h1) (holds_ld h3 inb_S5632x1024_S1024x1024_0_0 (by omega) (by omega))
theorem r1 : Holds (k0_pay17 (F := Ideal) (k0_pay2 x0 x1) (cut x3 1024 0 1024 1024 inb_S5632x1024_S1024x1024_1024_0))
    (silu (run X P W1 1024 1024 (by omega))) :=
  pay15 (pay2 h0 h1) (holds_ld h3 inb_S5632x1024_S1024x1024_1024_0 (by omega) (by omega))
theorem r2 : Holds (k0_pay24 (F := Ideal) (k0_pay2 x0 x1) (cut x3 2048 0 768 1024 inb_S5632x1024_S768x1024_2048_0))
    (silu (run X P W1 768 2048 (by omega))) :=
  pay22 (pay2 h0 h1) (holds_ld h3 inb_S5632x1024_S768x1024_2048_0 (by omega) (by omega))

include h4 in
theorem y_eq : Holds (yV x0 x1 x3 x4) fun p => yRow (X p) P W1 W2 := by
  have h := pay26 (pay11 (s0 h0 h1 h3) (holds_ld h4 inb_S2816x1024_S1024x1024_0_0 (by omega) (by omega))) (s1 h0 h1 h3)
    (holds_ld h4 inb_S2816x1024_S1024x1024_1024_0 (by omega) (by omega)) (s2 h0 h1 h3)
    (holds_ld h4 inb_S2816x1024_S768x1024_2048_0 (by omega) (by omega))
  intro p d
  refine (h p d).trans (congrArg _ ?_)
  unfold yRow
  dsimp only
  rw [sum_gate]
  simp only [gate_run (show 0 + 1024 ≤ 2816 by omega), gate_run (show 1024 + 1024 ≤ 2816 by omega), gate_run (show 2048 + 768 ≤ 2816 by omega),
    Nat.zero_add, Fin.eta]

include h4 h2 in
theorem xo_eq : Holds (k0_pay1 (F := Ideal) x0 (yV x0 x1 x3 x4) x2) fun p => outRow (X p) (yRow (X p) P W1 W2) Q :=
  pay1 h0 (y_eq h0 h1 h3 h4) h2
end Body

/-! ## The arrays the host hands the kernel -/

variable (m : (ℓ : Loc nD τ sig) → Buf (Elt Ideal) ℓ)
/-- Device `c`'s five arguments hold the numbers `R`. -/
abbrev ArgsAt (c : Dev nD) (R : Reals) : Prop :=
  FwdHold (m (c, Proc.tc.devRef main_arg0)) (m (c, Proc.tc.devRef main_arg1)) (m (c, Proc.tc.devRef main_arg2))
    (m (c, Proc.tc.devRef main_arg3)) (m (c, Proc.tc.devRef main_arg4)) R

variable {m} {c : Dev nD} {R : Reals}

theorem pg_eq (h : ArgsAt m c R) (k : Fin 1024) : (V m c main_v0 : FVec Ideal S1x1024 .f32) (ix2 0 k) = ((R.pg k : ℝ) : EReal) := by
  unfold V
  after_reads_at
  exact h.pg k

theorem qg_eq (h : ArgsAt m c R) (k : Fin 1024) : (V m c main_v1 : FVec Ideal S1x1024 .f32) (ix2 0 k) = ((R.qg k : ℝ) : EReal) := by
  unfold V
  after_reads_at
  exact h.qg k

theorem w1t_eq (h : ArgsAt m c R) (j : Fin 5632) (k : Fin 1024) :
    (V m c main_v3 : FVec Ideal S5632x1024 .bf16) (ix2 j k) = ((R.w1 k j : ℝ) : EReal) := by
  unfold V
  after_reads_at
  exact h.w1 k j

theorem w2_eq (h : ArgsAt m c R) (j : Fin 2816) (k : Fin 1024) :
    (V m c main_v4 : FVec Ideal S2816x1024 .bf16) (ix2 j k) = ((R.w2 j k : ℝ) : EReal) := by
  unfold V
  after_reads_at
  exact h.w2 j k

/-- The token of row `p` of point `t`. -/
def tok (t : Fin cfg0.N) (p : Fin 512) : Fin 16384 := ⟨512 * t.val + p.val, by have := t.isLt; have e : cfg0.N = 32 := rfl; omega⟩

theorem idx_in : ∀ t : Fin cfg0.N, win0_0.index t = ![t.val, 0] ∧ win0_1.index t = ![0, 0] ∧ win0_2.index t = ![0, 0]
    ∧ win0_3.index t = ![0, 0] ∧ win0_4.index t = ![0, 0] :=
  (by decide +kernel : ∀ t : Fin grid0.N, _)
theorem idx_out : ∀ t : Fin cfg0.N, win0_5.index t = ![t.val, 0] ∧ win0_6.index t = ![t.val, 0] ∧ win0_7.index t = ![t.val, 0]
    ∧ win0_8.index t = ![t.val, 0] :=
  (by decide +kernel : ∀ t : Fin grid0.N, _)

theorem blk0 (h : ArgsAt m c R) (t : Fin cfg0.N) : Holds (iblk m c 0 t : FVec Ideal S512x1024 .f32) fun p => R.x (tok t p) := by
  intro p k
  refine Eq.trans ?_ (h.x (tok t p) k)
  blk_simp [iblk]
  rw [V_main_arg0]
  congr 1
  blk_ext [(idx_in t).1, tok]

theorem blk1 (h : ArgsAt m c R) (t : Fin cfg0.N) : Holds (iblk m c 1 t : FVec Ideal S1x1024 .f32) fun _ => R.pg := by
  intro p k
  refine Eq.trans ?_ (pg_eq h k)
  blk_simp [iblk]
  congr 1
  blk_ext [(idx_in t).2.1]

theorem blk2 (h : ArgsAt m c R) (t : Fin cfg0.N) : Holds (iblk m c 2 t : FVec Ideal S1x1024 .f32) fun _ => R.qg := by
  intro p k
  refine Eq.trans ?_ (qg_eq h k)
  blk_simp [iblk]
  congr 1
  blk_ext [(idx_in t).2.2.1]

theorem blk3 (h : ArgsAt m c R) (t : Fin cfg0.N) : Holds (iblk m c 3 t : FVec Ideal S5632x1024 .bf16) fun j k => R.w1 k j := by
  intro j k
  refine Eq.trans ?_ (w1t_eq h j k)
  blk_simp [iblk]
  congr 1
  blk_ext [(idx_in t).2.2.2.1]

theorem blk4 (h : ArgsAt m c R) (t : Fin cfg0.N) : Holds (iblk m c 4 t : FVec Ideal S2816x1024 .bf16) R.w2 := by
  intro j k
  refine Eq.trans ?_ (w2_eq h j k)
  blk_simp [iblk]
  congr 1
  blk_ext [(idx_in t).2.2.2.2]

/-! ## What a grid point stores -/

theorem out5 (h : ArgsAt m c R) (t : Fin cfg0.N) : Holds (outsAt0 m c t).1 fun p => R.xo (tok t p) := by
  have e := xo_eq (blk0 h t) (blk1 h t) (blk2 h t) (blk3 h t) (blk4 h t)
  unfold outsAt0; frame_out; exact e

theorem out8 (h : ArgsAt m c R) (t : Fin cfg0.N) : Holds (outsAt0 m c t).2.2.2 fun p => R.y (tok t p) := by
  have e := y_eq (blk0 h t) (blk1 h t) (blk3 h t) (blk4 h t)
  unfold outsAt0; frame_out; exact e

/-- The gate's derivatives, stored in six runs of columns. -/
theorem out6 (h : ArgsAt m c R) (t : Fin cfg0.N) : Holds (outsAt0 m c t).2.1 fun p => R.gd (tok t p) := by
  have p0 := piece (g := fun p => R.gd (tok t p)) 0 (by omega) (l0 (blk0 h t) (blk1 h t) (blk3 h t)) (dGate_run (by omega))
  have p1 := piece (g := fun p => R.gd (tok t p)) (2816 + 0) (by omega) (r0 (blk0 h t) (blk1 h t) (blk3 h t)) (silu_run (by omega))
  have p2 := piece (g := fun p => R.gd (tok t p)) 1024 (by omega) (l1 (blk0 h t) (blk1 h t) (blk3 h t)) (dGate_run (by omega))
  have p3 := piece (g := fun p => R.gd (tok t p)) (2816 + 1024) (by omega) (r1 (blk0 h t) (blk1 h t) (blk3 h t)) (silu_run (by omega))
  have p4 := piece (g := fun p => R.gd (tok t p)) 2048 (by omega) (l2 (blk0 h t) (blk1 h t) (blk3 h t)) (dGate_run (by omega))
  have p5 := piece (g := fun p => R.gd (tok t p)) (2816 + 2048) (by omega) (r2 (blk0 h t) (blk1 h t) (blk3 h t)) (silu_run (by omega))
  intro p j
  unfold outsAt0; frame_out
  canon_tiles x hx using (View.cover_of_tiledBy _ ![512, 256] (by sl_kernel_rfl) _)
  exacts [p5 p j x hx0 hx1, p4 p j x hx0 hx1, p3 p j x hx0 hx1, p2 p j x hx0 hx1, p1 p j x hx0 hx1,
    p0 p j x hx0 (hx1.trans (Nat.zero_add _).symm)]

/-- The gated row, stored in three. -/
theorem out7 (h : ArgsAt m c R) (t : Fin cfg0.N) : Holds (outsAt0 m c t).2.2.1 fun p => R.s (tok t p) := by
  have p0 := piece (g := fun p => R.s (tok t p)) 0 (by omega) (s0 (blk0 h t) (blk1 h t) (blk3 h t)) (gate_run (by omega))
  have p1 := piece (g := fun p => R.s (tok t p)) 1024 (by omega) (s1 (blk0 h t) (blk1 h t) (blk3 h t)) (gate_run (by omega))
  have p2 := piece (g := fun p => R.s (tok t p)) 2048 (by omega) (s2 (blk0 h t) (blk1 h t) (blk3 h t)) (gate_run (by omega))
  intro p j
  unfold outsAt0; frame_out
  canon_tiles x hx using (View.cover_of_tiledBy _ ![512, 256] (by sl_kernel_rfl) _)
  exacts [p2 p j x hx0 hx1, p1 p j x hx0 hx1, p0 p j x hx0 (hx1.trans (Nat.zero_add _).symm)]

/-! ## The whole arrays -/

theorem value5 (h : ArgsAt m c R) : (dats m 0 c).arrAt 5 cfg0.N = arrOf R.xo := by
  refine (dats m 0 c).arrAt_eq_of_covers 5 _ (by decide +kernel) fun t hf y => ?_
  blk_simp
  rw [after0_5]
  refine (holds_at (out5 h t) y).trans (show arrOf R.xo (ix2 (tok t (y 0)) (y 1)) = _ from ?_)
  congr 1
  blk_ext [(idx_out t).1, tok]

theorem value6 (h : ArgsAt m c R) : (dats m 0 c).arrAt 6 cfg0.N = arrOf R.gd := by
  refine (dats m 0 c).arrAt_eq_of_covers 6 _ (by decide +kernel) fun t hf y => ?_
  blk_simp
  rw [after0_6]
  refine (holds_at (out6 h t) y).trans (show arrOf R.gd (ix2 (tok t (y 0)) (y 1)) = _ from ?_)
  congr 1
  blk_ext [(idx_out t).2.1, tok]

theorem value7 (h : ArgsAt m c R) : (dats m 0 c).arrAt 7 cfg0.N = arrOf R.s := by
  refine (dats m 0 c).arrAt_eq_of_covers 7 _ (by decide +kernel) fun t hf y => ?_
  blk_simp
  rw [after0_7]
  refine (holds_at (out7 h t) y).trans (show arrOf R.s (ix2 (tok t (y 0)) (y 1)) = _ from ?_)
  congr 1
  blk_ext [(idx_out t).2.2.1, tok]

theorem value8 (h : ArgsAt m c R) : (dats m 0 c).arrAt 8 cfg0.N = arrOf R.y := by
  refine (dats m 0 c).arrAt_eq_of_covers 8 _ (by decide +kernel) fun t hf y => ?_
  blk_simp
  rw [after0_8]
  refine (holds_at (out8 h t) y).trans (show arrOf R.y (ix2 (tok t (y 0)) (y 1)) = _ from ?_)
  congr 1
  blk_ext [(idx_out t).2.2.2, tok]

end Cert.FfnFwdIdeal.Point

end
-- ==== Proof.FwdRef.lean ====
/- What the reference of `ffn_fwd` computes, stage by stage, over the reals. -/
module

public import proofs.«01_k».proof.Proof.FwdMath
public import proofs.«01_k».proof.Proof.Gen.FfnFwdRefIdeal.Read
public import Idealize.ShloMosaic.Lib.Pointwise

@[expose] public section

set_option maxRecDepth 16384

noncomputable section

open Idealize.ShloMosaic Cert.Half
open Cert.FfnFwdRefIdeal Cert.FfnFwdRefIdeal.Gen Cert.FfnFwdRefIdeal.Value Cert.FfnFwdRefIdeal.Read

namespace Cert.FfnFwdRefIdeal.RefValue

variable {x0 : (⟨S16384x1024, .f32⟩ : BufTy).Contents (Elt Ideal)} {x1 x2 : (⟨S1024, .f32⟩ : BufTy).Contents (Elt Ideal)}
  {x3 : (⟨S1024x5632, .f32⟩ : BufTy).Contents (Elt Ideal)} {x4 : (⟨S2816x1024, .f32⟩ : BufTy).Contents (Elt Ideal)} {R : Reals}

/-! ## The half-step -/

theorem rinv_x (h : FwdHold x0 x1 x2 x3 x4 R) : Holds (val_main_v7 (F := Ideal) x0) fun r _ => rinv (R.x r) := by
  intro r k
  obtain rfl : k = 0 := Subsingleton.elim _ _
  pointwise [val_main_v7, val_main_v6, val_main_v5, val_main_v4, val_main_v3, val_main_v2, val_main_v1, val_main_v0, val_main_cst, val_main_cst_0, val_main_cst_1]
  simp only [h.x _ _, ← EReal.coe_mul, sum_coe, word_zero, word_1024, word_eps, div_coe (show (1024 : ℝ) ≠ 0 by norm_num), ← EReal.coe_add, zero_add]
  exact rsqrt_coe (ms_pos (R.x r))

theorem h_x (h : FwdHold x0 x1 x2 x3 x4 R) : Holds (val_main_v12 (F := Ideal) x0 x1) R.h := by
  intro r k
  pointwise [val_main_v12, val_main_v11, val_main_v10, val_main_v9, val_main_v8]
  rw [h.x, h.pg, rinv_x h, ← EReal.coe_mul, ← EReal.coe_mul]; rfl

theorem a_x (h : FwdHold x0 x1 x2 x3 x4 R) : Holds (val_main_v13 (F := Ideal) x0 x1 x3) R.a := by
  intro r k
  pointwise [val_main_v13]
  simp only [h_x h _ _, h.w1 _ _, ← EReal.coe_mul, sum_coe]; rfl

theorem lo_x (h : FwdHold x0 x1 x2 x3 x4 R) : Holds (val_main_v14 (F := Ideal) x0 x1 x3) fun r j => R.a r (lo j) := by
  intro r k
  pointwise [val_main_v14]
  exact a_x h r (lo k)

theorem hi_x (h : FwdHold x0 x1 x2 x3 x4 R) : Holds (val_main_v15 (F := Ideal) x0 x1 x3) fun r j => R.a r (hi j) := by
  intro r k
  pointwise [val_main_v15]
  exact a_x h r (hi k)

theorem sig_x (h : FwdHold x0 x1 x2 x3 x4 R) : Holds (val_main_call0_v5 (F := Ideal) x0 x1 x3) fun r j => Half.sig (R.a r (lo j)) := by
  intro r k
  pointwise [val_main_call0_v5, val_main_call0_v4, val_main_call0_v3, val_main_call0_v2, val_main_call0_v1, val_main_call0_v0,
    val_main_call0_cst, val_main_call0_cst_0]
  rw [lo_x h]
  exact sig_coe _

theorem s_x (h : FwdHold x0 x1 x2 x3 x4 R) : Holds (val_main_v17 (F := Ideal) x0 x1 x3) R.s := by
  intro r k
  pointwise [val_main_v17, val_main_v16]
  rw [lo_x h, hi_x h, sig_x h, ← EReal.coe_mul, ← EReal.coe_mul]; rfl

theorem y_x (h : FwdHold x0 x1 x2 x3 x4 R) : Holds (val_main_v18 (F := Ideal) x0 x1 x3 x4) R.y := by
  intro r k
  pointwise [val_main_v18]
  simp only [s_x h _ _, h.w2 _ _, ← EReal.coe_mul, sum_coe]; rfl

theorem rinv_y (h : FwdHold x0 x1 x2 x3 x4 R) : Holds (val_main_v26 (F := Ideal) x0 x1 x3 x4) fun r _ => rinv (R.y r) := by
  intro r k
  obtain rfl : k = 0 := Subsingleton.elim _ _
  pointwise [val_main_v26, val_main_v25, val_main_v24, val_main_v23, val_main_v22, val_main_v21, val_main_v20, val_main_v19, val_main_cst_2,
    val_main_cst_3, val_main_cst_4]
  simp only [y_x h _ _, ← EReal.coe_mul, sum_coe, word_zero, word_1024, word_eps, div_coe (show (1024 : ℝ) ≠ 0 by norm_num), ← EReal.coe_add, zero_add]
  exact rsqrt_coe (ms_pos (R.y r))

theorem xo (h : FwdHold x0 x1 x2 x3 x4 R) : Holds (val_main_v34 (F := Ideal) x0 x1 x2 x3 x4) R.xo := by
  intro r k
  pointwise [val_main_v34, val_main_v33, val_main_v32, val_main_v31, val_main_v30, val_main_v29, val_main_v28, val_main_v27, val_main_cst_5]
  rw [h.x, h.qg, y_x h, rinv_y h, word_half, ← EReal.coe_mul, ← EReal.coe_mul, ← EReal.coe_mul, ← EReal.coe_add]; rfl

/-! ## What it saves for the backward pass: the same rows, computed again -/

theorem s (h : FwdHold x0 x1 x2 x3 x4 R) : Holds (val_main_v59 (F := Ideal) x0 x1 x3) R.s := s_x h
theorem y (h : FwdHold x0 x1 x2 x3 x4 R) : Holds (val_main_v61 (F := Ideal) x0 x1 x3 x4) R.y := y_x h

theorem dlo (h : FwdHold x0 x1 x2 x3 x4 R) : Holds (val_main_v56 (F := Ideal) x0 x1 x3) fun r j => gateLo (R.a r) j := by
  intro r k
  have el : val_main_v49 (F := Ideal) x0 x1 x3 (ix2 r k) = _ := lo_x h r k
  have eh : val_main_v50 (F := Ideal) x0 x1 x3 (ix2 r k) = _ := hi_x h r k
  have es : val_main_v51_2 (F := Ideal) x0 x1 x3 (ix2 r k) = _ := sig_x h r k
  pointwise [val_main_v56, val_main_call2_v2, val_main_call2_v1, val_main_call2_v0, val_main_v55, val_main_v53, val_main_cst_9, val_main_v51_1,
    val_main_call1_v7, val_main_call1_v6, val_main_call1_cst_1]
  simp only [el, eh, es, word_one, EReal.coe_one, one_sub_coe, one_mul, ← EReal.coe_mul, ← EReal.coe_add]
  exact congrArg _ (by unfold gateLo; ring)

theorem dhi (h : FwdHold x0 x1 x2 x3 x4 R) : Holds (val_main_v54 (F := Ideal) x0 x1 x3) fun r j => gateHi (R.a r) j := by
  intro r k
  have el : val_main_v49 (F := Ideal) x0 x1 x3 (ix2 r k) = _ := lo_x h r k
  have es : val_main_v51_2 (F := Ideal) x0 x1 x3 (ix2 r k) = _ := sig_x h r k
  pointwise [val_main_v54, val_main_v51_0, val_main_v53, val_main_cst_9]
  simp only [el, es, word_one, EReal.coe_one, mul_one, ← EReal.coe_mul]
  rfl

theorem gd (h : FwdHold x0 x1 x2 x3 x4 R) : Holds (val_main_v58 (F := Ideal) x0 x1 x3) R.gd := by
  intro r j
  rcases lo_or_hi j with ⟨i, rfl⟩ | ⟨i, rfl⟩
  · refine Eq.trans ?_ ((dlo h r i).trans (congrArg _ (gateD_lo (R.a r) i).symm))
    pointwise [val_main_v58, val_main_v57]
    exact dif_pos (show (lo i).val < 2816 from i.isLt)
  · refine Eq.trans ?_ ((dhi h r i).trans (congrArg _ (gateD_hi (R.a r) i).symm))
    pointwise [val_main_v58, val_main_v57]
    have hn : ¬(hi i).val < 2816 := by show ¬2816 + i.val < 2816; omega
    rw [dif_neg hn]
    congr 2
    exact Fin.ext (by show 2816 + i.val - 2816 = i.val; omega)

end Cert.FfnFwdRefIdeal.RefValue

end
-- ==== Proof.FfnForward.lean ====
/- The claims about `ffn_fwd`: the frames, and that kernel and reference leave the same four results. -/
module

public import proofs.«01_k».proof.Defs
public import proofs.«01_k».proof.Proof.Gen.FfnFwd.Frame
public import proofs.«01_k».proof.Proof.Gen.FfnFwdRefIdeal.Run
public import proofs.«01_k».proof.Proof.Gen.Pre_finite_ffn_fwd
public import proofs.«01_k».proof.Proof.FwdKernel
public import proofs.«01_k».proof.Proof.FwdRef
public import proofs.«01_k».proof.Proof.Finite

@[expose] public section

noncomputable section

open Idealize.ShloMosaic Idealize.SL.Sem Cert.Half

namespace Cert.FfnForward

theorem frame : Cert.quiescent_FfnFwd := fun m g _ => Cert.FfnFwd.Gen.frame m g
theorem frame_ideal : Cert.quiescent_FfnFwdIdeal := fun m g _ => Cert.FfnFwdIdeal.Gen.frame m g
theorem frame_ideal_finite : Cert.quiescent_FfnFwdIdeal_pre_finite_ffn_fwd := fun m g _ => Cert.FfnFwdIdeal.Gen.frame m g

/-- The reference runs, keeps its arguments and leaves every counter at zero. -/
theorem frame_reference : Cert.quiescent_FfnFwdRefIdeal := fun m g _ =>
  (θ_run Cert.FfnFwdRefIdeal.defs _ _).mono
    (fun r h => ⟨fun c => (h c).2.2.2.2, sem_eq_zero_of_no_sems (by decide) r.2⟩) (Cert.FfnFwdRefIdeal.Value.run (F := Ideal) m g)
theorem frame_reference_finite : Cert.quiescent_FfnFwdRefIdeal_pre_finite_ffn_fwd := fun m g _ =>
  (θ_run Cert.FfnFwdRefIdeal.defs _ _).mono
    (fun r h => ⟨fun c => (h c).2.2.2.2, sem_eq_zero_of_no_sems (by decide) r.2⟩) (Cert.FfnFwdRefIdeal.Value.run (F := Ideal) m g)

theorem preserves : Cert.preserves_FfnFwd_FfnFwdIdeal := trivial

open Cert.Pre_finite_ffn_fwd in
/-- The predicate gives the numbers. -/
theorem exists_reals {a0 : FVec Ideal S16384x1024 .f32} {a1 a2 : FVec Ideal S1024 .f32} {a3 : FVec Ideal S1024x5632 .f32}
    {a4 : FVec Ideal S2816x1024 .f32} (h : Cert.Pre_finite_ffn_fwd.fn (F := Ideal) a0 a1 a2 a3 a4 = fun _ => 1#1) :
    ∃ R : Reals, FwdHold a0 a1 a2 a3 a4 R := by
  have h := congrFun h (fun d => d.elim0)
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨⟨fun _ _ => 0, fun r k => (a0 (ix2 r k) : EReal).toReal, fun k => (a1 (ix1 k) : EReal).toReal, fun k => (a2 (ix1 k) : EReal).toReal,
    fun k j => (a3 (ix2 k j) : EReal).toReal, fun j k => (a4 (ix2 j k) : EReal).toReal⟩,
    fun _ _ => Finite.real_of_all h0 _, fun _ => Finite.real_of_all h1 _, fun _ => Finite.real_of_all h2 _,
    fun _ _ => Finite.real_of_all h3 _, fun _ _ => Finite.real_of_all h4 _⟩

open Cert.FfnFwdIdeal.Point in
/-- On real arguments both programs leave the four arrays of reals. -/
theorem algebraic : Cert.algebraic_FfnFwdIdeal_FfnFwdRefIdeal_pre_finite_ffn_fwd := by
  intro m g m' g' hpre hagree
  have hr : ∀ c, ∃ R, ArgsAt m c R := fun c => exists_reals (hpre c)
  choose R hR using hr
  have hR' : ∀ c, FwdHold _ _ _ _ _ (R c) := fun c => by
    have h := hR c
    unfold ArgsAt at h
    obtain ⟨e0, e1, e2, e3, e4⟩ := hagree c
    exact (e0 ▸ e1 ▸ e2 ▸ e3 ▸ e4 ▸ h : FwdHold (m' ((c.tc : Thread Cert.FfnFwdRefIdeal.nD Cert.FfnFwdRefIdeal.τ).loc Cert.FfnFwdRefIdeal.main_arg0))
      (m' ((c.tc : Thread Cert.FfnFwdRefIdeal.nD Cert.FfnFwdRefIdeal.τ).loc Cert.FfnFwdRefIdeal.main_arg1))
      (m' ((c.tc : Thread Cert.FfnFwdRefIdeal.nD Cert.FfnFwdRefIdeal.τ).loc Cert.FfnFwdRefIdeal.main_arg2))
      (m' ((c.tc : Thread Cert.FfnFwdRefIdeal.nD Cert.FfnFwdRefIdeal.τ).loc Cert.FfnFwdRefIdeal.main_arg3))
      (m' ((c.tc : Thread Cert.FfnFwdRefIdeal.nD Cert.FfnFwdRefIdeal.τ).loc Cert.FfnFwdRefIdeal.main_arg4)) (R c))
  refine ⟨fun c => arrOf (R c).xo, fun c => arrOf (R c).gd, fun c => arrOf (R c).s, fun c => arrOf (R c).y, ?_, ?_⟩
  · refine (θ_run Cert.FfnFwdIdeal.defs _ _).mono (fun r h c => ?_) (Cert.FfnFwdIdeal.Value.run_blocks (F := Ideal) m g)
    obtain ⟨h0, h1, h2, h3, hargs⟩ := h c
    exact ⟨h0.trans (value5 (hR c)), h1.trans (value6 (hR c)), h2.trans (value7 (hR c)), h3.trans (value8 (hR c)), hargs⟩
  · refine (θ_run Cert.FfnFwdRefIdeal.defs _ _).mono (fun r h c => ?_) (Cert.FfnFwdRefIdeal.Value.run (F := Ideal) m' g')
    obtain ⟨h0, h1, h2, h3, hargs⟩ := h c
    exact ⟨h0.trans ((Cert.FfnFwdRefIdeal.Read.val_main_v34_eq _ _).trans (Cert.FfnFwdRefIdeal.RefValue.xo (hR' c)).eq_arrOf),
      h1.trans ((Cert.FfnFwdRefIdeal.Read.val_main_v58_eq _ _).trans (Cert.FfnFwdRefIdeal.RefValue.gd (hR' c)).eq_arrOf),
      h2.trans ((Cert.FfnFwdRefIdeal.Read.val_main_v59_eq _ _ _).trans (Cert.FfnFwdRefIdeal.RefValue.s (hR' c)).eq_arrOf),
      h3.trans ((Cert.FfnFwdRefIdeal.Read.val_main_v61_eq _ _ _ _).trans (Cert.FfnFwdRefIdeal.RefValue.y (hR' c)).eq_arrOf), hargs⟩

end Cert.FfnForward

end
-- ==== Proof.LossKernel.lean ====
/- What `ffn_fwd` with the loss leaves in its five results, over the reals. The half-step's values are those of the plain
   call (FwdKernel.lean); here are the squared error and the loss's gradient, and the arrays. -/
module

public import proofs.«01_k».proof.Proof.FwdKernel
public import proofs.«01_k».proof.Proof.Gen.FfnLossIdeal.Value

@[expose] public section

set_option maxRecDepth 16384

noncomputable section

open Idealize.ShloMosaic Cert.Half Idealize.ShloMosaic.TcCoe Idealize.SL Idealize.SL.Sem
open Cert.FfnLossIdeal Cert.FfnLossIdeal.Gen
open Cert.FfnFwdIdeal.Point (piece silu_run dGate_run gate_run s0 s1 s2 l0 l1 l2 r0 r1 r2 y_eq)

namespace Cert.FfnLossIdeal.Point

/-! ## The squared error and the loss's gradient on one block -/

section Body
variable {x y t : FVec Ideal S512x1024 .f32} {qg acc : FVec Ideal S1x1024 .f32} {X Y T : Fin 512 → Fin 1024 → ℝ} {Q A : Fin 1024 → ℝ}

theorem zeros : Holds (k0_pay1 (F := Ideal)) fun _ _ => 0 := by
  intro p k
  pointwise [k0_pay1]
  rfl

theorem err (hx : Holds x X) (hy : Holds y Y) (hq : Holds qg fun _ => Q) (ht : Holds t T) :
    Holds (k0_pay2 (F := Ideal) x y qg t) fun p k => outRow (X p) (Y p) Q k - T p k := by
  intro p k
  pointwise [k0_pay2]
  simp only [hx _ _, hy _ _, hq _ _, ht _ _, word_half, ← EReal.coe_mul, sum_coe, word_1024, word_eps,
    div_coe (show (1024 : ℝ) ≠ 0 by norm_num), ← EReal.coe_add, ← EReal.coe_sub, rsqrt_ms]
  rfl

theorem sqs (hx : Holds x X) (hy : Holds y Y) (hq : Holds qg fun _ => Q) (ht : Holds t T) (ha : Holds acc fun _ => A) :
    Holds (k0_pay3 (F := Ideal) x y qg t acc)
      fun _ k => A k + ∑ p, (outRow (X p) (Y p) Q k - T p k) * (outRow (X p) (Y p) Q k - T p k) := by
  intro p k
  pointwise [k0_pay3]
  simp only [err hx hy hq ht _ _, ha _ _, ← EReal.coe_mul, sum_coe, ← EReal.coe_add]

theorem grad (hx : Holds x X) (hy : Holds y Y) (hq : Holds qg fun _ => Q) (ht : Holds t T) :
    Holds (k0_pay4 (F := Ideal) x y qg t) fun p k => (outRow (X p) (Y p) Q k - T p k) * (1 / 1024) := by
  intro p k
  pointwise [k0_pay4]
  rw [err hx hy hq ht, word_inv_1024, ← EReal.coe_mul]
end Body

/-! ## The arrays the host hands the kernel -/

variable (m : (ℓ : Loc nD τ sig) → Buf (Elt Ideal) ℓ)
/-- Device `c`'s six arguments hold the numbers `R` and the target `T`. -/
abbrev ArgsAt (c : Dev nD) (R : Reals) (T : Fin 16384 → Fin 1024 → ℝ) : Prop :=
  LossHold (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5)) R T

variable {m} {c : Dev nD} {R : Reals} {T : Fin 16384 → Fin 1024 → ℝ}

theorem pg_eq (h : ArgsAt m c R T) (k : Fin 1024) : (V m c main_v0 : FVec Ideal S1x1024 .f32) (ix2 0 k) = ((R.pg k : ℝ) : EReal) := by
  unfold V
  after_reads_at
  exact h.half.pg k

theorem qg_eq (h : ArgsAt m c R T) (k : Fin 1024) : (V m c main_v1 : FVec Ideal S1x1024 .f32) (ix2 0 k) = ((R.qg k : ℝ) : EReal) := by
  unfold V
  after_reads_at
  exact h.half.qg k

theorem w1t_eq (h : ArgsAt m c R T) (j : Fin 5632) (k : Fin 1024) :
    (V m c main_v3 : FVec Ideal S5632x1024 .bf16) (ix2 j k) = ((R.w1 k j : ℝ) : EReal) := by
  unfold V
  after_reads_at
  exact h.half.w1 k j

theorem w2_eq (h : ArgsAt m c R T) (j : Fin 2816) (k : Fin 1024) :
    (V m c main_v4 : FVec Ideal S2816x1024 .bf16) (ix2 j k) = ((R.w2 j k : ℝ) : EReal) := by
  unfold V
  after_reads_at
  exact h.half.w2 j k

/-- The token of row `p` of point `t`. -/
def tok (t : Fin cfg0.N) (p : Fin 512) : Fin 16384 := ⟨512 * t.val + p.val, by have := t.isLt; have e : cfg0.N = 32 := rfl; omega⟩

theorem idx_in : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)
theorem idx_out : ∀ t : Fin cfg0.N, win0_6.index t = ![t.val, 0] ∧ win0_7.index t = ![t.val, 0] ∧ win0_8.index t = ![t.val, 0]
    ∧ win0_9.index t = ![0, 0] ∧ win0_10.index t = ![t.val, 0] ∧ ((cfg0.win 9).flush t = true → t.val = 31) :=
  (by decide +kernel : ∀ t : Fin grid0.N, _)

theorem blk0 (h : ArgsAt m c R T) (t : Fin cfg0.N) : Holds (iblk m c 0 t : FVec Ideal S512x1024 .f32) fun p => R.x (tok t p) := by
  intro p k
  refine Eq.trans ?_ (h.half.x (tok t p) k)
  blk_simp [iblk]
  rw [V_main_arg0]
  congr 1
  blk_ext [(idx_in t).1, tok]

theorem blk1 (h : ArgsAt m c R T) (t : Fin cfg0.N) : Holds (iblk m c 1 t : FVec Ideal S1x1024 .f32) fun _ => R.pg := by
  intro p k
  refine Eq.trans ?_ (pg_eq h k)
  blk_simp [iblk]
  congr 1
  blk_ext [(idx_in t).2.1]

theorem blk2 (h : ArgsAt m c R T) (t : Fin cfg0.N) : Holds (iblk m c 2 t : FVec Ideal S1x1024 .f32) fun _ => R.qg := by
  intro p k
  refine Eq.trans ?_ (qg_eq h k)
  blk_simp [iblk]
  congr 1
  blk_ext [(idx_in t).2.2.1]

theorem blk3 (h : ArgsAt m c R T) (t : Fin cfg0.N) : Holds (iblk m c 3 t : FVec Ideal S5632x1024 .bf16) fun j k => R.w1 k j := by
  intro j k
  refine Eq.trans ?_ (w1t_eq h j k)
  blk_simp [iblk]
  congr 1
  blk_ext [(idx_in t).2.2.2.1]

theorem blk4 (h : ArgsAt m c R T) (t : Fin cfg0.N) : Holds (iblk m c 4 t : FVec Ideal S2816x1024 .bf16) R.w2 := by
  intro j k
  refine Eq.trans ?_ (w2_eq h j k)
  blk_simp [iblk]
  congr 1
  blk_ext [(idx_in t).2.2.2.2.1]

theorem blk5 (h : ArgsAt m c R T) (t : Fin cfg0.N) : Holds (iblk m c 5 t : FVec Ideal S512x1024 .f32) fun p => T (tok t p) := by
  intro p k
  refine Eq.trans ?_ (h.t (tok t p) k)
  blk_simp [iblk]
  rw [V_main_arg1]
  congr 1
  blk_ext [(idx_in t).2.2.2.2.2, tok]

/-! ## What a grid point stores -/

theorem yb (h : ArgsAt m c R T) (t : Fin cfg0.N) :
    Holds (Cert.FfnFwdIdeal.Point.yV (iblk m c 0 t) (iblk m c 1 t) (iblk m c 3 t) (iblk m c 4 t)) fun p => R.y (tok t p) :=
  y_eq (blk0 h t) (blk1 h t) (blk3 h t) (blk4 h t)

theorem out8 (h : ArgsAt m c R T) (t : Fin cfg0.N) : Holds (outsAt0 m c t.val t.isLt).2.2.1 fun p => R.y (tok t p) := by
  have e := yb h t
  by_cases h0 : t.val % 32 = 0
  · rw [outsAt0_A m c t h0]; frame_out; exact e
  · rw [outsAt0_B m c t h0]; frame_out; exact e

theorem out10 (h : ArgsAt m c R T) (t : Fin cfg0.N) : Holds (outsAt0 m c t.val t.isLt).2.2.2.2 fun p => R.dOut T (tok t p) := by
  have e := grad (blk0 h t) (yb h t) (blk2 h t) (blk5 h t)
  by_cases h0 : t.val % 32 = 0
  · rw [outsAt0_A m c t h0]; frame_out; exact e
  · rw [outsAt0_B m c t h0]; frame_out; exact e

/-- The gate's derivatives, stored in six runs of columns. -/
theorem out6 (h : ArgsAt m c R T) (t : Fin cfg0.N) : Holds (outsAt0 m c t.val t.isLt).1 fun p => R.gd (tok t p) := by
  have p0 := piece (g := fun p => R.gd (tok t p)) 0 (by omega) (l0 (blk0 h t) (blk1 h t) (blk3 h t)) (dGate_run (by omega))
  have p1 := piece (g := fun p => R.gd (tok t p)) (2816 + 0) (by omega) (r0 (blk0 h t) (blk1 h t) (blk3 h t)) (silu_run (by omega))
  have p2 := piece (g := fun p => R.gd (tok t p)) 1024 (by omega) (l1 (blk0 h t) (blk1 h t) (blk3 h t)) (dGate_run (by omega))
  have p3 := piece (g := fun p => R.gd (tok t p)) (2816 + 1024) (by omega) (r1 (blk0 h t) (blk1 h t) (blk3 h t)) (silu_run (by omega))
  have p4 := piece (g := fun p => R.gd (tok t p)) 2048 (by omega) (l2 (blk0 h t) (blk1 h t) (blk3 h t)) (dGate_run (by omega))
  have p5 := piece (g := fun p => R.gd (tok t p)) (2816 + 2048) (by omega) (r2 (blk0 h t) (blk1 h t) (blk3 h t)) (silu_run (by omega))
  intro p j
  by_cases h0 : t.val % 32 = 0
  · rw [outsAt0_A m c t h0]; frame_out
    canon_tiles x hx using (View.cover_of_tiledBy _ ![512, 256] (by sl_kernel_rfl) _)
    exacts [p5 p j x hx0 hx1, p4 p j x hx0 hx1, p3 p j x hx0 hx1, p2 p j x hx0 hx1, p1 p j x hx0 hx1,
      p0 p j x hx0 (hx1.trans (Nat.zero_add _).symm)]
  · rw [outsAt0_B m c t h0]; frame_out
    canon_tiles x hx using (View.cover_of_tiledBy _ ![512, 256] (by sl_kernel_rfl) _)
    exacts [p5 p j x hx0 hx1, p4 p j x hx0 hx1, p3 p j x hx0 hx1, p2 p j x hx0 hx1, p1 p j x hx0 hx1,
      p0 p j x hx0 (hx1.trans (Nat.zero_add _).symm)]

/-- The gated row, stored in three. -/
theorem out7 (h : ArgsAt m c R T) (t : Fin cfg0.N) : Holds (outsAt0 m c t.val t.isLt).2.1 fun p => R.s (tok t p) := by
  have p0 := piece (g := fun p => R.s (tok t p)) 0 (by omega) (s0 (blk0 h t) (blk1 h t) (blk3 h t)) (gate_run (by omega))
  have p1 := piece (g := fun p => R.s (tok t p)) 1024 (by omega) (s1 (blk0 h t) (blk1 h t) (blk3 h t)) (gate_run (by omega))
  have p2 := piece (g := fun p => R.s (tok t p)) 2048 (by omega) (s2 (blk0 h t) (blk1 h t) (blk3 h t)) (gate_run (by omega))
  intro p j
  by_cases h0 : t.val % 32 = 0
  · rw [outsAt0_A m c t h0]; frame_out
    canon_tiles x hx using (View.cover_of_tiledBy _ ![512, 256] (by sl_kernel_rfl) _)
    exacts [p2 p j x hx0 hx1, p1 p j x hx0 hx1, p0 p j x hx0 (hx1.trans (Nat.zero_add _).symm)]
  · rw [outsAt0_B m c t h0]; frame_out
    canon_tiles x hx using (View.cover_of_tiledBy _ ![512, 256] (by sl_kernel_rfl) _)
    exacts [p2 p j x hx0 hx1, p1 p j x hx0 hx1, p0 p j x hx0 (hx1.trans (Nat.zero_add _).symm)]

/-- The rows' squared errors at point `s`. -/
def part (R : Reals) (T : Fin 16384 → Fin 1024 → ℝ) (k : Fin 1024) (s : ℕ) : ℝ :=
  if hs : s < cfg0.N then ∑ p, (R.xo (tok ⟨s, hs⟩ p) k - T (tok ⟨s, hs⟩ p) k) * (R.xo (tok ⟨s, hs⟩ p) k - T (tok ⟨s, hs⟩ p) k) else 0
theorem part_eq (t : Fin cfg0.N) (k : Fin 1024) :
    part R T k t.val = ∑ p, (R.xo (tok t p) k - T (tok t p) k) * (R.xo (tok t p) k - T (tok t p) k) := by
  unfold part; rw [dif_pos t.isLt]

/-- The squared error after point `n`: the rows of the points up to there. -/
theorem out9 (h : ArgsAt m c R T) (n : ℕ) (hn : n < cfg0.N) : Holds (outsAt0 m c n hn).2.2.2.1 fun _ k => runSum (part R T k) n := by
  induction n with
  | zero =>
    have e := sqs (blk0 h ⟨0, hn⟩) (yb h ⟨0, hn⟩) (blk2 h ⟨0, hn⟩) (blk5 h ⟨0, hn⟩) zeros
    intro p k
    rw [outsAt0_A m c ⟨0, hn⟩ rfl]; frame_out
    refine (e p k).trans (congrArg _ ?_)
    rw [← runSum_zero, part_eq ⟨0, hn⟩]; rfl
  | succ n ih =>
    have e := sqs (blk0 h ⟨n + 1, hn⟩) (yb h ⟨n + 1, hn⟩) (blk2 h ⟨n + 1, hn⟩) (blk5 h ⟨n + 1, hn⟩) (ih (Nat.lt_of_succ_lt hn))
    intro p k
    have h0 : ¬(n + 1) % 32 = 0 := by have hN : cfg0.N = 32 := rfl; omega
    rw [outsAt0_B m c ⟨n + 1, hn⟩ h0]; frame_out
    refine (e p k).trans (congrArg _ ?_)
    rw [← runSum_succ, part_eq ⟨n + 1, hn⟩]; rfl

/-! ## The whole arrays -/

theorem value6 (h : ArgsAt m c R T) : (dats m 0 c).arrAt 6 cfg0.N = arrOf R.gd := by
  refine (dats m 0 c).arrAt_eq_of_covers 6 _ (by decide +kernel) fun t hf y => ?_
  blk_simp
  rw [after0_6]
  refine (holds_at (out6 h t) y).trans (show arrOf R.gd (ix2 (tok t (y 0)) (y 1)) = _ from ?_)
  congr 1
  blk_ext [(idx_out t).1, tok]

theorem value7 (h : ArgsAt m c R T) : (dats m 0 c).arrAt 7 cfg0.N = arrOf R.s := by
  refine (dats m 0 c).arrAt_eq_of_covers 7 _ (by decide +kernel) fun t hf y => ?_
  blk_simp
  rw [after0_7]
  refine (holds_at (out7 h t) y).trans (show arrOf R.s (ix2 (tok t (y 0)) (y 1)) = _ from ?_)
  congr 1
  blk_ext [(idx_out t).2.1, tok]

theorem value8 (h : ArgsAt m c R T) : (dats m 0 c).arrAt 8 cfg0.N = arrOf R.y := by
  refine (dats m 0 c).arrAt_eq_of_covers 8 _ (by decide +kernel) fun t hf y => ?_
  blk_simp
  rw [after0_8]
  refine (holds_at (out8 h t) y).trans (show arrOf R.y (ix2 (tok t (y 0)) (y 1)) = _ from ?_)
  congr 1
  blk_ext [(idx_out t).2.2.1, tok]

theorem value10 (h : ArgsAt m c R T) : (dats m 0 c).arrAt 10 cfg0.N = arrOf (R.dOut T) := by
  refine (dats m 0 c).arrAt_eq_of_covers 10 _ (by decide +kernel) fun t hf y => ?_
  blk_simp
  rw [after0_10]
  refine (holds_at (out10 h t) y).trans (show arrOf (R.dOut T) (ix2 (tok t (y 0)) (y 1)) = _ from ?_)
  congr 1
  blk_ext [(idx_out t).2.2.2.2.1, tok]

theorem part_sum (k : Fin 1024) : runSum (part R T k) 31 = R.sq T k := by
  refine runSum_rows (b := 512) (by norm_num) (fun r => (R.xo r k - T r k) * (R.xo r k - T r k)) fun s hs => ?_
  exact part_eq (R := R) (T := T) ⟨s, hs⟩ k

theorem value9 (h : ArgsAt m c R T) : (dats m 0 c).arrAt 9 cfg0.N = arrOf fun _ : Fin 1 => R.sq T := by
  refine (dats m 0 c).arrAt_eq_of_covers 9 _ (by decide +kernel) fun t hf y => ?_
  have ht := (idx_out t).2.2.2.2.2 hf
  blk_simp
  rw [after0_9]
  refine (holds_at (out9 h t.val t.isLt) y).trans ((congrArg _ ((congrArg (runSum (part R T (y 1))) ht).trans (part_sum (y 1)))).trans
    (show arrOf (fun _ : Fin 1 => R.sq T) (ix2 (y 0) (y 1)) = _ from ?_))
  congr 1
  blk_ext [(idx_out t).2.2.2.1]

end Cert.FfnLossIdeal.Point

end
-- ==== Proof.LossRef.lean ====
/- What the reference of `ffn_fwd` with the loss computes, over the reals. The half-step's stages are those of the plain
   call's reference (FwdRef.lean). -/
module

public import proofs.«01_k».proof.Proof.FwdRef
public import proofs.«01_k».proof.Proof.Gen.FfnLossRefIdeal.Read

@[expose] public section

set_option maxRecDepth 16384

noncomputable section

open Idealize.ShloMosaic Cert.Half
open Cert.FfnLossRefIdeal Cert.FfnLossRefIdeal.Gen Cert.FfnLossRefIdeal.Value Cert.FfnLossRefIdeal.Read

namespace Cert.FfnLossRefIdeal.RefValue

variable {x0 x1 : (⟨S16384x1024, .f32⟩ : BufTy).Contents (Elt Ideal)} {x2 x3 : (⟨S1024, .f32⟩ : BufTy).Contents (Elt Ideal)}
  {x4 : (⟨S1024x5632, .f32⟩ : BufTy).Contents (Elt Ideal)} {x5 : (⟨S2816x1024, .f32⟩ : BufTy).Contents (Elt Ideal)} {R : Reals}
  {T : Fin 16384 → Fin 1024 → ℝ}

theorem xo (h : LossHold x0 x1 x2 x3 x4 x5 R T) : Holds (val_main_v34 (F := Ideal) x0 x2 x3 x4 x5) R.xo := Cert.FfnFwdRefIdeal.RefValue.xo h.half
theorem gd (h : LossHold x0 x1 x2 x3 x4 x5 R T) : Holds (val_main_v58 (F := Ideal) x0 x2 x4) R.gd := Cert.FfnFwdRefIdeal.RefValue.gd h.half
theorem s (h : LossHold x0 x1 x2 x3 x4 x5 R T) : Holds (val_main_v59 (F := Ideal) x0 x2 x4) R.s := Cert.FfnFwdRefIdeal.RefValue.s h.half
theorem y (h : LossHold x0 x1 x2 x3 x4 x5 R T) : Holds (val_main_v61 (F := Ideal) x0 x2 x4 x5) R.y := Cert.FfnFwdRefIdeal.RefValue.y h.half

theorem sq (h : LossHold x0 x1 x2 x3 x4 x5 R T) : Holds (val_main_v65 (F := Ideal) x0 x1 x2 x3 x4 x5) fun _ => R.sq T := by
  intro p k
  pointwise [val_main_v65, val_main_v64, val_main_v63, val_main_v62, val_main_cst_10]
  simp only [xo h _ _, h.t _ _, ← EReal.coe_sub, ← EReal.coe_mul, sum_coe, word_zero, ← EReal.coe_add, zero_add]
  rfl

theorem dOut (h : LossHold x0 x1 x2 x3 x4 x5 R T) : Holds (val_main_v80 (F := Ideal) x0 x1 x2 x3 x4 x5) (R.dOut T) := by
  intro r k
  pointwise [val_main_v80, val_main_v79, val_main_v78, val_main_v77, val_main_v76, val_main_v75, val_main_v69, val_main_v68, val_main_v66,
    val_main_cst_11, val_main_cst_16, val_main_cst_17, val_main_cst_18]
  rw [xo h, h.t, word_half, word_1024, word_two]
  simp only [← EReal.coe_sub, ← EReal.coe_mul, div_coe (show (1024 : ℝ) ≠ 0 by norm_num)]
  exact congrArg _ (by unfold Reals.dOut; ring)

end Cert.FfnLossRefIdeal.RefValue

end
-- ==== Proof.FfnLossForward.lean ====
/- The claims about `ffn_fwd` with the loss: the frames, and that kernel and reference leave the same five results. -/
module

public import proofs.«01_k».proof.Defs
public import proofs.«01_k».proof.Proof.Gen.FfnLoss.Frame
public import proofs.«01_k».proof.Proof.Gen.FfnLossRefIdeal.Run
public import proofs.«01_k».proof.Proof.Gen.Pre_finite_ffn_loss
public import proofs.«01_k».proof.Proof.LossKernel
public import proofs.«01_k».proof.Proof.LossRef
public import proofs.«01_k».proof.Proof.Finite

@[expose] public section

noncomputable section

open Idealize.ShloMosaic Idealize.SL.Sem Cert.Half

namespace Cert.FfnLossForward

theorem frame : Cert.quiescent_FfnLoss := fun m g _ => Cert.FfnLoss.Gen.frame m g
theorem frame_ideal : Cert.quiescent_FfnLossIdeal := fun m g _ => Cert.FfnLossIdeal.Gen.frame m g
theorem frame_ideal_finite : Cert.quiescent_FfnLossIdeal_pre_finite_ffn_loss := fun m g _ => Cert.FfnLossIdeal.Gen.frame m g

/-- The reference runs, keeps its arguments and leaves every counter at zero. -/
theorem frame_reference : Cert.quiescent_FfnLossRefIdeal := fun m g _ =>
  (θ_run Cert.FfnLossRefIdeal.defs _ _).mono
    (fun r h => ⟨fun c => (h c).2.2.2.2.2, sem_eq_zero_of_no_sems (by decide) r.2⟩) (Cert.FfnLossRefIdeal.Value.run (F := Ideal) m g)
theorem frame_reference_finite : Cert.quiescent_FfnLossRefIdeal_pre_finite_ffn_loss := fun m g _ =>
  (θ_run Cert.FfnLossRefIdeal.defs _ _).mono
    (fun r h => ⟨fun c => (h c).2.2.2.2.2, sem_eq_zero_of_no_sems (by decide) r.2⟩) (Cert.FfnLossRefIdeal.Value.run (F := Ideal) m g)

theorem preserves : Cert.preserves_FfnLoss_FfnLossIdeal := trivial

open Cert.Pre_finite_ffn_loss in
/-- The predicate gives the numbers. -/
theorem exists_reals {a0 a1 : FVec Ideal S16384x1024 .f32} {a2 a3 : FVec Ideal S1024 .f32} {a4 : FVec Ideal S1024x5632 .f32}
    {a5 : FVec Ideal S2816x1024 .f32} (h : Cert.Pre_finite_ffn_loss.fn (F := Ideal) a0 a1 a2 a3 a4 a5 = fun _ => 1#1) :
    ∃ (R : Reals) (T : Fin 16384 → Fin 1024 → ℝ), LossHold a0 a1 a2 a3 a4 a5 R T := by
  have h := congrFun h (fun d => d.elim0)
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨⟨fun _ _ => 0, fun r k => (a0 (ix2 r k) : EReal).toReal, fun k => (a2 (ix1 k) : EReal).toReal, fun k => (a3 (ix1 k) : EReal).toReal,
    fun k j => (a4 (ix2 k j) : EReal).toReal, fun j k => (a5 (ix2 j k) : EReal).toReal⟩, fun r k => (a1 (ix2 r k) : EReal).toReal,
    ⟨fun _ _ => Finite.real_of_all h0 _, fun _ => Finite.real_of_all h2 _, fun _ => Finite.real_of_all h3 _,
      fun _ _ => Finite.real_of_all h4 _, fun _ _ => Finite.real_of_all h5 _⟩, fun _ _ => Finite.real_of_all h1 _⟩

open Cert.FfnLossIdeal.Point in
/-- On real arguments both programs leave the five arrays of reals. -/
theorem algebraic : Cert.algebraic_FfnLossIdeal_FfnLossRefIdeal_pre_finite_ffn_loss := by
  intro m g m' g' hpre hagree
  have hr : ∀ c, ∃ R T, ArgsAt m c R T := fun c => exists_reals (hpre c)
  choose R T hR using hr
  have hR' : ∀ c, LossHold _ _ _ _ _ _ (R c) (T c) := fun c => by
    have h := hR c
    unfold ArgsAt at h
    obtain ⟨e0, e1, e2, e3, e4, e5⟩ := hagree c
    exact (e0 ▸ e1 ▸ e2 ▸ e3 ▸ e4 ▸ e5 ▸ h : LossHold
      (m' ((c.tc : Thread Cert.FfnLossRefIdeal.nD Cert.FfnLossRefIdeal.τ).loc Cert.FfnLossRefIdeal.main_arg0))
      (m' ((c.tc : Thread Cert.FfnLossRefIdeal.nD Cert.FfnLossRefIdeal.τ).loc Cert.FfnLossRefIdeal.main_arg1))
      (m' ((c.tc : Thread Cert.FfnLossRefIdeal.nD Cert.FfnLossRefIdeal.τ).loc Cert.FfnLossRefIdeal.main_arg2))
      (m' ((c.tc : Thread Cert.FfnLossRefIdeal.nD Cert.FfnLossRefIdeal.τ).loc Cert.FfnLossRefIdeal.main_arg3))
      (m' ((c.tc : Thread Cert.FfnLossRefIdeal.nD Cert.FfnLossRefIdeal.τ).loc Cert.FfnLossRefIdeal.main_arg4))
      (m' ((c.tc : Thread Cert.FfnLossRefIdeal.nD Cert.FfnLossRefIdeal.τ).loc Cert.FfnLossRefIdeal.main_arg5)) (R c) (T c))
  refine ⟨fun c => arrOf (R c).gd, fun c => arrOf (R c).s, fun c => arrOf (R c).y, fun c => arrOf fun _ : Fin 1 => (R c).sq (T c),
    fun c => arrOf ((R c).dOut (T c)), ?_, ?_⟩
  · refine (θ_run Cert.FfnLossIdeal.defs _ _).mono (fun r h c => ?_) (Cert.FfnLossIdeal.Value.run_blocks (F := Ideal) m g)
    obtain ⟨h0, h1, h2, h3, h4, hargs⟩ := h c
    exact ⟨h0.trans (value6 (hR c)), h1.trans (value7 (hR c)), h2.trans (value8 (hR c)), h3.trans (value9 (hR c)), h4.trans (value10 (hR c)),
      hargs⟩
  · refine (θ_run Cert.FfnLossRefIdeal.defs _ _).mono (fun r h c => ?_) (Cert.FfnLossRefIdeal.Value.run (F := Ideal) m' g')
    obtain ⟨h0, h1, h2, h3, h4, hargs⟩ := h c
    exact ⟨h0.trans ((Cert.FfnLossRefIdeal.Read.val_main_v58_eq _ _).trans (Cert.FfnLossRefIdeal.RefValue.gd (hR' c)).eq_arrOf),
      h1.trans ((Cert.FfnLossRefIdeal.Read.val_main_v59_eq _ _ _).trans (Cert.FfnLossRefIdeal.RefValue.s (hR' c)).eq_arrOf),
      h2.trans ((Cert.FfnLossRefIdeal.Read.val_main_v61_eq _ _ _ _).trans (Cert.FfnLossRefIdeal.RefValue.y (hR' c)).eq_arrOf),
      h3.trans ((Cert.FfnLossRefIdeal.Read.val_main_v65_eq _ _).trans (Cert.FfnLossRefIdeal.RefValue.sq (hR' c)).eq_arrOf),
      h4.trans ((Cert.FfnLossRefIdeal.Read.val_main_v80_eq _ _).trans (Cert.FfnLossRefIdeal.RefValue.dOut (hR' c)).eq_arrOf), hargs⟩

end Cert.FfnLossForward

end
-- ==== Proof.MixMath.lean ====
/- The numbers of the mixer's forward calls, on extended reals: a normalised row, the GELU and the logistic function in the
   kernel's spelling and in the reference's, the gating unit's chunks. -/
module

public import proofs.«01_k».proof.Proof.FwdMath

@[expose] public section

set_option maxRecDepth 16384

noncomputable section

open Idealize.ShloMosaic

namespace Cert.Half

/-- A row, normalised by its root mean square and weighted. -/
def hE (x g : Fin 1024 → EReal) (k : Fin 1024) : EReal :=
  x k * Ideal.rsqrt (Ideal.div (∑ j, x j * x j) (Ideal.ofBits .f32 0x44800000#32) + Ideal.ofBits .f32 0x358637BD#32) * g k

/-- A row less its mean, -/
def centre (x : Fin 1024 → EReal) (k : Fin 1024) : EReal := x k - Ideal.div (∑ j, x j) (Ideal.ofBits .f32 0x44800000#32)
/-- over its deviation, weighted and shifted. -/
def lnE (x g b : Fin 1024 → EReal) (k : Fin 1024) : EReal :=
  centre x k * Ideal.rsqrt (Ideal.div (∑ j, centre x j * centre x j) (Ideal.ofBits .f32 0x44800000#32) + Ideal.ofBits .f32 0x3727C5AC#32) * g k + b k

/-- The GELU through the error function. -/
def gelu (v : EReal) : EReal :=
  v * (Ideal.ofBits .f32 0x3F000000#32 * Ideal.erf (v * Ideal.ofBits .f32 0x3F3504F3#32) + Ideal.ofBits .f32 0x3F000000#32)

/-- The error function is real everywhere. -/
theorem erf_real (x : EReal) : ∃ r : ℝ, Ideal.erf x = (r : EReal) := by
  induction x with
  | bot => exact ⟨-1, by rw [Ideal.erf_bot]; rfl⟩
  | top => exact ⟨1, by rw [Ideal.erf_top]; rfl⟩
  | coe r => exact ⟨_, rfl⟩

/-- The GELU through the complementary error function. -/
theorem gelu_eq (v : EReal) :
    Ideal.ofBits .f32 0x3F000000#32 * v * Ideal.erfc (-v * Ideal.ofBits .f32 0x3F3504F3#32) = gelu v := by
  obtain ⟨r, hr⟩ := erf_real (v * Ideal.ofBits .f32 0x3F3504F3#32)
  rw [gelu, neg_mul, Ideal.erfc_neg, hr, word_half, mul_comm _ v, mul_assoc]
  refine congrArg (v * ·) ?_
  rw [← EReal.coe_one, ← EReal.coe_add, ← EReal.coe_mul, ← EReal.coe_mul, ← EReal.coe_add]
  congr 1; ring

/-- The logistic function through the hyperbolic tangent of half its argument. -/
def sgE (v : EReal) : EReal :=
  Ideal.ofBits .f32 0x3F000000#32 * Ideal.tanh (Ideal.ofBits .f32 0x3F000000#32 * v) + Ideal.ofBits .f32 0x3F000000#32

/-- The logistic function through the exponential. -/
theorem sg_eq (v : EReal) : Ideal.div 1 (1 + Ideal.exp (-v)) = sgE v := by
  rw [show Ideal.div 1 (1 + Ideal.exp (-v)) = Ideal.logistic v from rfl, sgE, word_half]
  have hp : (0 : ℝ) < 1 / 2 := by norm_num
  induction v with
  | bot =>
    rw [EReal.coe_mul_bot_of_pos hp, Ideal.tanh_bot, Ideal.logistic_bot, ← EReal.coe_one, ← EReal.coe_neg, ← EReal.coe_mul, ← EReal.coe_add,
      ← EReal.coe_zero]
    congr 1; norm_num
  | top =>
    rw [EReal.coe_mul_top_of_pos hp, Ideal.tanh_top, Ideal.logistic_top, ← EReal.coe_one, ← EReal.coe_mul, ← EReal.coe_add]
    congr 1; norm_num
  | coe z =>
    rw [← EReal.coe_mul, Ideal.tanh_coe, ← EReal.coe_mul, ← EReal.coe_add, half_tanh, Ideal.logistic_coe]
    unfold sig; congr 1; ring

/-- One place of the gating unit: a chunk's column under the lower triangle of a group's matrix, plus the bias. -/
def mix (t : Fin 128) (w v : Fin 128 → EReal) (b : EReal) : EReal := ∑ s, (if s ≤ t then w s else 0) * v s + b

/-- The lower triangle, as the comparison of two positions. -/
theorem tril (t s : Fin 128) : IntOp.cmpi .sge (BitVec.ofNat 32 t.val) (BitVec.ofNat 32 s.val) = BitVec.ofBool (decide (s ≤ t)) := by
  revert t s; decide +kernel

/-- The results of the call on the arrays `x` … `wo`. -/
structure Mixed where
  x : Fin 16384 → Fin 1024 → EReal
  z : Fin 16384 → Fin 5376 → EReal
  ya : Fin 16384 → Fin 1024 → EReal
  pg : Fin 1024 → EReal
  lg : Fin 1024 → EReal
  lb : Fin 1024 → EReal
  w : Fin 8 → Fin 128 → Fin 128 → EReal
  b : Fin 8 → Fin 128 → EReal
  wa : Fin 1024 → Fin 1024 → EReal
  ws : Fin 1024 → Fin 1024 → EReal
  wo : Fin 1024 → Fin 1024 → EReal

namespace Mixed
variable (M : Mixed)
/-- A token's run of 1024 columns of the projection, from column `o`. -/
def run (o : ℕ) (ho : o + 1024 ≤ 5376) (r : Fin 16384) (k : Fin 1024) : EReal := M.z r ⟨o + k.val, by omega⟩
/-- The normalised row of the gating unit. -/
def vn (r : Fin 16384) : Fin 1024 → EReal := lnE (fun k => gelu (M.run 2048 (by omega) r k)) M.lg M.lb
/-- The gate: each group of 128 columns mixes the rows of the token's chunk up to it. -/
def gate (r : Fin 16384) (j : Fin 1024) : EReal :=
  mix ⟨r.val % 128, by omega⟩ (M.w ⟨j.val / 128, by omega⟩ ⟨r.val % 128, by omega⟩)
    (fun s => M.vn ⟨128 * (r.val / 128) + s.val, by omega⟩ j) (M.b ⟨j.val / 128, by omega⟩ ⟨r.val % 128, by omega⟩)
/-- The gated row, -/
def ysg (r : Fin 16384) (j : Fin 1024) : EReal := gelu (M.run 1024 (by omega) r j) * M.gate r j
/-- the two branches' products, -/
def pa (r : Fin 16384) (k : Fin 1024) : EReal := ∑ j, M.ya r j * M.wa j k
def pb (r : Fin 16384) (k : Fin 1024) : EReal := ∑ j, M.ysg r j * M.ws j k
/-- their gated sum's product, -/
def o (r : Fin 16384) (k : Fin 1024) : EReal :=
  ∑ j, (sgE (M.run 3072 (by omega) r j) * M.pa r j + sgE (M.run 4096 (by omega) r j) * M.pb r j) * M.wo j k
/-- and the mixer's output. -/
def xo (r : Fin 16384) (k : Fin 1024) : EReal := M.x r k + hE (M.o r) M.pg k
end Mixed

/-- An array of extended reals by its rows and columns. -/
abbrev arrE {a b : ℕ} (f : Fin a → Fin b → EReal) : Shape.Idx ⟨2, ![a, b]⟩ → EReal := fun i => f (i 0) (i 1)
theorem eq_arrE {a b : ℕ} {v : Shape.Idx ⟨2, ![a, b]⟩ → EReal} {f : Fin a → Fin b → EReal} (h : ∀ p k, v (ix2 p k) = f p k) : v = arrE f :=
  funext fun x => (congrArg v (show x = ix2 (x 0) (x 1) by funext d; fin_cases d <;> rfl)).trans (h _ _)

end Cert.Half

end
-- ==== Proof.MixInForward.lean ====
/- The claims about `mix_in_fwd`: the frames, and that kernel and reference leave the same projection. Both take the same
   products and sums, so the equality holds of every argument, real or not. -/
module

public import proofs.«01_k».proof.Defs
public import proofs.«01_k».proof.Proof.MixMath
public import proofs.«01_k».proof.Proof.Gen.MixInFwd.Frame
public import proofs.«01_k».proof.Proof.Gen.MixInFwdIdeal.Value
public import proofs.«01_k».proof.Proof.Gen.MixInFwdRefIdeal.Run
public import proofs.«01_k».proof.Proof.Gen.MixInFwdRefIdeal.Read
public import Idealize.ShloMosaic.Lib.StableHlo.ReadAt
public import Idealize.ShloMosaic.Lib.Pointwise

@[expose] public section

set_option maxRecDepth 16384

noncomputable section

open Idealize.ShloMosaic Idealize.SL.Sem Cert.Half Idealize.ShloMosaic.TcCoe
open Cert.MixInFwdIdeal Cert.MixInFwdIdeal.Gen

namespace Cert.MixInForward

/-- The weight's column that a column of the projection comes from: the second group's four runs come before the first's keys
    and values. -/
def src (j : Fin 5376) : Fin 5376 := ⟨if j.val < 1024 then j.val else if j.val < 5120 then j.val + 256 else j.val - 4096, by
  have := j.isLt; split_ifs <;> omega⟩

/-- The projection. -/
def proj (x : FVec Ideal S16384x1024 .f32) (g : FVec Ideal S1024 .f32) (w : FVec Ideal S1024x5376 .f32) : S16384x5376.Idx → EReal := fun i =>
  ∑ k, hE (fun k => x (ix2 (i 0) k)) (fun k => g (ix1 k)) k * w (ix2 k (src (i 1)))

/-! ## The body's values -/

section Pay
variable (x : FVec Ideal S1024x1024 .f32) (g : FVec Ideal S1x1024 .f32) (h w : FVec Ideal S1024x1024 .bf16) (v : FVec Ideal S256x1024 .bf16)

theorem pay4 (p k : Fin 1024) : k0_pay4 (F := Ideal) x g (ix2 p k) = hE (fun k => x (ix2 p k)) (fun k => g (ix2 0 k)) k := by
  pointwise [k0_pay4]
  rfl
theorem pay1 (p j : Fin 1024) : k0_pay1 (F := Ideal) h w (ix2 p j) = ∑ k, h (ix2 p k) * w (ix2 j k) := by
  pointwise [k0_pay1]
theorem pay6 (p : Fin 1024) (j : Fin 256) : k0_pay6 (F := Ideal) x g v (ix2 p j) = ∑ k, k0_pay4 (F := Ideal) x g (ix2 p k) * v (ix2 j k) := by
  pointwise [k0_pay6]
end Pay

/-! ## The blocks a grid point reads -/

variable {m : (ℓ : Loc nD τ sig) → Buf (Elt Ideal) ℓ} {c : Dev nD}

variable (m c) in
/-- The three arguments of device `c`. -/
abbrev xs : FVec Ideal S16384x1024 .f32 := m ((c : Thread nD τ).loc main_arg0)
variable (m c) in
abbrev gs : FVec Ideal S1024 .f32 := m ((c : Thread nD τ).loc main_arg1)
variable (m c) in
abbrev ws : FVec Ideal S1024x5376 .f32 := m ((c : Thread nD τ).loc main_arg2)

theorem g_eq (k : Fin 1024) : (V m c main_v0 : FVec Ideal S1x1024 .f32) (ix2 0 k) = gs m c (ix1 k) := by
  unfold V
  after_reads_at
theorem w_eq (j : Fin 5376) (k : Fin 1024) : (V m c main_v2 : FVec Ideal S5376x1024 .bf16) (ix2 j k) = ws m c (ix2 k j) := by
  unfold V
  after_reads_at

/-- The token of row `p` of point `t`. -/
def tok (t : Fin cfg0.N) (p : Fin 1024) : Fin 16384 := ⟨1024 * t.val + p.val, by have := t.isLt; have e : cfg0.N = 16 := rfl; omega⟩

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem blk0 (t : Fin cfg0.N) (p k : Fin 1024) : (iblk m c 0 t : FVec Ideal S1024x1024 .f32) (ix2 p k) = xs m c (ix2 (tok t p) k) := by
  blk_simp [iblk]
  rw [V_main_arg0]
  congr 1
  blk_ext [(idx t).1, tok]

theorem blk1 (t : Fin cfg0.N) (p : Fin 1) (k : Fin 1024) : (iblk m c 1 t : FVec Ideal S1x1024 .f32) (ix2 p k) = gs m c (ix1 k) := by
  refine Eq.trans ?_ (g_eq k)
  blk_simp [iblk]
  congr 1
  blk_ext [(idx t).2.1]

theorem blk2 (t : Fin cfg0.N) (j : Fin 5376) (k : Fin 1024) : (iblk m c 2 t : FVec Ideal S5376x1024 .bf16) (ix2 j k) = ws m c (ix2 k j) := by
  refine Eq.trans ?_ (w_eq j k)
  blk_simp [iblk]
  congr 1
  blk_ext [(idx t).2.2.1]

/-! ## What a grid point stores -/

/-- A run of columns of the projection, from the weight's rows at `o`: stored from column `o'`. -/
theorem piece {n : ℕ} (o o' : ℕ) (ho : o + n ≤ 5376) (t : Fin cfg0.N)
    {inb : ∀ d, ![o, 0] d + ![n, 1024] d ≤ S5376x1024.size d} {v : Shape.Idx ⟨2, ![1024, n]⟩ → EReal}
    (hv : ∀ p j, v (ix2 p j) = ∑ k : Fin 1024, k0_pay4 (F := Ideal) (iblk m c 0 t) (iblk m c 1 t) (ix2 p k)
      * cut (e := .bf16) (iblk m c 2 t : FVec Ideal S5376x1024 .bf16) o 0 n 1024 inb (ix2 j k))
    (hs : ∀ (j : Fin 5376) (k : Fin n), j.val = o' + k.val → (src j).val = o + k.val)
    (p : Fin 1024) (j : Fin 5376) (i : Shape.Idx ⟨2, ![1024, n]⟩) (e0 : p.val = (i 0).val) (e1 : j.val = o' + (i 1).val) :
    v i = proj (xs m c) (gs m c) (ws m c) (ix2 (tok t p) j) := by
  have hx : ∀ (a : Fin 1024) (b : Fin n), p.val = a.val → j.val = o' + b.val →
      v (ix2 a b) = proj (xs m c) (gs m c) (ws m c) (ix2 (tok t p) j) := by
    intro a b ha hb
    obtain rfl : p = a := Fin.ext ha
    refine (hv p b).trans (Finset.sum_congr rfl fun k _ => ?_)
    refine congrArg₂ (· * ·) ((pay4 _ _ p k).trans ?_) ((cut_at (e := .bf16) _ inb ho (by omega) b k).trans ((blk2 t _ _).trans ?_))
    · simp only [blk0, blk1]; rfl
    · refine congrArg (ws m c) ?_
      show ix2 _ _ = ix2 k (src j)
      rw [show src j = ⟨o + b, by omega⟩ from Fin.ext (hs j b hb)]
      simp only [Nat.zero_add, Fin.eta]
  rw [show i = ix2 (i 0) (i 1) by funext d; fin_cases d <;> rfl]
  exact hx _ _ e0 e1

theorem src_lo (j : Fin 5376) (k : Fin 1024) (h : j.val = 0 + k.val) : (src j).val = 0 + k.val := by
  show (if _ then _ else _) = _
  rw [if_pos (by omega), h]
theorem src_mid {n : ℕ} (o : ℕ) (h1 : 1024 ≤ o) (h2 : o + n ≤ 5120) (j : Fin 5376) (k : Fin n) (h : j.val = o + k.val) :
    (src j).val = o + 256 + k.val := by
  show (if _ then _ else (if _ then _ else _)) = _
  rw [if_neg (by omega), if_pos (by omega)]; omega
theorem src_hi (j : Fin 5376) (k : Fin 256) (h : j.val = 5120 + k.val) : (src j).val = 1024 + k.val := by
  show (if _ then _ else (if _ then _ else _)) = _
  rw [if_neg (by omega), if_neg (by omega)]; omega

theorem out3 (t : Fin cfg0.N) (p : Fin 1024) (j : Fin 5376) : (outsAt0 m c t) (ix2 p j) = proj (xs m c) (gs m c) (ws m c) (ix2 (tok t p) j) := by
  have q := fun w => pay1 (k0_pay4 (F := Ideal) (iblk m c 0 t) (iblk m c 1 t)) w
  unfold outsAt0; frame_out
  canon_tiles x hx using (View.cover_of_tiledBy _ ![1024, 256] (by sl_kernel_rfl) _)
  exacts [piece 4352 4096 (by omega) t (q _) (src_mid 4096 (by omega) (by omega)) p j x hx0 hx1,
    piece 3328 3072 (by omega) t (q _) (src_mid 3072 (by omega) (by omega)) p j x hx0 hx1,
    piece 2304 2048 (by omega) t (q _) (src_mid 2048 (by omega) (by omega)) p j x hx0 hx1,
    piece 1280 1024 (by omega) t (q _) (src_mid 1024 (by omega) (by omega)) p j x hx0 hx1,
    piece 1024 5120 (by omega) t (pay6 _ _ _) src_hi p j x hx0 hx1,
    piece 0 0 (by omega) t (q _) src_lo p j x hx0 (hx1.trans (Nat.zero_add _).symm)]

/-- The projection the kernel leaves. -/
theorem value : (dats m 0 c).arrAt 3 cfg0.N = proj (xs m c) (gs m c) (ws m c) := by
  refine (dats m 0 c).arrAt_eq_of_covers 3 _ (by decide +kernel) fun t hf y => ?_
  blk_simp
  rw [after0_3]
  refine (congrArg _ (show y = ix2 (y 0) (y 1) by funext d; fin_cases d <;> rfl)).trans ((out3 t (y 0) (y 1)).trans ?_)
  congr 1
  blk_ext [(idx t).2.2.2, tok]

/-! ## The reference's projection -/

section Ref
open Cert.MixInFwdRefIdeal.Read
variable (x : FVec Ideal S16384x1024 .f32) (g : FVec Ideal S1024 .f32) (w : FVec Ideal S1024x5376 .f32)

theorem ref_h (r : Fin 16384) (k : Fin 1024) : val_main_v12 (F := Ideal) x g (ix2 r k) = hE (fun k => x (ix2 r k)) (fun k => g (ix1 k)) k := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

theorem ref_z (r : Fin 16384) (j : Fin 5376) :
    val_main_v13 (F := Ideal) x g w (ix2 r j) = ∑ k, hE (fun k => x (ix2 r k)) (fun k => g (ix1 k)) k * w (ix2 k j) := by
  pointwise [val_main_v13]
  simp only [ref_h]

theorem ref_value : val_main_v18 (F := Ideal) x g w = proj x g w := by
  have go : ∀ (r : Fin 16384) (j : Fin 5376), val_main_v18 (F := Ideal) x g w (ix2 r j) = val_main_v13 (F := Ideal) x g w (ix2 r (src j)) := by
    intro r j
    have hj := j.isLt
    pointwise [val_main_v18, val_main_v17]
    by_cases h1 : j.val < 1024
    · rw [dif_pos h1, show src j = ⟨0 + j.val, by omega⟩ from Fin.ext (src_lo j ⟨j, h1⟩ (by show j.val = 0 + j.val; omega))]
      pointwise [val_main_v14]
    · by_cases h2 : j.val - 1024 < 4096
      · rw [dif_neg h1, dif_pos h2, show src j = ⟨1024 + 256 + (j.val - 1024), by omega⟩ from
          Fin.ext (src_mid (n := 4096) 1024 (by omega) (by omega) j ⟨j.val - 1024, h2⟩ (by show j.val = 1024 + (j.val - 1024); omega))]
        pointwise [val_main_v16]
      · rw [dif_neg h1, dif_neg h2, show src j = ⟨1024 + (j.val - 1024 - 4096), by omega⟩ from
          Fin.ext (src_hi j ⟨j.val - 1024 - 4096, by omega⟩ (by show j.val = 5120 + (j.val - 1024 - 4096); omega))]
        pointwise [val_main_v15]
  funext i
  rw [show i = ix2 (i 0) (i 1) by funext d; fin_cases d <;> rfl]
  exact (go _ _).trans (ref_z x g w _ _)
end Ref

/-! ## The claims -/

theorem frame : Cert.quiescent_MixInFwd := fun m g _ => Cert.MixInFwd.Gen.frame m g
theorem frame_ideal : Cert.quiescent_MixInFwdIdeal := fun m g _ => Cert.MixInFwdIdeal.Gen.frame m g

/-- The reference runs, keeps its arguments and leaves every counter at zero. -/
theorem frame_reference : Cert.quiescent_MixInFwdRefIdeal := fun m g _ =>
  (θ_run Cert.MixInFwdRefIdeal.defs _ _).mono
    (fun r h => ⟨fun c => (h c).2, sem_eq_zero_of_no_sems (by decide) r.2⟩) (Cert.MixInFwdRefIdeal.Value.run (F := Ideal) m g)

theorem preserves : Cert.preserves_MixInFwd_MixInFwdIdeal := trivial

/-- Both programs leave the same projection. -/
theorem algebraic : Cert.algebraic_MixInFwdIdeal_MixInFwdRefIdeal := by
  intro m g m' g' _ hagree
  refine ⟨fun c => proj (xs m c) (gs m c) (ws m c), ?_, ?_⟩
  · refine (θ_run Cert.MixInFwdIdeal.defs _ _).mono (fun r h c => ?_) (Cert.MixInFwdIdeal.Value.run_blocks (F := Ideal) m g)
    exact ⟨(h c).1.trans value, (h c).2⟩
  · refine (θ_run Cert.MixInFwdRefIdeal.defs _ _).mono (fun r h c => ?_) (Cert.MixInFwdRefIdeal.Value.run (F := Ideal) m' g')
    refine ⟨(h c).1.trans ((Cert.MixInFwdRefIdeal.Read.val_main_v18_eq _ _ _).trans ((ref_value _ _ _).trans ?_)), (h c).2⟩
    rw [(hagree c).1, (hagree c).2.1, (hagree c).2.2]

end Cert.MixInForward

end
-- ==== Proof.MixOutPay.lean ====
/- The values of `mix_out_fwd`'s body, place by place. -/
module

public import proofs.«01_k».proof.Proof.MixMath
public import proofs.«01_k».proof.Proof.Gen.MixOutFwdIdeal.Skeleton
public import Idealize.ShloMosaic.Lib.Pointwise

@[expose] public section

set_option maxRecDepth 16384

noncomputable section

open Idealize.ShloMosaic Cert.Half
open Cert.MixOutFwdIdeal Cert.MixOutFwdIdeal.Gen

namespace Cert.MixOutForward

section Rows
variable (v : FVec Ideal S512x1024 .bf16) (g b : FVec Ideal S1x1024 .f32) (p : Fin 512) (k : Fin 1024)

/-- The gating unit's normalised rows. -/
theorem pay4 : k0_pay4 (F := Ideal) v g b (ix2 p k)
    = lnE (fun k => gelu (v (ix2 p k))) (fun k => g (ix2 0 k)) (fun k => b (ix2 0 k)) k := by
  pointwise [k0_pay4]
  rfl
end Rows

/-! ## The groups -/

/-- Four pieces of 128 lanes side by side: the piece is the lane over 128. -/
theorem four_at {α : Type} (a0 a1 a2 a3 : S128x128.Idx → α)
    (h : Shape.Concatenates [S128x128, S128x128, S128x128, S128x128] S128x512 1) (s : Fin 128) (q : Fin 512) :
    concatenate S128x512 1 [⟨S128x128, a0⟩, ⟨S128x128, a1⟩, ⟨S128x128, a2⟩, ⟨S128x128, a3⟩] h (ix2 s q)
      = ![a0, a1, a2, a3] ⟨q.val / 128, by omega⟩ (ix2 s ⟨q.val % 128, by omega⟩) :=
  concatenate_ofFn_apply (t := S128x512) (s₁ := S128x128) 1 ![a0, a1, a2, a3] h rfl 128 rfl (ix2 s q) ⟨q.val / 128, by omega⟩ rfl
    (ix2 s ⟨q.val % 128, by omega⟩) rfl (fun d hd => by fin_cases d; · rfl
                                                        · exact absurd rfl hd)

/-- A group's products, as the body writes them: the four chunks' lanes side by side under the group's matrix, plus its bias. -/
def group (a0 a1 a2 a3 : FVec Ideal S128x128 .bf16) (w b : FVec Ideal S1x128x128 .f32) : FVec Ideal S128x512 .f32 :=
  addf (matmul dot_S128x128_S128x512_S128x512_1_0_0_1_n_n none
      (truncf .bf16 (select (cmpi .sge (iota .tc S128x128 32 [0] iota_S128x128_d0_w32) (iota .tc S128x128 32 [1] iota_S128x128_d1_w32))
        (shapeCast S128x128 w shapeCasts_S1x128x128_S128x128) (broadcast S128x128 (Scalar.ofBits .f32 0x00000000#32))) bitsLt_bf16_f32)
      (concatenate S128x512 1 [⟨S128x128, a0⟩, ⟨S128x128, a1⟩, ⟨S128x128, a2⟩, ⟨S128x128, a3⟩]
        concatenates_S128x128_S128x128_S128x128_S128x128_S128x512_d1) (constant S128x512 .f32 0x00000000#32))
    (concatenate S128x512 1 [⟨S128x128, shapeCast S128x128 b shapeCasts_S1x128x128_S128x128⟩,
        ⟨S128x128, shapeCast S128x128 b shapeCasts_S1x128x128_S128x128⟩, ⟨S128x128, shapeCast S128x128 b shapeCasts_S1x128x128_S128x128⟩,
        ⟨S128x128, shapeCast S128x128 b shapeCasts_S1x128x128_S128x128⟩]
      concatenates_S128x128_S128x128_S128x128_S128x128_S128x512_d1)

/-- What a group's products hold, its lanes from column `o`. -/
def GroupIs (v : FVec Ideal S512x1024 .bf16) (o : ℕ) (ho : o + 128 ≤ 1024) (w b : FVec Ideal S1x128x128 .f32) (G : FVec Ideal S128x512 .f32) : Prop :=
  ∀ (t : Fin 128) (q : Fin 512), G (ix2 t q) = mix t (fun s => w (ix3 0 t s))
    (fun s => v (ix2 ⟨128 * (q.val / 128) + s.val, by omega⟩ ⟨o + q.val % 128, by omega⟩)) (b (ix3 0 t ⟨q.val % 128, by omega⟩))

theorem group_is (v : FVec Ideal S512x1024 .bf16) (o : ℕ) (ho : o + 128 ≤ 1024) (h0 : Shape.Slices S512x1024 ![0, o] S128x128)
    (h1 : Shape.Slices S512x1024 ![128, o] S128x128) (h2 : Shape.Slices S512x1024 ![256, o] S128x128)
    (h3 : Shape.Slices S512x1024 ![384, o] S128x128) (w b : FVec Ideal S1x128x128 .f32) :
    GroupIs v o ho w b (group (extractStridedSlice S128x128 ![0, o] v h0) (extractStridedSlice S128x128 ![128, o] v h1)
      (extractStridedSlice S128x128 ![256, o] v h2) (extractStridedSlice S128x128 ![384, o] v h3) w b) := by
  intro t q
  have hn : ∀ (n : Fin 4) (s l : Fin 128), ![extractStridedSlice S128x128 ![0, o] v h0, extractStridedSlice S128x128 ![128, o] v h1,
      extractStridedSlice S128x128 ![256, o] v h2, extractStridedSlice S128x128 ![384, o] v h3] n (ix2 s l)
        = v (ix2 ⟨128 * n.val + s.val, by omega⟩ ⟨o + l.val, by omega⟩) := by
    intro n s l
    fin_cases n <;> pointwise
  have hb : ∀ (n : Fin 4) (a : FVec Ideal S128x128 .f32), ![a, a, a, a] n = a := by intro n a; fin_cases n <;> rfl
  unfold group
  pointwise [four_at, hn, hb, tril]
  rfl

/-! ## The gate -/

section Stack
variable (g0 g1 g2 g3 g4 g5 g6 g7 : FVec Ideal S128x512 .f32)

/-- Eight groups' lanes of one chunk side by side. -/
def lanes (o : ℕ) (h : Shape.Slices S128x512 ![0, o] S128x128) : FVec Ideal S128x1024 .f32 :=
  concatenate S128x1024 1 [⟨S128x128, extractStridedSlice S128x128 ![0, o] g0 h⟩, ⟨S128x128, extractStridedSlice S128x128 ![0, o] g1 h⟩, ⟨S128x128, extractStridedSlice S128x128 ![0, o] g2 h⟩, ⟨S128x128, extractStridedSlice S128x128 ![0, o] g3 h⟩, ⟨S128x128, extractStridedSlice S128x128 ![0, o] g4 h⟩, ⟨S128x128, extractStridedSlice S128x128 ![0, o] g5 h⟩, ⟨S128x128, extractStridedSlice S128x128 ![0, o] g6 h⟩, ⟨S128x128, extractStridedSlice S128x128 ![0, o] g7 h⟩]
    concatenates_S128x128_S128x128_S128x128_S128x128_S128x128_S128x128_S128x128_S128x128_S128x1024_d1

theorem lanes_at (o : ℕ) (ho : o + 128 ≤ 512) (h : Shape.Slices S128x512 ![0, o] S128x128) (t : Fin 128) (j : Fin 1024) :
    lanes g0 g1 g2 g3 g4 g5 g6 g7 o h (ix2 t j) = ![g0, g1, g2, g3, g4, g5, g6, g7] ⟨j.val / 128, by omega⟩ (ix2 t ⟨o + j.val % 128, by omega⟩) := by
  refine (concatenate_ofFn_apply (t := S128x1024) (s₁ := S128x128) 1 (fun n => extractStridedSlice S128x128 ![0, o] (![g0, g1, g2, g3, g4, g5, g6, g7] n) h)
    concatenates_S128x128_S128x128_S128x128_S128x128_S128x128_S128x128_S128x128_S128x128_S128x1024_d1 rfl 128 rfl (ix2 t j)
    ⟨j.val / 128, by omega⟩ rfl (ix2 t ⟨j.val % 128, by omega⟩) rfl (fun d hd => by fin_cases d; · rfl
                                                                                    · exact absurd rfl hd)).trans ?_
  generalize ![g0, g1, g2, g3, g4, g5, g6, g7] ⟨j.val / 128, _⟩ = G
  pointwise

/-- The four chunks' rows one below the other. -/
def stack : FVec Ideal S512x1024 .f32 :=
  concatenate S512x1024 0 [⟨S128x1024, lanes g0 g1 g2 g3 g4 g5 g6 g7 0 slices_S128x512_o0_0_S128x128⟩, ⟨S128x1024, lanes g0 g1 g2 g3 g4 g5 g6 g7 128 slices_S128x512_o0_128_S128x128⟩,
      ⟨S128x1024, lanes g0 g1 g2 g3 g4 g5 g6 g7 256 slices_S128x512_o0_256_S128x128⟩, ⟨S128x1024, lanes g0 g1 g2 g3 g4 g5 g6 g7 384 slices_S128x512_o0_384_S128x128⟩]
    concatenates_S128x1024_S128x1024_S128x1024_S128x1024_S512x1024_d0

theorem stack_at (p : Fin 512) (j : Fin 1024) :
    stack g0 g1 g2 g3 g4 g5 g6 g7 (ix2 p j)
      = ![g0, g1, g2, g3, g4, g5, g6, g7] ⟨j.val / 128, by omega⟩ (ix2 ⟨p.val % 128, by omega⟩ ⟨128 * (p.val / 128) + j.val % 128, by omega⟩) := by
  have hn : ∀ (n : Fin 4) (t : Fin 128), ![lanes g0 g1 g2 g3 g4 g5 g6 g7 0 slices_S128x512_o0_0_S128x128, lanes g0 g1 g2 g3 g4 g5 g6 g7 128 slices_S128x512_o0_128_S128x128,
      lanes g0 g1 g2 g3 g4 g5 g6 g7 256 slices_S128x512_o0_256_S128x128, lanes g0 g1 g2 g3 g4 g5 g6 g7 384 slices_S128x512_o0_384_S128x128] n (ix2 t j)
        = ![g0, g1, g2, g3, g4, g5, g6, g7] ⟨j.val / 128, by omega⟩ (ix2 t ⟨128 * n.val + j.val % 128, by omega⟩) := by
    intro n t
    have at' := fun o ho h => lanes_at g0 g1 g2 g3 g4 g5 g6 g7 o ho h t j
    fin_cases n
    exacts [at' 0 (by omega) _, at' 128 (by omega) _, at' 256 (by omega) _, at' 384 (by omega) _]
  exact (concatenate_ofFn_apply (t := S512x1024) (s₁ := S128x1024) 0 ![lanes g0 g1 g2 g3 g4 g5 g6 g7 0 slices_S128x512_o0_0_S128x128,
    lanes g0 g1 g2 g3 g4 g5 g6 g7 128 slices_S128x512_o0_128_S128x128, lanes g0 g1 g2 g3 g4 g5 g6 g7 256 slices_S128x512_o0_256_S128x128, lanes g0 g1 g2 g3 g4 g5 g6 g7 384 slices_S128x512_o0_384_S128x128]
    concatenates_S128x1024_S128x1024_S128x1024_S128x1024_S512x1024_d0 rfl 128 rfl (ix2 p j) ⟨p.val / 128, by omega⟩ rfl
    (ix2 ⟨p.val % 128, by omega⟩ j) rfl (fun d hd => by fin_cases d; · exact absurd rfl hd
                                                        · rfl)).trans (hn _ _)
end Stack

section Gate
variable (v : FVec Ideal S512x1024 .bf16) (w b : Fin 8 → FVec Ideal S1x128x128 .f32)

/-- The gate the body computes from the groups' matrices `w` and biases `b`. -/
def gateK : FVec Ideal S512x1024 .f32 :=
  k0_pay19 (F := Ideal) v (k0_pay8 v k0_pay5 (k0_pay6 (w 0)) k0_pay7 (b 0)) (k0_pay9 v (w 1) (b 1))
    (k0_pay12 (k0_pay10 (w 2)) (k0_pay11 v) (constant S128x512 .f32 0x00000000#32) (b 2)) (k0_pay13 v (w 3) (b 3)) (k0_pay14 v (w 4) (b 4))
    (k0_pay15 v (w 5) (b 5)) (k0_pay16 v (w 6) (b 6)) k0_pay17 (k0_pay18 (w 7)) (b 7)

/-- Group `g` of the body, its lanes cut from column `o`. -/
abbrev groupAt (o : ℕ) (g : Fin 8) (h0 : Shape.Slices S512x1024 ![0, o] S128x128) (h1 : Shape.Slices S512x1024 ![128, o] S128x128)
    (h2 : Shape.Slices S512x1024 ![256, o] S128x128) (h3 : Shape.Slices S512x1024 ![384, o] S128x128) : FVec Ideal S128x512 .f32 :=
  group (extractStridedSlice S128x128 ![0, o] v h0) (extractStridedSlice S128x128 ![128, o] v h1)
    (extractStridedSlice S128x128 ![256, o] v h2) (extractStridedSlice S128x128 ![384, o] v h3) (w g) (b g)

theorem gateK_eq : gateK v w b = stack
    (groupAt v w b 0 0 slices_S512x1024_o0_0_S128x128 slices_S512x1024_o128_0_S128x128 slices_S512x1024_o256_0_S128x128 slices_S512x1024_o384_0_S128x128)
    (groupAt v w b 128 1 slices_S512x1024_o0_128_S128x128 slices_S512x1024_o128_128_S128x128 slices_S512x1024_o256_128_S128x128 slices_S512x1024_o384_128_S128x128)
    (groupAt v w b 256 2 slices_S512x1024_o0_256_S128x128 slices_S512x1024_o128_256_S128x128 slices_S512x1024_o256_256_S128x128 slices_S512x1024_o384_256_S128x128)
    (groupAt v w b 384 3 slices_S512x1024_o0_384_S128x128 slices_S512x1024_o128_384_S128x128 slices_S512x1024_o256_384_S128x128 slices_S512x1024_o384_384_S128x128)
    (groupAt v w b 512 4 slices_S512x1024_o0_512_S128x128 slices_S512x1024_o128_512_S128x128 slices_S512x1024_o256_512_S128x128 slices_S512x1024_o384_512_S128x128)
    (groupAt v w b 640 5 slices_S512x1024_o0_640_S128x128 slices_S512x1024_o128_640_S128x128 slices_S512x1024_o256_640_S128x128 slices_S512x1024_o384_640_S128x128)
    (groupAt v w b 768 6 slices_S512x1024_o0_768_S128x128 slices_S512x1024_o128_768_S128x128 slices_S512x1024_o256_768_S128x128 slices_S512x1024_o384_768_S128x128)
    (groupAt v w b 896 7 slices_S512x1024_o0_896_S128x128 slices_S512x1024_o128_896_S128x128 slices_S512x1024_o256_896_S128x128 slices_S512x1024_o384_896_S128x128) := by
  unfold gateK stack lanes k0_pay19
  rfl

theorem gate_at (p : Fin 512) (j : Fin 1024) : gateK v w b (ix2 p j)
    = mix ⟨p.val % 128, by omega⟩ (fun s => w ⟨j.val / 128, by omega⟩ (ix3 0 ⟨p.val % 128, by omega⟩ s))
      (fun s => v (ix2 ⟨128 * (p.val / 128) + s.val, by omega⟩ j)) (b ⟨j.val / 128, by omega⟩ (ix3 0 ⟨p.val % 128, by omega⟩ ⟨j.val % 128, by omega⟩)) := by
  have is : ∀ (o : ℕ) (ho : o + 128 ≤ 1024) (g : Fin 8) (h0 : Shape.Slices S512x1024 ![0, o] S128x128)
      (h1 : Shape.Slices S512x1024 ![128, o] S128x128) (h2 : Shape.Slices S512x1024 ![256, o] S128x128)
      (h3 : Shape.Slices S512x1024 ![384, o] S128x128), GroupIs v o ho (w g) (b g) (groupAt v w b o g h0 h1 h2 h3) :=
    fun o ho g h0 h1 h2 h3 => group_is v o ho h0 h1 h2 h3 (w g) (b g)
  rw [gateK_eq, stack_at]
  generalize hg : (⟨j.val / 128, by omega⟩ : Fin 8) = g
  have hG : GroupIs v (128 * g.val) (by omega) (w g) (b g) (![
      groupAt v w b 0 0 slices_S512x1024_o0_0_S128x128 slices_S512x1024_o128_0_S128x128 slices_S512x1024_o256_0_S128x128 slices_S512x1024_o384_0_S128x128,
      groupAt v w b 128 1 slices_S512x1024_o0_128_S128x128 slices_S512x1024_o128_128_S128x128 slices_S512x1024_o256_128_S128x128 slices_S512x1024_o384_128_S128x128,
      groupAt v w b 256 2 slices_S512x1024_o0_256_S128x128 slices_S512x1024_o128_256_S128x128 slices_S512x1024_o256_256_S128x128 slices_S512x1024_o384_256_S128x128,
      groupAt v w b 384 3 slices_S512x1024_o0_384_S128x128 slices_S512x1024_o128_384_S128x128 slices_S512x1024_o256_384_S128x128 slices_S512x1024_o384_384_S128x128,
      groupAt v w b 512 4 slices_S512x1024_o0_512_S128x128 slices_S512x1024_o128_512_S128x128 slices_S512x1024_o256_512_S128x128 slices_S512x1024_o384_512_S128x128,
      groupAt v w b 640 5 slices_S512x1024_o0_640_S128x128 slices_S512x1024_o128_640_S128x128 slices_S512x1024_o256_640_S128x128 slices_S512x1024_o384_640_S128x128,
      groupAt v w b 768 6 slices_S512x1024_o0_768_S128x128 slices_S512x1024_o128_768_S128x128 slices_S512x1024_o256_768_S128x128 slices_S512x1024_o384_768_S128x128,
      groupAt v w b 896 7 slices_S512x1024_o0_896_S128x128 slices_S512x1024_o128_896_S128x128 slices_S512x1024_o256_896_S128x128 slices_S512x1024_o384_896_S128x128] g) := by
    fin_cases g
    exacts [is 0 (by omega) 0 _ _ _ _, is 128 (by omega) 1 _ _ _ _, is 256 (by omega) 2 _ _ _ _, is 384 (by omega) 3 _ _ _ _, is 512 (by omega) 4 _ _ _ _, is 640 (by omega) 5 _ _ _ _, is 768 (by omega) 6 _ _ _ _, is 896 (by omega) 7 _ _ _ _]
  rw [hG]
  obtain rfl := hg
  have e1 : (128 * (p.val / 128) + j.val % 128) / 128 = p.val / 128 := by omega
  have e2 : (128 * (p.val / 128) + j.val % 128) % 128 = j.val % 128 := by omega
  have e3 : 128 * (j.val / 128) + j.val % 128 = j.val := by omega
  simp only [e1, e2, e3, Fin.eta]
end Gate

/-! ## The branches -/

section Out
variable (u a : FVec Ideal S512x1024 .bf16) (G P : FVec Ideal S512x1024 .f32) (wa : FVec Ideal S1024x1024 .bf16) (p : Fin 512) (k : Fin 1024)

theorem pay21 : k0_pay21 (F := Ideal) G (k0_pay20 u) (Scalar.ofBits .f32 0x3F3504F3#32) (ix2 p k) = gelu (u (ix2 p k)) * G (ix2 p k) := by
  pointwise [k0_pay21, k0_pay20]
  rfl
theorem pay22 : k0_pay22 (F := Ideal) a wa (ix2 p k) = ∑ j, a (ix2 p j) * wa (ix2 j k) := by
  pointwise [k0_pay22]
theorem pay23 (cst : Ideal .f32) (U : FVec Ideal S512x1024 .f32) :
    k0_pay23 (F := Ideal) G U cst wa (ix2 p k) = ∑ j, k0_pay21 (F := Ideal) G U cst (ix2 p j) * wa (ix2 j k) := by
  pointwise [k0_pay23]
theorem pay26 : k0_pay26 (F := Ideal) a wa u (ix2 p k) = sgE (u (ix2 p k)) * k0_pay22 (F := Ideal) a wa (ix2 p k) := by
  pointwise [k0_pay26]
  rfl
theorem pay1 (A : FVec Ideal S512x1024 .f32) : k0_pay1 (F := Ideal) P A (k0_pay27 u) wa (ix2 p k)
    = ∑ j, (A (ix2 p j) + sgE (u (ix2 p j)) * P (ix2 p j)) * wa (ix2 j k) := by
  pointwise [k0_pay1, k0_pay27]
  rfl
theorem pay3 (A B x : FVec Ideal S512x1024 .f32) (g : FVec Ideal S1x1024 .f32) : k0_pay3 (F := Ideal) P A B wa g x (ix2 p k)
    = x (ix2 p k) + hE (fun k => k0_pay1 (F := Ideal) P A B wa (ix2 p k)) (fun k => g (ix2 0 k)) k := by
  pointwise [k0_pay3]
  rfl
end Out

end Cert.MixOutForward

end
-- ==== Proof.MixOutRef.lean ====
/- The reference's results for the mixer's output, place by place. -/
module

public import proofs.«01_k».proof.Proof.MixMath
public import proofs.«01_k».proof.Proof.Gen.MixOutFwdRefIdeal.Read
public import Idealize.ShloMosaic.Lib.Pointwise

@[expose] public section

set_option maxRecDepth 16384

noncomputable section

open Idealize.ShloMosaic Cert.Half
open Cert.MixOutFwdRefIdeal Cert.MixOutFwdRefIdeal.Read

namespace Cert.MixOutForward

/-- The numbers in the call's eleven arrays. -/
def numbers (x0 : FVec Ideal S16384x1024 .f32) (x1 : FVec Ideal S16384x5376 .bf16) (x2 : FVec Ideal S16384x1024 .bf16)
    (x3 x4 x5 : FVec Ideal S1024 .f32) (x6 : FVec Ideal S8x128x128 .f32) (x7 : FVec Ideal S8x128 .f32)
    (x8 x9 x10 : FVec Ideal S1024x1024 .f32) : Mixed where
  x r k := x0 (ix2 r k)
  z r k := x1 (ix2 r k)
  ya r k := x2 (ix2 r k)
  pg k := x3 (ix1 k)
  lg k := x4 (ix1 k)
  lb k := x5 (ix1 k)
  w g t s := x6 (ix3 g t s)
  b g t := x7 (ix2 g t)
  wa j k := x8 (ix2 j k)
  ws j k := x9 (ix2 j k)
  wo j k := x10 (ix2 j k)

section Ref
variable (x0 : FVec Ideal S16384x1024 .f32) (x1 : FVec Ideal S16384x5376 .bf16) (x2 : FVec Ideal S16384x1024 .bf16)
    (x3 x4 x5 : FVec Ideal S1024 .f32) (x6 : FVec Ideal S8x128x128 .f32) (x7 : FVec Ideal S8x128 .f32)
    (x8 x9 x10 : FVec Ideal S1024x1024 .f32)

theorem ref_u (r : Fin 16384) (k : Fin 1024) : val_main_v11 (F := Ideal) x1 (ix2 r k) = gelu (x1 (ix2 r ⟨1024 + k.val, by omega⟩)) := by
  pointwise [val_main_v11, val_main_v10, val_main_v9, val_main_v8, val_main_v7, val_main_v6, val_main_v5, val_main_v1, val_main_v0,
    val_main_cst, val_main_cst_0]
  exact gelu_eq _

theorem ref_v (r : Fin 16384) (k : Fin 1024) : val_main_v18 (F := Ideal) x1 (ix2 r k) = gelu (x1 (ix2 r ⟨2048 + k.val, by omega⟩)) := by
  pointwise [val_main_v18, val_main_v17, val_main_v16, val_main_v15, val_main_v14, val_main_v13, val_main_v12, val_main_v2, val_main_v0,
    val_main_cst_1, val_main_cst_2]
  exact gelu_eq _

theorem ref_c (r : Fin 16384) (k : Fin 1024) :
    val_main_v24 (F := Ideal) x1 (ix2 r k) = centre (fun k => gelu (x1 (ix2 r ⟨2048 + k.val, by omega⟩))) k := by
  pointwise [val_main_v24, val_main_v23, val_main_v22, val_main_v21, val_main_v20, val_main_v19, val_main_cst_3, val_main_cst_4, ref_v]
  rfl

theorem ref_vn (r : Fin 16384) (k : Fin 1024) : val_main_v40 (F := Ideal) x1 x4 x5 (ix2 r k)
    = lnE (fun k => gelu (x1 (ix2 r ⟨2048 + k.val, by omega⟩))) (fun k => x4 (ix1 k)) (fun k => x5 (ix1 k)) k := by
  pointwise [val_main_v40, val_main_v39, val_main_v38, val_main_v37, val_main_v36, val_main_v35, val_main_v34, val_main_v33, val_main_v32,
    val_main_v31, val_main_v30, val_main_v29, val_main_v28, val_main_v27, val_main_v26, val_main_v25, val_main_cst_5, val_main_cst_6,
    val_main_cst_7, ref_c]
  rfl

theorem ref_mask (g : Fin 8) (t s : Fin 128) : val_main_v46 (F := Ideal) x6 (ix3 g t s) = if s ≤ t then x6 (ix3 g t s) else 0 := by
  pointwise [val_main_v46, val_main_v45, val_main_v44, val_main_v43, val_main_v42, val_main_call1_v0, val_main_call0_v0, val_main_call0_v1,
    val_main_call0_v2, val_main_call0_v3, val_main_call0_v4, val_main_call0_v5, val_main_call0_c, val_main_call0_c_0, val_main_c, val_main_cst_8]
  rw [show IntOp.addi (BitVec.ofNat 32 t.val) 0#32 = BitVec.ofNat 32 t.val from BitVec.add_zero _, tril]
  by_cases h : s ≤ t <;> simp [h, Scalar.select]

theorem ref_gate (r : Fin 16384) (j : Fin 1024) : val_main_v53 (F := Ideal) x1 x4 x5 x6 x7 (ix2 r j) = (numbers x0 x1 x2 x3 x4 x5 x6 x7 x8 x9 x10).gate r j := by
  pointwise [val_main_v53, val_main_v52, val_main_v51, val_main_v50, val_main_v49, val_main_v48, val_main_v47, val_main_v41, ref_mask, ref_vn]
  refine (congrArg (· + _) (Finset.sum_congr rfl fun s _ => mul_comm _ _)).trans ?_
  simp only [Nat.mul_comm _ 128]
  rfl

theorem ref_ysg (r : Fin 16384) (j : Fin 1024) : val_main_v54 (F := Ideal) x1 x4 x5 x6 x7 (ix2 r j) = (numbers x0 x1 x2 x3 x4 x5 x6 x7 x8 x9 x10).ysg r j := by
  pointwise [val_main_v54, ref_u, ref_gate x0 x1 x2 x3 x4 x5 x6 x7 x8 x9 x10]
  rfl

theorem ref_pa (r : Fin 16384) (k : Fin 1024) : val_main_v56 (F := Ideal) x2 x8 (ix2 r k) = (numbers x0 x1 x2 x3 x4 x5 x6 x7 x8 x9 x10).pa r k := by
  pointwise [val_main_v56, val_main_v55]
  rfl

theorem ref_pb (r : Fin 16384) (k : Fin 1024) : val_main_v57 (F := Ideal) x1 x4 x5 x6 x7 x9 (ix2 r k) = (numbers x0 x1 x2 x3 x4 x5 x6 x7 x8 x9 x10).pb r k := by
  pointwise [val_main_v57, ref_ysg x0 x1 x2 x3 x4 x5 x6 x7 x8 x9 x10]
  rfl

theorem ref_sa (r : Fin 16384) (k : Fin 1024) : val_main_v63 (F := Ideal) x1 (ix2 r k) = sgE (x1 (ix2 r ⟨3072 + k.val, by omega⟩)) := by
  pointwise [val_main_v63, val_main_v62, val_main_v61, val_main_v60, val_main_v59, val_main_v58, val_main_v3, val_main_v0, val_main_cst_9, val_main_cst_10]
  exact sg_eq _

theorem ref_sb (r : Fin 16384) (k : Fin 1024) : val_main_v70 (F := Ideal) x1 (ix2 r k) = sgE (x1 (ix2 r ⟨4096 + k.val, by omega⟩)) := by
  pointwise [val_main_v70, val_main_v69, val_main_v68, val_main_v67, val_main_v66, val_main_v65, val_main_v4, val_main_v0, val_main_cst_11, val_main_cst_12]
  exact sg_eq _

theorem ref_o (r : Fin 16384) (k : Fin 1024) : val_main_v73 (F := Ideal) x1 x2 x4 x5 x6 x7 x8 x9 x10 (ix2 r k) = (numbers x0 x1 x2 x3 x4 x5 x6 x7 x8 x9 x10).o r k := by
  pointwise [val_main_v73, val_main_v72, val_main_v71, val_main_v64, ref_sa, ref_sb, ref_pa x0 x1 x2 x3 x4 x5 x6 x7 x8 x9 x10,
    ref_pb x0 x1 x2 x3 x4 x5 x6 x7 x8 x9 x10]
  rfl

theorem ref_xo (r : Fin 16384) (k : Fin 1024) : val_main_v87 (F := Ideal) x0 x1 x2 x3 x4 x5 x6 x7 x8 x9 x10 (ix2 r k) = (numbers x0 x1 x2 x3 x4 x5 x6 x7 x8 x9 x10).xo r k := by
  pointwise [val_main_v87, val_main_v86, val_main_v85, val_main_v84, val_main_v83, val_main_v82, val_main_v81, val_main_v80, val_main_v79,
    val_main_v78, val_main_v77, val_main_v76, val_main_v75, val_main_v74, val_main_cst_13, val_main_cst_14, val_main_cst_15,
    ref_o x0 x1 x2 x3 x4 x5 x6 x7 x8 x9 x10]
  rfl
end Ref

end Cert.MixOutForward

end
-- ==== Proof.MixOutForward.lean ====
/- The claims about `mix_fwd_out`: the frames, and that kernel and reference leave the same five results. Both take the same
   sums, and where they spell a function differently the spellings agree on every extended real, so the equality holds of
   every argument. -/
module

public import proofs.«01_k».proof.Defs
public import proofs.«01_k».proof.Proof.Blocks
public import proofs.«01_k».proof.Proof.MixOutPay
public import proofs.«01_k».proof.Proof.MixOutRef
public import proofs.«01_k».proof.Proof.Gen.MixOutFwd.Frame
public import proofs.«01_k».proof.Proof.Gen.MixOutFwdIdeal.Value
public import proofs.«01_k».proof.Proof.Gen.MixOutFwdRefIdeal.Run
public import Idealize.ShloMosaic.Lib.StableHlo.ReadAt

@[expose] public section

set_option maxRecDepth 16384

noncomputable section

open Idealize.ShloMosaic Idealize.SL.Sem Cert.Half Idealize.ShloMosaic.TcCoe
open Cert.MixOutFwdIdeal Cert.MixOutFwdIdeal.Gen

namespace Cert.MixOutForward

/-! ## The blocks a grid point reads -/

variable {m : (ℓ : Loc nD τ sig) → Buf (Elt Ideal) ℓ} {c : Dev nD}

variable (m c) in
/-- The numbers in the arguments of device `c`. -/
abbrev args : Mixed := numbers (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10))

theorem pg_eq (k : Fin 1024) : (V m c main_v0 : FVec Ideal S1x1024 .f32) (ix2 0 k) = (args m c).pg k := by
  unfold V
  after_reads_at
  rfl
theorem lg_eq (k : Fin 1024) : (V m c main_v1 : FVec Ideal S1x1024 .f32) (ix2 0 k) = (args m c).lg k := by
  unfold V
  after_reads_at
  rfl
theorem lb_eq (k : Fin 1024) : (V m c main_v2 : FVec Ideal S1x1024 .f32) (ix2 0 k) = (args m c).lb k := by
  unfold V
  after_reads_at
  rfl
theorem b_eq (g : Fin 8) (t l : Fin 128) : (V m c main_v4 : FVec Ideal S8x128x128 .f32) (ix3 g t l) = (args m c).b g t := by
  unfold V
  after_reads_at
  rfl
theorem wa_eq (j k : Fin 1024) : (V m c main_v5 : FVec Ideal S1024x1024 .bf16) (ix2 j k) = (args m c).wa j k := by
  unfold V
  after_reads_at
  rfl
theorem ws_eq (j k : Fin 1024) : (V m c main_v6 : FVec Ideal S1024x1024 .bf16) (ix2 j k) = (args m c).ws j k := by
  unfold V
  after_reads_at
  rfl
theorem wo_eq (j k : Fin 1024) : (V m c main_v7 : FVec Ideal S1024x1024 .bf16) (ix2 j k) = (args m c).wo j k := by
  unfold V
  after_reads_at
  rfl

/-- The token of row `p` of point `t`. -/
def tok (t : Fin cfg0.N) (p : Fin 512) : Fin 16384 := ⟨512 * t.val + p.val, by have := t.isLt; have e : cfg0.N = 32 := rfl; omega⟩

theorem idx : ∀ t : Fin cfg0.N, win0_0.index t = ![t.val, 0] ∧ win0_1.index t = ![t.val, 1] ∧ win0_2.index t = ![t.val, 2]
    ∧ win0_3.index t = ![t.val, 3] ∧ win0_4.index t = ![t.val, 4] ∧ win0_5.index t = ![t.val, 0] :=
  (by decide +kernel : ∀ t : Fin grid0.N, _)
theorem idx_whole : ∀ t : Fin cfg0.N, win0_6.index t = ![0, 0] ∧ win0_7.index t = ![0, 0] ∧ win0_8.index t = ![0, 0]
    ∧ win0_9.index t = ![0, 0, 0] ∧ win0_10.index t = ![0, 0, 0] ∧ win0_11.index t = ![0, 0] ∧ win0_12.index t = ![0, 0]
    ∧ win0_13.index t = ![0, 0] :=
  (by decide +kernel : ∀ t : Fin grid0.N, _)
theorem idx_out : ∀ t : Fin cfg0.N, win0_14.index t = ![t.val, 0] ∧ win0_15.index t = ![t.val, 0] ∧ win0_16.index t = ![t.val, 0]
    ∧ win0_17.index t = ![t.val, 0] ∧ win0_18.index t = ![t.val, 0] :=
  (by decide +kernel : ∀ t : Fin grid0.N, _)

theorem blk0 (t : Fin cfg0.N) (p : Fin 512) (k : Fin 1024) : (iblk m c 0 t : FVec Ideal S512x1024 .f32) (ix2 p k) = (args m c).x (tok t p) k := by
  blk_simp [iblk]
  rw [V_main_arg0]
  show _ = m ((c : Thread nD τ).loc main_arg0) _
  congr 1
  blk_ext [(idx t).1, tok]

theorem blk1 (t : Fin cfg0.N) (p : Fin 512) (k : Fin 1024) :
    (X0_1 m c t : FVec Ideal S512x1024 .bf16) (ix2 p k) = (args m c).run 1024 (by omega) (tok t p) k := by
  unfold X0_1 Pipeline.Window.fill
  rw [dif_pos (moved0_1 t _)]
  blk_simp [iblk]
  rw [V_main_arg1]
  show _ = m ((c : Thread nD τ).loc main_arg1) _
  congr 1
  blk_ext [(idx t).2.1, tok]
theorem blk2 (t : Fin cfg0.N) (p : Fin 512) (k : Fin 1024) :
    (X0_2 m c t : FVec Ideal S512x1024 .bf16) (ix2 p k) = (args m c).run 2048 (by omega) (tok t p) k := by
  unfold X0_2 Pipeline.Window.fill
  rw [dif_pos (moved0_2 t _)]
  blk_simp [iblk]
  rw [V_main_arg1]
  show _ = m ((c : Thread nD τ).loc main_arg1) _
  congr 1
  blk_ext [(idx t).2.2.1, tok]
theorem blk3 (t : Fin cfg0.N) (p : Fin 512) (k : Fin 1024) :
    (X0_3 m c t : FVec Ideal S512x1024 .bf16) (ix2 p k) = (args m c).run 3072 (by omega) (tok t p) k := by
  unfold X0_3 Pipeline.Window.fill
  rw [dif_pos (moved0_3 t _)]
  blk_simp [iblk]
  rw [V_main_arg1]
  show _ = m ((c : Thread nD τ).loc main_arg1) _
  congr 1
  blk_ext [(idx t).2.2.2.1, tok]
theorem blk4 (t : Fin cfg0.N) (p : Fin 512) (k : Fin 1024) :
    (X0_4 m c t : FVec Ideal S512x1024 .bf16) (ix2 p k) = (args m c).run 4096 (by omega) (tok t p) k := by
  unfold X0_4 Pipeline.Window.fill
  rw [dif_pos (moved0_4 t _)]
  blk_simp [iblk]
  rw [V_main_arg1]
  show _ = m ((c : Thread nD τ).loc main_arg1) _
  congr 1
  blk_ext [(idx t).2.2.2.2.1, tok]

theorem blk5 (t : Fin cfg0.N) (p : Fin 512) (k : Fin 1024) : (iblk m c 5 t : FVec Ideal S512x1024 .bf16) (ix2 p k) = (args m c).ya (tok t p) k := by
  blk_simp [iblk]
  rw [V_main_arg2]
  show _ = m ((c : Thread nD τ).loc main_arg2) _
  congr 1
  blk_ext [(idx t).2.2.2.2.2, tok]

theorem blk6 (t : Fin cfg0.N) (k : Fin 1024) : (iblk m c 6 t : FVec Ideal S1x1024 .f32) (ix2 0 k) = (args m c).pg k := by
  refine Eq.trans ?_ (pg_eq k)
  blk_simp [iblk]
  congr 1
  blk_ext [(idx_whole t).1]
theorem blk7 (t : Fin cfg0.N) (k : Fin 1024) : (iblk m c 7 t : FVec Ideal S1x1024 .f32) (ix2 0 k) = (args m c).lg k := by
  refine Eq.trans ?_ (lg_eq k)
  blk_simp [iblk]
  congr 1
  blk_ext [(idx_whole t).2.1]
theorem blk8 (t : Fin cfg0.N) (k : Fin 1024) : (iblk m c 8 t : FVec Ideal S1x1024 .f32) (ix2 0 k) = (args m c).lb k := by
  refine Eq.trans ?_ (lb_eq k)
  blk_simp [iblk]
  congr 1
  blk_ext [(idx_whole t).2.2.1]
theorem blk9 (t : Fin cfg0.N) (g : Fin 8) (i s : Fin 128) : (iblk m c 9 t : FVec Ideal S8x128x128 .f32) (ix3 g i s) = (args m c).w g i s := by
  blk_simp [iblk]
  rw [V_main_arg6]
  show _ = m ((c : Thread nD τ).loc main_arg6) _
  congr 1
  blk_ext [(idx_whole t).2.2.2.1]
theorem blk10 (t : Fin cfg0.N) (g : Fin 8) (i s : Fin 128) : (iblk m c 10 t : FVec Ideal S8x128x128 .f32) (ix3 g i s) = (args m c).b g i := by
  refine Eq.trans ?_ (b_eq g i s)
  blk_simp [iblk]
  congr 1
  blk_ext [(idx_whole t).2.2.2.2.1]
theorem blk11 (t : Fin cfg0.N) (j k : Fin 1024) : (iblk m c 11 t : FVec Ideal S1024x1024 .bf16) (ix2 j k) = (args m c).wa j k := by
  refine Eq.trans ?_ (wa_eq j k)
  blk_simp [iblk]
  congr 1
  blk_ext [(idx_whole t).2.2.2.2.2.1]
theorem blk12 (t : Fin cfg0.N) (j k : Fin 1024) : (iblk m c 12 t : FVec Ideal S1024x1024 .bf16) (ix2 j k) = (args m c).ws j k := by
  refine Eq.trans ?_ (ws_eq j k)
  blk_simp [iblk]
  congr 1
  blk_ext [(idx_whole t).2.2.2.2.2.2.1]
theorem blk13 (t : Fin cfg0.N) (j k : Fin 1024) : (iblk m c 13 t : FVec Ideal S1024x1024 .bf16) (ix2 j k) = (args m c).wo j k := by
  refine Eq.trans ?_ (wo_eq j k)
  blk_simp [iblk]
  congr 1
  blk_ext [(idx_whole t).2.2.2.2.2.2.2]

/-! ## What a grid point stores -/

/-- A group's matrix, as a load reads it. -/
def load (x : FVec Ideal S8x128x128 .f32) (g : Fin 8) : FVec Ideal S1x128x128 .f32 :=
  View.ld (Val := Elt Ideal) (e' := .f32) x (Rect.unit (s := S8x128x128) ![g.val, 0, 0] ![1, 128, 128]
    (by intro d; have := g.isLt; fin_cases d <;> simp <;> omega))
theorem load_at (x : FVec Ideal S8x128x128 .f32) (g : Fin 8) (i s : Fin 128) : load x g (ix3 0 i s) = x (ix3 g i s) := by
  refine View.ld_unit_apply_of (Val := Elt Ideal) (e := .f32) x _ _ _ (ix3 0 i s) _ fun d => ?_
  fin_cases d <;> simp

variable (m c) in
/-- The gate of point `t`, -/
def gateB (t : Fin cfg0.N) : FVec Ideal S512x1024 .f32 :=
  gateK (k0_pay4 (F := Ideal) (X0_2 m c t) (iblk m c 7 t) (iblk m c 8 t)) (load (iblk m c 9 t)) (load (iblk m c 10 t))
variable (m c) in
/-- its gated rows, -/
def ysgB (t : Fin cfg0.N) : FVec Ideal S512x1024 .bf16 :=
  k0_pay21 (F := Ideal) (gateB m c t) (k0_pay20 (X0_1 m c t)) (Scalar.ofBits .f32 0x3F3504F3#32)
variable (m c) in
/-- its second product -/
def pbB (t : Fin cfg0.N) : FVec Ideal S512x1024 .f32 :=
  k0_pay23 (F := Ideal) (gateB m c t) (k0_pay20 (X0_1 m c t)) (Scalar.ofBits .f32 0x3F3504F3#32) (iblk m c 12 t)
variable (m c) in
/-- and its last one. -/
def oB (t : Fin cfg0.N) : FVec Ideal S512x1024 .f32 :=
  k0_pay1 (F := Ideal) (pbB m c t) (k0_pay26 (iblk m c 5 t) (iblk m c 11 t) (X0_3 m c t)) (k0_pay27 (X0_4 m c t)) (iblk m c 13 t)

section Point
variable (t : Fin cfg0.N) (p : Fin 512) (k : Fin 1024)

theorem gateB_at : gateB m c t (ix2 p k) = (args m c).gate (tok t p) k := by
  have e1 : (tok t p).val % 128 = p.val % 128 := by show (512 * t.val + p.val) % 128 = _; omega
  have e2 : ∀ s : Fin 128, tok t ⟨128 * (p.val / 128) + s.val, by omega⟩ = ⟨128 * ((tok t p).val / 128) + s.val, by omega⟩ := by
    intro s
    refine Fin.ext ?_
    show 512 * t.val + (128 * (p.val / 128) + s.val) = 128 * ((512 * t.val + p.val) / 128) + s.val
    omega
  unfold gateB Mixed.gate Mixed.vn
  rw [gate_at]
  simp only [load_at, pay4, blk2, blk7, blk8, blk9, blk10, e1, e2]

theorem ysgB_at : ysgB m c t (ix2 p k) = (args m c).ysg (tok t p) k := by
  unfold ysgB Mixed.ysg
  rw [pay21, gateB_at, blk1]

theorem pa_at : k0_pay22 (F := Ideal) (iblk m c 5 t) (iblk m c 11 t) (ix2 p k) = (args m c).pa (tok t p) k := by
  unfold Mixed.pa
  rw [pay22]
  exact Finset.sum_congr rfl fun j _ => congrArg₂ (· * ·) (blk5 t p j) (blk11 t j k)

theorem pbB_at : pbB m c t (ix2 p k) = (args m c).pb (tok t p) k := by
  unfold pbB Mixed.pb
  rw [pay23]
  exact Finset.sum_congr rfl fun j _ => congrArg₂ (· * ·) (ysgB_at t p j) (blk12 t j k)

theorem oB_at : oB m c t (ix2 p k) = (args m c).o (tok t p) k := by
  unfold oB Mixed.o
  rw [pay1]
  refine Finset.sum_congr rfl fun j _ => congrArg₂ (· * ·) (congrArg₂ (· + ·) ?_ ?_) (blk13 t j k)
  · exact (pay26 _ _ _ p j).trans (congrArg₂ (· * ·) (congrArg sgE (blk3 t p j)) (pa_at t p j))
  · exact congrArg₂ (· * ·) (congrArg sgE (blk4 t p j)) (pbB_at t p j)

theorem out14 : (outsAt0 m c t).1 (ix2 p k) = (args m c).xo (tok t p) k := by
  unfold outsAt0; frame_out
  refine (pay3 _ _ p k _ _ _ _).trans (congrArg₂ (· + ·) (blk0 t p k) ?_)
  refine congrFun (congrArg₂ hE (funext fun k => oB_at t p k) (funext fun k => blk6 t k)) k
theorem out15 : (outsAt0 m c t).2.1 (ix2 p k) = (args m c).ysg (tok t p) k := by
  unfold outsAt0; frame_out
  exact ysgB_at t p k
theorem out16 : (outsAt0 m c t).2.2.1 (ix2 p k) = (args m c).pa (tok t p) k := by
  unfold outsAt0; frame_out
  exact pa_at t p k
theorem out17 : (outsAt0 m c t).2.2.2.1 (ix2 p k) = (args m c).pb (tok t p) k := by
  unfold outsAt0; frame_out
  exact pbB_at t p k
theorem out18 : (outsAt0 m c t).2.2.2.2 (ix2 p k) = (args m c).o (tok t p) k := by
  unfold outsAt0; frame_out
  exact oB_at t p k
end Point

/-! ## The results the kernel leaves -/

/-- A tile whose entries are `f` at point `t`'s rows, read at an index `i` of the whole array. -/
theorem in_tile {x : S512x1024.Idx → EReal} {f : Fin 16384 → Fin 1024 → EReal} {t : Fin cfg0.N}
    (h : ∀ p k, x (ix2 p k) = f (tok t p) k) (y : S512x1024.Idx) {i : S16384x1024.Idx} (hi : ix2 (tok t (y 0)) (y 1) = i) :
    x y = arrE f i := by
  subst hi
  exact (congrArg x (show y = ix2 (y 0) (y 1) by funext d; fin_cases d <;> rfl)).trans (h (y 0) (y 1))

theorem value14 : (dats m 0 c).arrAt 14 cfg0.N = arrE (args m c).xo := by
  refine (dats m 0 c).arrAt_eq_of_covers 14 _ (by decide +kernel) fun t hf y => ?_
  blk_simp
  rw [after0_14]
  refine in_tile (out14 t) y ?_
  blk_ext [(idx_out t).1, tok]
theorem value15 : (dats m 0 c).arrAt 15 cfg0.N = arrE (args m c).ysg := by
  refine (dats m 0 c).arrAt_eq_of_covers 15 _ (by decide +kernel) fun t hf y => ?_
  blk_simp
  rw [after0_15]
  refine in_tile (out15 t) y ?_
  blk_ext [(idx_out t).2.1, tok]
theorem value16 : (dats m 0 c).arrAt 16 cfg0.N = arrE (args m c).pa := by
  refine (dats m 0 c).arrAt_eq_of_covers 16 _ (by decide +kernel) fun t hf y => ?_
  blk_simp
  rw [after0_16]
  refine in_tile (out16 t) y ?_
  blk_ext [(idx_out t).2.2.1, tok]
theorem value17 : (dats m 0 c).arrAt 17 cfg0.N = arrE (args m c).pb := by
  refine (dats m 0 c).arrAt_eq_of_covers 17 _ (by decide +kernel) fun t hf y => ?_
  blk_simp
  rw [after0_17]
  refine in_tile (out17 t) y ?_
  blk_ext [(idx_out t).2.2.2.1, tok]
theorem value18 : (dats m 0 c).arrAt 18 cfg0.N = arrE (args m c).o := by
  refine (dats m 0 c).arrAt_eq_of_covers 18 _ (by decide +kernel) fun t hf y => ?_
  blk_simp
  rw [after0_18]
  refine in_tile (out18 t) y ?_
  blk_ext [(idx_out t).2.2.2.2, tok]

/-! ## The claims -/

theorem frame : Cert.quiescent_MixOutFwd := fun m g _ => Cert.MixOutFwd.Gen.frame m g
theorem frame_ideal : Cert.quiescent_MixOutFwdIdeal := fun m g _ => Cert.MixOutFwdIdeal.Gen.frame m g

/-- The reference runs, keeps its arguments and leaves every counter at zero. -/
theorem frame_reference : Cert.quiescent_MixOutFwdRefIdeal := fun m g _ =>
  (θ_run Cert.MixOutFwdRefIdeal.defs _ _).mono
    (fun r h => ⟨fun c => (h c).2.2.2.2.2, sem_eq_zero_of_no_sems (by decide) r.2⟩) (Cert.MixOutFwdRefIdeal.Value.run (F := Ideal) m g)

theorem preserves : Cert.preserves_MixOutFwd_MixOutFwdIdeal := trivial

/-- The numbers in the reference's arguments. -/
def argsRef (m' : (ℓ : Loc Cert.MixOutFwdRefIdeal.nD Cert.MixOutFwdRefIdeal.τ Cert.MixOutFwdRefIdeal.sig) → Buf (Elt Ideal) ℓ) (c : Dev Cert.MixOutFwdRefIdeal.nD) : Mixed := numbers
  (m' ((c.tc : Thread Cert.MixOutFwdRefIdeal.nD Cert.MixOutFwdRefIdeal.τ).loc Cert.MixOutFwdRefIdeal.main_arg0))
  (m' ((c.tc : Thread Cert.MixOutFwdRefIdeal.nD Cert.MixOutFwdRefIdeal.τ).loc Cert.MixOutFwdRefIdeal.main_arg1))
  (m' ((c.tc : Thread Cert.MixOutFwdRefIdeal.nD Cert.MixOutFwdRefIdeal.τ).loc Cert.MixOutFwdRefIdeal.main_arg2))
  (m' ((c.tc : Thread Cert.MixOutFwdRefIdeal.nD Cert.MixOutFwdRefIdeal.τ).loc Cert.MixOutFwdRefIdeal.main_arg3))
  (m' ((c.tc : Thread Cert.MixOutFwdRefIdeal.nD Cert.MixOutFwdRefIdeal.τ).loc Cert.MixOutFwdRefIdeal.main_arg4))
  (m' ((c.tc : Thread Cert.MixOutFwdRefIdeal.nD Cert.MixOutFwdRefIdeal.τ).loc Cert.MixOutFwdRefIdeal.main_arg5))
  (m' ((c.tc : Thread Cert.MixOutFwdRefIdeal.nD Cert.MixOutFwdRefIdeal.τ).loc Cert.MixOutFwdRefIdeal.main_arg6))
  (m' ((c.tc : Thread Cert.MixOutFwdRefIdeal.nD Cert.MixOutFwdRefIdeal.τ).loc Cert.MixOutFwdRefIdeal.main_arg7))
  (m' ((c.tc : Thread Cert.MixOutFwdRefIdeal.nD Cert.MixOutFwdRefIdeal.τ).loc Cert.MixOutFwdRefIdeal.main_arg8))
  (m' ((c.tc : Thread Cert.MixOutFwdRefIdeal.nD Cert.MixOutFwdRefIdeal.τ).loc Cert.MixOutFwdRefIdeal.main_arg9))
  (m' ((c.tc : Thread Cert.MixOutFwdRefIdeal.nD Cert.MixOutFwdRefIdeal.τ).loc Cert.MixOutFwdRefIdeal.main_arg10))

/-- Both programs leave the same five results. -/
theorem algebraic : Cert.algebraic_MixOutFwdIdeal_MixOutFwdRefIdeal := by
  intro m g m' g' _ hagree
  refine ⟨fun c => arrE (args m c).xo, fun c => arrE (args m c).ysg, fun c => arrE (args m c).pa, fun c => arrE (args m c).pb,
    fun c => arrE (args m c).o, ?_, ?_⟩
  · refine (θ_run Cert.MixOutFwdIdeal.defs _ _).mono (fun r h c => ?_) (Cert.MixOutFwdIdeal.Value.run_blocks (F := Ideal) m g)
    obtain ⟨h0, h1, h2, h3, h4, hk⟩ := h c
    exact ⟨h0.trans value14, h1.trans value15, h2.trans value16, h3.trans value17, h4.trans value18, hk⟩
  · refine (θ_run Cert.MixOutFwdRefIdeal.defs _ _).mono (fun r h c => ?_) (Cert.MixOutFwdRefIdeal.Value.run (F := Ideal) m' g')
    obtain ⟨h0, h1, h2, h3, h4, hk⟩ := h c
    obtain ⟨a0, a1, a2, a3, a4, a5, a6, a7, a8, a9, a10⟩ := hagree c
    have e : argsRef m' c = args m c := by
      unfold argsRef args
      rw [a0, a1, a2, a3, a4, a5, a6, a7, a8, a9, a10]
    exact ⟨h0.trans ((Cert.MixOutFwdRefIdeal.Read.val_main_v87_eq m' c).trans ((eq_arrE (ref_xo _ _ _ _ _ _ _ _ _ _ _)).trans (congrArg (fun M : Mixed => arrE M.xo) e))),
      h1.trans ((Cert.MixOutFwdRefIdeal.Read.val_main_v88_eq m' c).trans ((eq_arrE (ref_ysg _ _ _ _ _ _ _ _ _ _ _)).trans (congrArg (fun M : Mixed => arrE M.ysg) e))),
      h2.trans ((Cert.MixOutFwdRefIdeal.Read.val_main_v89_eq _ _).trans ((eq_arrE (ref_pa _ _ _ _ _ _ _ _ _ _ _)).trans (congrArg (fun M : Mixed => arrE M.pa) e))),
      h3.trans ((Cert.MixOutFwdRefIdeal.Read.val_main_v90_eq m' c).trans ((eq_arrE (ref_pb _ _ _ _ _ _ _ _ _ _ _)).trans (congrArg (fun M : Mixed => arrE M.pb) e))),
      h4.trans ((Cert.MixOutFwdRefIdeal.Read.val_main_v91_eq m' c).trans ((eq_arrE (ref_o _ _ _ _ _ _ _ _ _ _ _)).trans (congrArg (fun M : Mixed => arrE M.o) e))),
      hk⟩

end Cert.MixOutForward

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read

public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.MixInRefIdeal.Read
public import proofs.«01_k».proof.Proof.Gen.GradW1
public import proofs.«01_k».proof.Proof.Gen.GradW1.Skeleton
public import proofs.«01_k».proof.Proof.Gen.GradW1.Launch
public import proofs.«01_k».proof.Proof.Gen.GradW1.Points
public import proofs.«01_k».proof.Proof.Gen.GradW1.Frame
public import proofs.«01_k».proof.Proof.Gen.GradW1Ideal
public import proofs.«01_k».proof.Proof.Gen.GradW1Ideal.Skeleton
public import proofs.«01_k».proof.Proof.Gen.GradW1Ideal.Launch
public import proofs.«01_k».proof.Proof.Gen.GradW1Ideal.Points
public import proofs.«01_k».proof.Proof.Gen.GradW1Ideal.Frame
public import proofs.«01_k».proof.Proof.Gen.GradW1Ideal.Value
public import proofs.«01_k».proof.Proof.Gen.GradW1RefIdeal
public import proofs.«01_k».proof.Proof.Gen.GradW1RefIdeal.Run
public import proofs.«01_k».proof.Proof.Gen.GradW1RefIdeal.Read
public import proofs.«01_k».proof.Proof.Gen.GradW2
public import proofs.«01_k».proof.Proof.Gen.GradW2.Skeleton
public import proofs.«01_k».proof.Proof.Gen.GradW2.Launch
public import proofs.«01_k».proof.Proof.Gen.GradW2.Points
public import proofs.«01_k».proof.Proof.Gen.GradW2.Frame
public import proofs.«01_k».proof.Proof.Gen.GradW2Ideal
public import proofs.«01_k».proof.Proof.Gen.GradW2Ideal.Skeleton
public import proofs.«01_k».proof.Proof.Gen.GradW2Ideal.Launch
public import proofs.«01_k».proof.Proof.Gen.GradW2Ideal.Points
public import proofs.«01_k».proof.Proof.Gen.GradW2Ideal.Frame
public import proofs.«01_k».proof.Proof.Gen.GradW2Ideal.Value
public import proofs.«01_k».proof.Proof.Gen.GradW2RefIdeal
public import proofs.«01_k».proof.Proof.Gen.GradW2RefIdeal.Run
public import proofs.«01_k».proof.Proof.Gen.GradW2RefIdeal.Read
public import proofs.«01_k».proof.Proof.Gen.GradWIn
public import proofs.«01_k».proof.Proof.Gen.GradWIn.Skeleton
public import proofs.«01_k».proof.Proof.Gen.GradWIn.Launch
public import proofs.«01_k».proof.Proof.Gen.GradWIn.Points
public import proofs.«01_k».proof.Proof.Gen.GradWIn.Frame
public import proofs.«01_k».proof.Proof.Gen.GradWInIdeal
public import proofs.«01_k».proof.Proof.Gen.GradWInIdeal.Skeleton
public import proofs.«01_k».proof.Proof.Gen.GradWInIdeal.Launch
public import proofs.«01_k».proof.Proof.Gen.GradWInIdeal.Points
public import proofs.«01_k».proof.Proof.Gen.GradWInIdeal.Frame
public import proofs.«01_k».proof.Proof.Gen.GradWInIdeal.Value
public import proofs.«01_k».proof.Proof.Gen.GradWInRefIdeal
public import proofs.«01_k».proof.Proof.Gen.GradWInRefIdeal.Run
public import proofs.«01_k».proof.Proof.Gen.GradWInRefIdeal.Read
public import proofs.«01_k».proof.Proof.Gen.GradSquare
public import proofs.«01_k».proof.Proof.Gen.GradSquare.Skeleton
public import proofs.«01_k».proof.Proof.Gen.GradSquare.Launch
public import proofs.«01_k».proof.Proof.Gen.GradSquare.Points
public import proofs.«01_k».proof.Proof.Gen.GradSquare.Frame
public import proofs.«01_k».proof.Proof.Gen.GradSquareIdeal
public import proofs.«01_k».proof.Proof.Gen.GradSquareIdeal.Skeleton
public import proofs.«01_k».proof.Proof.Gen.GradSquareIdeal.Launch
public import proofs.«01_k».proof.Proof.Gen.GradSquareIdeal.Points
public import proofs.«01_k».proof.Proof.Gen.GradSquareIdeal.Frame
public import proofs.«01_k».proof.Proof.Gen.GradSquareIdeal.Value
public import proofs.«01_k».proof.Proof.Gen.GradSquareRefIdeal
public import proofs.«01_k».proof.Proof.Gen.GradSquareRefIdeal.Run
public import proofs.«01_k».proof.Proof.Gen.GradSquareRefIdeal.Read
public import proofs.«01_k».proof.Proof.Gen.Pre_finite_mix_in
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.FfnLoss
public import proofs.«01_k».proof.Proof.Gen.FfnLoss.Skeleton
public import proofs.«01_k».proof.Proof.Gen.FfnLoss.Launch
public import proofs.«01_k».proof.Proof.Gen.FfnLoss.Points
public import proofs.«01_k».proof.Proof.Gen.FfnLoss.Frame
public import proofs.«01_k».proof.Proof.Gen.FfnLossIdeal
public import proofs.«01_k».proof.Proof.Gen.FfnLossIdeal.Skeleton
public import proofs.«01_k».proof.Proof.Gen.FfnLossIdeal.Launch
public import proofs.«01_k».proof.Proof.Gen.FfnLossIdeal.Points
public import proofs.«01_k».proof.Proof.Gen.FfnLossIdeal.Frame
public import proofs.«01_k».proof.Proof.Gen.FfnLossIdeal.Value
public import proofs.«01_k».proof.Proof.Gen.FfnLossRefIdeal
public import proofs.«01_k».proof.Proof.Gen.FfnLossRefIdeal.Run
public import proofs.«01_k».proof.Proof.Gen.FfnLossRefIdeal.Read
public import proofs.«01_k».proof.Proof.Gen.MixInFwd
public import proofs.«01_k».proof.Proof.Gen.MixInFwd.Skeleton
public import proofs.«01_k».proof.Proof.Gen.MixInFwd.Launch
public import proofs.«01_k».proof.Proof.Gen.MixInFwd.Points
public import proofs.«01_k».proof.Proof.Gen.MixInFwd.Frame
public import proofs.«01_k».proof.Proof.Gen.MixInFwdIdeal
public import proofs.«01_k».proof.Proof.Gen.MixInFwdIdeal.Skeleton
public import proofs.«01_k».proof.Proof.Gen.MixInFwdIdeal.Launch
public import proofs.«01_k».proof.Proof.Gen.MixInFwdIdeal.Points
public import proofs.«01_k».proof.Proof.Gen.MixInFwdIdeal.Frame
public import proofs.«01_k».proof.Proof.Gen.MixInFwdIdeal.Value
public import proofs.«01_k».proof.Proof.Gen.MixInFwdRefIdeal
public import proofs.«01_k».proof.Proof.Gen.MixInFwdRefIdeal.Run
public import proofs.«01_k».proof.Proof.Gen.MixInFwdRefIdeal.Read
public import proofs.«01_k».proof.Proof.Gen.MixOutFwd
public import proofs.«01_k».proof.Proof.Gen.MixOutFwd.Skeleton
public import proofs.«01_k».proof.Proof.Gen.MixOutFwd.Launch
public import proofs.«01_k».proof.Proof.Gen.MixOutFwd.Points
public import proofs.«01_k».proof.Proof.Gen.MixOutFwd.Frame
public import proofs.«01_k».proof.Proof.Gen.MixOutFwdIdeal
public import proofs.«01_k».proof.Proof.Gen.MixOutFwdIdeal.Skeleton
public import proofs.«01_k».proof.Proof.Gen.MixOutFwdIdeal.Launch
public import proofs.«01_k».proof.Proof.Gen.MixOutFwdIdeal.Points
public import proofs.«01_k».proof.Proof.Gen.MixOutFwdIdeal.Frame
public import proofs.«01_k».proof.Proof.Gen.MixOutFwdIdeal.Value
public import proofs.«01_k».proof.Proof.Gen.MixOutFwdRefIdeal
public import proofs.«01_k».proof.Proof.Gen.MixOutFwdRefIdeal.Run
public import proofs.«01_k».proof.Proof.Gen.MixOutFwdRefIdeal.Read
public import proofs.«01_k».proof.Proof.Gen.Pre_finite_ffn_fwd
public import proofs.«01_k».proof.Proof.Gen.Pre_finite_ffn_loss
public import proofs.«01_k».proof.Proof.FfnBwd
public import proofs.«01_k».proof.Proof.MixIn
public import proofs.«01_k».proof.Proof.GradW1
public import proofs.«01_k».proof.Proof.GradW2
public import proofs.«01_k».proof.Proof.GradWIn
public import proofs.«01_k».proof.Proof.GradSquare
public import proofs.«01_k».proof.Proof.FfnForward
public import proofs.«01_k».proof.Proof.FfnLossForward
public import proofs.«01_k».proof.Proof.MixInForward
public import proofs.«01_k».proof.Proof.MixOutForward
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.MixIn.Gen.facts,
  Cert.MixInIdeal.Gen.facts, Cert.MixInRefIdeal.Gen.facts, Cert.GradW1.Gen.facts, Cert.GradW1Ideal.Gen.facts,
  Cert.GradW1RefIdeal.Gen.facts, Cert.GradW2.Gen.facts, Cert.GradW2Ideal.Gen.facts, Cert.GradW2RefIdeal.Gen.facts,
  Cert.GradWIn.Gen.facts, Cert.GradWInIdeal.Gen.facts, Cert.GradWInRefIdeal.Gen.facts, Cert.GradSquare.Gen.facts,
  Cert.GradSquareIdeal.Gen.facts, Cert.GradSquareRefIdeal.Gen.facts, Cert.FfnFwd.Gen.facts, Cert.FfnFwdIdeal.Gen.facts,
  Cert.FfnFwdRefIdeal.Gen.facts, Cert.FfnLoss.Gen.facts, Cert.FfnLossIdeal.Gen.facts, Cert.FfnLossRefIdeal.Gen.facts,
  Cert.MixInFwd.Gen.facts, Cert.MixInFwdIdeal.Gen.facts, Cert.MixInFwdRefIdeal.Gen.facts, Cert.MixOutFwd.Gen.facts,
  Cert.MixOutFwdIdeal.Gen.facts, Cert.MixOutFwdRefIdeal.Gen.facts, Cert.Pre_finite.Gen.facts,
  Cert.Pre_finite_mix_in.Gen.facts, Cert.Pre_finite_ffn_fwd.Gen.facts, Cert.Pre_finite_ffn_loss.Gen.facts,
  FfnBwd.frame, FfnBwd.frame_ideal, FfnBwd.frame_ideal_finite, FfnBwd.frame_reference, FfnBwd.frame_reference_finite,
  MixInBwd.frame, MixInBwd.frame_ideal, MixInBwd.frame_ideal_finite, MixInBwd.frame_reference, MixInBwd.frame_reference_finite,
  GradW1Proof.frame, GradW1Proof.frame_ideal, GradW1Proof.frame_reference,
  GradW2Proof.frame, GradW2Proof.frame_ideal, GradW2Proof.frame_reference,
  GradWInProof.frame, GradWInProof.frame_ideal, GradWInProof.frame_reference,
  GradSquareProof.frame, GradSquareProof.frame_ideal, GradSquareProof.frame_reference,
  FfnForward.frame, FfnForward.frame_ideal, FfnForward.frame_ideal_finite, FfnForward.frame_reference, FfnForward.frame_reference_finite,
  FfnLossForward.frame, FfnLossForward.frame_ideal, FfnLossForward.frame_ideal_finite, FfnLossForward.frame_reference,
  FfnLossForward.frame_reference_finite, MixInForward.frame, MixInForward.frame_ideal, MixInForward.frame_reference,
  MixOutForward.frame, MixOutForward.frame_ideal, MixOutForward.frame_reference,
  FfnBwd.preserves, FfnBwd.algebraic,
  MixInBwd.preserves, MixInBwd.algebraic,
  GradW1Proof.preserves, GradW1Proof.algebraic,
  GradW2Proof.preserves, GradW2Proof.algebraic,
  GradWInProof.preserves, GradWInProof.algebraic,
  GradSquareProof.preserves, GradSquareProof.algebraic,
  FfnForward.preserves, FfnForward.algebraic,
  FfnLossForward.preserves, FfnLossForward.algebraic,
  MixInForward.preserves, MixInForward.algebraic,
  MixOutForward.preserves, MixOutForward.algebraic⟩

end Cert.Proof

end
